-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x8192x8x96 : Shape := ⟨4, ![8, 8192, 8, 96]⟩
abbrev S8x8192x8x64 : Shape := ⟨4, ![8, 8192, 8, 64]⟩
abbrev S8x256x8x96 : Shape := ⟨4, ![8, 256, 8, 96]⟩
abbrev S8x256x8x64 : Shape := ⟨4, ![8, 256, 8, 64]⟩
abbrev S8x16640x8x96 : Shape := ⟨4, ![8, 16640, 8, 96]⟩
abbrev S_ : Shape := ⟨0, ![]⟩

class Facts : Prop where
  concatenates_S8x8192x8x96_S8x8192x8x96_S8x256x8x96_S8x16640x8x96_d1 : Shape.Concatenates [S8x8192x8x96, S8x8192x8x96, S8x256x8x96] S8x16640x8x96 1
  bcast_S_S8x16640x8x96 : S_.BroadcastsInDim S8x16640x8x96 (![] : Fin 0 → Fin S8x16640x8x96.rank)

variable [Facts]

def fn {F : FTy → Type} [FloatOps F] (main_arg0 : FVec F S8x8192x8x96 .f32) (main_arg1 : FVec F S8x8192x8x96 .f32) (main_arg2 : FVec F S8x8192x8x64 .f32) (main_arg3 : FVec F S8x256x8x96 .f32) (main_arg4 : FVec F S8x256x8x64 .f32) : IVec S8x16640x8x96 1 :=
  let main_v0 : FVec F S8x16640x8x96 .f32 := concatenate S8x16640x8x96 1 [⟨S8x8192x8x96, main_arg0⟩, ⟨S8x8192x8x96, main_arg1⟩, ⟨S8x256x8x96, main_arg3⟩] concatenates_S8x8192x8x96_S8x8192x8x96_S8x256x8x96_S8x16640x8x96_d1
  let main_cst : FVec F S_ .f32 := constant S_ .f32 0xFF800000#32
  let main_v1 : FVec F S8x16640x8x96 .f32 := broadcastInDim S8x16640x8x96 ![] bcast_S_S8x16640x8x96 main_cst
  let main_v2 : IVec S8x16640x8x96 1 := cmpf .ogt main_v0 main_v1
  let main_cst_0 : FVec F S_ .f32 := constant S_ .f32 0x7F800000#32
  let main_v3 : FVec F S8x16640x8x96 .f32 := broadcastInDim S8x16640x8x96 ![] bcast_S_S8x16640x8x96 main_cst_0
  let main_v4 : IVec S8x16640x8x96 1 := cmpf .olt main_v0 main_v3
  let main_v5 : IVec S8x16640x8x96 1 := andi main_v2 main_v4
  main_v5
-- ==== Kernel.lean ====
abbrev S8x8192x8x96 : Shape := ⟨4, ![8, 8192, 8, 96]⟩
abbrev S8x8192x8x64 : Shape := ⟨4, ![8, 8192, 8, 64]⟩
abbrev S8x256x8x96 : Shape := ⟨4, ![8, 256, 8, 96]⟩
abbrev S8x256x8x64 : Shape := ⟨4, ![8, 256, 8, 64]⟩
abbrev S_ : Shape := ⟨0, ![]⟩
abbrev S8x8192x8x128 : Shape := ⟨4, ![8, 8192, 8, 128]⟩
abbrev S8x32x256x1024 : Shape := ⟨4, ![8, 32, 256, 1024]⟩
abbrev S8x32x1024x256 : Shape := ⟨4, ![8, 32, 1024, 256]⟩
abbrev S8x8448x8x96 : Shape := ⟨4, ![8, 8448, 8, 96]⟩
abbrev S8x8448x8x128 : Shape := ⟨4, ![8, 8448, 8, 128]⟩
abbrev S8x8448x1024 : Shape := ⟨3, ![8, 8448, 1024]⟩
abbrev S8x8448x8x64 : Shape := ⟨4, ![8, 8448, 8, 64]⟩
abbrev S8x8448x8x1 : Shape := ⟨4, ![8, 8448, 8, 1]⟩
abbrev S8x8448x8x15 : Shape := ⟨4, ![8, 8448, 8, 15]⟩
abbrev S8x8448x8x80 : Shape := ⟨4, ![8, 8448, 8, 80]⟩
abbrev S8x33x256x640 : Shape := ⟨4, ![8, 33, 256, 640]⟩
abbrev S8x33x640x256 : Shape := ⟨4, ![8, 33, 640, 256]⟩
abbrev S8x8192x512 : Shape := ⟨3, ![8, 8192, 512]⟩
abbrev S1x16x256x256 : Shape := ⟨4, ![1, 16, 256, 256]⟩
abbrev S1x8448x256 : Shape := ⟨3, ![1, 8448, 256]⟩
abbrev S1x33x160x256 : Shape := ⟨4, ![1, 33, 160, 256]⟩
abbrev S1x4096x128 : Shape := ⟨3, ![1, 4096, 128]⟩
abbrev S2x768x1024 : Shape := ⟨3, ![2, 768, 1024]⟩
abbrev S2x2x1x1024 : Shape := ⟨4, ![2, 2, 1, 1024]⟩
abbrev S2x80x1024 : Shape := ⟨3, ![2, 80, 1024]⟩
abbrev S2x1x1024 : Shape := ⟨3, ![2, 1, 1024]⟩
abbrev S1x768x128 : Shape := ⟨3, ![1, 768, 128]⟩
abbrev S768x128 : Shape := ⟨2, ![768, 128]⟩
abbrev S1x1x128x256 : Shape := ⟨4, ![1, 1, 128, 256]⟩
abbrev S128x256 : Shape := ⟨2, ![128, 256]⟩
abbrev S128x1024 : Shape := ⟨2, ![128, 1024]⟩
abbrev S768x1024 : Shape := ⟨2, ![768, 1024]⟩
abbrev S1x768x1024 : Shape := ⟨3, ![1, 768, 1024]⟩
abbrev S1024 : Shape := ⟨1, ![1024]⟩
abbrev S1x1024 : Shape := ⟨2, ![1, 1024]⟩
abbrev S1x1x1x1024 : Shape := ⟨4, ![1, 1, 1, 1024]⟩
abbrev S1x1x1024 : Shape := ⟨3, ![1, 1, 1024]⟩
abbrev S1x1x80x256 : Shape := ⟨4, ![1, 1, 80, 256]⟩
abbrev S80x256 : Shape := ⟨2, ![80, 256]⟩
abbrev S1x256x1024 : Shape := ⟨3, ![1, 256, 1024]⟩
abbrev S256x1024 : Shape := ⟨2, ![256, 1024]⟩
abbrev S80x1024 : Shape := ⟨2, ![80, 1024]⟩
abbrev S1x80x1024 : Shape := ⟨3, ![1, 80, 1024]⟩
abbrev S1x64x1024 : Shape := ⟨3, ![1, 64, 1024]⟩
abbrev S64x1024 : Shape := ⟨2, ![64, 1024]⟩
abbrev S1024x128 : Shape := ⟨2, ![1024, 128]⟩
abbrev S1x1024x128 : Shape := ⟨3, ![1, 1024, 128]⟩

abbrev nBuf : Space → Nat
  | .hbm => 33
  | .vmem => 16
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S8x256x8x96, .f32⟩
  | .hbm, ⟨4, _⟩ => ⟨S8x256x8x64, .f32⟩
  | .hbm, ⟨5, _⟩ => ⟨S_, .i32⟩
  | .hbm, ⟨6, _⟩ => ⟨S_, .f32⟩
  | .hbm, ⟨7, _⟩ => ⟨S8x8192x8x128, .f32⟩
  | .hbm, ⟨8, _⟩ => ⟨S8x32x256x1024, .f32⟩
  | .hbm, ⟨9, _⟩ => ⟨S8x32x1024x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x32x1024x256, .f32⟩
  | .hbm, ⟨15, _⟩ => ⟨S8x32x1024x256, .f32⟩
  | .hbm, ⟨16, _⟩ => ⟨S8x32x1024x256, .bf16⟩
  | .hbm, ⟨17, _⟩ => ⟨S8x8448x8x96, .f32⟩
  | .hbm, ⟨18, _⟩ => ⟨S_, .i32⟩
  | .hbm, ⟨19, _⟩ => ⟨S_, .f32⟩
  | .hbm, ⟨20, _⟩ => ⟨S8x8448x8x128, .f32⟩
  | .hbm, ⟨21, _⟩ => ⟨S8x8448x1024, .f32⟩
  | .hbm, ⟨22, _⟩ => ⟨S8x8448x1024, .bf16⟩
  | .hbm, ⟨23, _⟩ => ⟨S8x8448x8x64, .f32⟩
  | .hbm, ⟨24, _⟩ => ⟨S_, .f32⟩
  | .hbm, ⟨25, _⟩ => ⟨S8x8448x8x1, .f32⟩
  | .hbm, ⟨26, _⟩ => ⟨S_, .f32⟩
  | .hbm, ⟨27, _⟩ => ⟨S8x8448x8x15, .f32⟩
  | .hbm, ⟨28, _⟩ => ⟨S8x8448x8x80, .f32⟩
  | .hbm, ⟨29, _⟩ => ⟨S8x33x256x640, .f32⟩
  | .hbm, ⟨30, _⟩ => ⟨S8x33x640x256, .f32⟩
  | .hbm, ⟨31, _⟩ => ⟨S8x33x640x256, .bf16⟩
  | .hbm, ⟨32, _⟩ => ⟨S8x8192x512, .bf16⟩
  | .local _ .vmem, ⟨0, _⟩ => ⟨S1x16x256x256, .bf16⟩
  | .local _ .vmem, ⟨1, _⟩ => ⟨S1x16x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x33x160x256, .bf16⟩
  | .local _ .vmem, ⟨5, _⟩ => ⟨S1x33x160x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x768x1024, .f32⟩
  | .local _ .vmem, ⟨9, _⟩ => ⟨S2x768x1024, .f32⟩
  | .local _ .vmem, ⟨10, _⟩ => ⟨S2x768x1024, .bf16⟩
  | .local _ .vmem, ⟨11, _⟩ => ⟨S2x768x1024, .bf16⟩
  | .local _ .vmem, ⟨12, _⟩ => ⟨S2x2x1x1024, .f32⟩
  | .local _ .vmem, ⟨13, _⟩ => ⟨S2x2x1x1024, .f32⟩
  | .local _ .vmem, ⟨14, _⟩ => ⟨S2x80x1024, .f32⟩
  | .local _ .vmem, ⟨15, _⟩ => ⟨S2x1x1024, .f32⟩
  | _, _ => ⟨S8x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_mult1 : BitVec 32 :=
  let c0_i32 : BitVec 32 := 0#32
  c0_i32
def k0_mult2 : BitVec 32 :=
  let c0_i32_30 : BitVec 32 := 0#32
  c0_i32_30
def k0_mult3 : BitVec 32 :=
  let c768_i32 : BitVec 32 := 768#32
  c768_i32
def k0_mult4 : BitVec 32 :=
  let c768_i32_84 : BitVec 32 := 768#32
  c768_i32_84
@[reducible] def k0_t1_loop : Scf.Loop 32 :=
  let c0_i32_155 : BitVec 32 := 0#32
  let c5_i32 : BitVec 32 := 5#32
  let v144 : BitVec 32 := Scalar.addi c0_i32_155 c5_i32
  let c1_i32 : BitVec 32 := 1#32
  ⟨c0_i32_155, v144, c1_i32⟩
def k0_mult5 (k0_t1 : Fin k0_t1_loop.trips) : BitVec 32 :=
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c2_i32_1390 : BitVec 32 := 2#32
  let v1262 : BitVec 32 := Scalar.addi v1261 c2_i32_1390
  let c0_i32_1391 : BitVec 32 := 0#32
  let v1264 : BitVec 1 := Scalar.cmpi .sgt v1262 c0_i32_1391
  let v1265 : BitVec 32 := Scalar.extui v1264
  let c0_i32_1392 : BitVec 32 := 0#32
  let v1266 : BitVec 1 := Scalar.cmpi .slt v1262 c0_i32_1392
  let v1267 : BitVec 32 := Scalar.extui v1266
  let v1268 : BitVec 32 := Scalar.subi v1265 v1267
  let c11_i32 : BitVec 32 := 11#32
  let c0_i32_1393 : BitVec 32 := 0#32
  let v1269 : BitVec 1 := Scalar.cmpi .sgt c11_i32 c0_i32_1393
  let v1270 : BitVec 32 := Scalar.extui v1269
  let c0_i32_1394 : BitVec 32 := 0#32
  let v1271 : BitVec 1 := Scalar.cmpi .slt c11_i32 c0_i32_1394
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1395 : BitVec 32 := 0#32
  let v1276 : BitVec 1 := Scalar.cmpi .ne v1275 c0_i32_1395
  let v1277 : BitVec 1 := Scalar.andi v1274 v1276
  let v1263 : BitVec 32 := Scalar.divsi v1262 c11_i32
  let c1_i32_1396 : BitVec 32 := 1#32
  let v1278 : BitVec 32 := Scalar.subi v1263 c1_i32_1396
  let v1279 : BitVec 32 := Scalar.select v1277 v1278 v1263
  let c11_i32_1397 : BitVec 32 := 11#32
  let v1280 : BitVec 32 := Scalar.muli v1279 c11_i32_1397
  let v1281 : BitVec 32 := Scalar.subi v1262 v1280
  let c768_i32_1398 : BitVec 32 := 768#32
  let v1282 : BitVec 32 := Scalar.muli v1281 c768_i32_1398
  v1282
def k0_off1 (k0_t1 : Fin k0_t1_loop.trips) : Fin 3 → Nat :=
  let c0_1399 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c2_i32_1390 : BitVec 32 := 2#32
  let v1262 : BitVec 32 := Scalar.addi v1261 c2_i32_1390
  let c0_i32_1391 : BitVec 32 := 0#32
  let v1264 : BitVec 1 := Scalar.cmpi .sgt v1262 c0_i32_1391
  let v1265 : BitVec 32 := Scalar.extui v1264
  let c0_i32_1392 : BitVec 32 := 0#32
  let v1266 : BitVec 1 := Scalar.cmpi .slt v1262 c0_i32_1392
  let v1267 : BitVec 32 := Scalar.extui v1266
  let v1268 : BitVec 32 := Scalar.subi v1265 v1267
  let c11_i32 : BitVec 32 := 11#32
  let c0_i32_1393 : BitVec 32 := 0#32
  let v1269 : BitVec 1 := Scalar.cmpi .sgt c11_i32 c0_i32_1393
  let v1270 : BitVec 32 := Scalar.extui v1269
  let c0_i32_1394 : BitVec 32 := 0#32
  let v1271 : BitVec 1 := Scalar.cmpi .slt c11_i32 c0_i32_1394
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1395 : BitVec 32 := 0#32
  let v1276 : BitVec 1 := Scalar.cmpi .ne v1275 c0_i32_1395
  let v1277 : BitVec 1 := Scalar.andi v1274 v1276
  let v1263 : BitVec 32 := Scalar.divsi v1262 c11_i32
  let c1_i32_1396 : BitVec 32 := 1#32
  let v1278 : BitVec 32 := Scalar.subi v1263 c1_i32_1396
  let v1279 : BitVec 32 := Scalar.select v1277 v1278 v1263
  let c11_i32_1397 : BitVec 32 := 11#32
  let v1280 : BitVec 32 := Scalar.muli v1279 c11_i32_1397
  let v1281 : BitVec 32 := Scalar.subi v1262 v1280
  let c768_i32_1398 : BitVec 32 := 768#32
  let v1282 : BitVec 32 := Scalar.muli v1281 c768_i32_1398
  let v1283 : BitVec 32 := v1282
  let v1284 : Index := Scalar.indexCast v1283
  let c0_1400 : Index := 0#32
  ![0, v1284.toNat, 0]
def k0_off2 (k0_t1 : Fin k0_t1_loop.trips) (c0_i32_1402 : BitVec 32) : Fin 4 → Nat :=
  let c0_1403 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c2_i32_1390 : BitVec 32 := 2#32
  let v1262 : BitVec 32 := Scalar.addi v1261 c2_i32_1390
  let c0_i32_1391 : BitVec 32 := 0#32
  let v1264 : BitVec 1 := Scalar.cmpi .sgt v1262 c0_i32_1391
  let v1265 : BitVec 32 := Scalar.extui v1264
  let c0_i32_1392 : BitVec 32 := 0#32
  let v1266 : BitVec 1 := Scalar.cmpi .slt v1262 c0_i32_1392
  let v1267 : BitVec 32 := Scalar.extui v1266
  let v1268 : BitVec 32 := Scalar.subi v1265 v1267
  let c11_i32 : BitVec 32 := 11#32
  let c0_i32_1393 : BitVec 32 := 0#32
  let v1269 : BitVec 1 := Scalar.cmpi .sgt c11_i32 c0_i32_1393
  let v1270 : BitVec 32 := Scalar.extui v1269
  let c0_i32_1394 : BitVec 32 := 0#32
  let v1271 : BitVec 1 := Scalar.cmpi .slt c11_i32 c0_i32_1394
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1395 : BitVec 32 := 0#32
  let v1276 : BitVec 1 := Scalar.cmpi .ne v1275 c0_i32_1395
  let v1277 : BitVec 1 := Scalar.andi v1274 v1276
  let v1263 : BitVec 32 := Scalar.divsi v1262 c11_i32
  let c1_i32_1396 : BitVec 32 := 1#32
  let v1278 : BitVec 32 := Scalar.subi v1263 c1_i32_1396
  let v1279 : BitVec 32 := Scalar.select v1277 v1278 v1263
  let c4_i32_1401 : BitVec 32 := 4#32
  let v1287 : BitVec 32 := Scalar.muli v1279 c4_i32_1401
  let v1288 : BitVec 32 := Scalar.addi v1287 c0_i32_1402
  let v1289 : Index := Scalar.indexCast v1288
  let c0_1404 : Index := 0#32
  let c0_1405 : Index := 0#32
  ![0, v1289.toNat, 0, 0]
def k0_mult6 (k0_t1 : Fin k0_t1_loop.trips) : BitVec 32 :=
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c2_i32_1390 : BitVec 32 := 2#32
  let v1262 : BitVec 32 := Scalar.addi v1261 c2_i32_1390
  let c0_i32_1391 : BitVec 32 := 0#32
  let v1264 : BitVec 1 := Scalar.cmpi .sgt v1262 c0_i32_1391
  let v1265 : BitVec 32 := Scalar.extui v1264
  let c0_i32_1392 : BitVec 32 := 0#32
  let v1266 : BitVec 1 := Scalar.cmpi .slt v1262 c0_i32_1392
  let v1267 : BitVec 32 := Scalar.extui v1266
  let v1268 : BitVec 32 := Scalar.subi v1265 v1267
  let c11_i32 : BitVec 32 := 11#32
  let c0_i32_1393 : BitVec 32 := 0#32
  let v1269 : BitVec 1 := Scalar.cmpi .sgt c11_i32 c0_i32_1393
  let v1270 : BitVec 32 := Scalar.extui v1269
  let c0_i32_1394 : BitVec 32 := 0#32
  let v1271 : BitVec 1 := Scalar.cmpi .slt c11_i32 c0_i32_1394
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1395 : BitVec 32 := 0#32
  let v1276 : BitVec 1 := Scalar.cmpi .ne v1275 c0_i32_1395
  let v1277 : BitVec 1 := Scalar.andi v1274 v1276
  let v1263 : BitVec 32 := Scalar.divsi v1262 c11_i32
  let c1_i32_1396 : BitVec 32 := 1#32
  let v1278 : BitVec 32 := Scalar.subi v1263 c1_i32_1396
  let v1279 : BitVec 32 := Scalar.select v1277 v1278 v1263
  let c11_i32_1397 : BitVec 32 := 11#32
  let v1280 : BitVec 32 := Scalar.muli v1279 c11_i32_1397
  let v1281 : BitVec 32 := Scalar.subi v1262 v1280
  let c768_i32_1429 : BitVec 32 := 768#32
  let v1317 : BitVec 32 := Scalar.muli v1281 c768_i32_1429
  v1317
def k0_off3 (k0_t1 : Fin k0_t1_loop.trips) : Fin 3 → Nat :=
  let c0_1430 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c2_i32_1390 : BitVec 32 := 2#32
  let v1262 : BitVec 32 := Scalar.addi v1261 c2_i32_1390
  let c0_i32_1391 : BitVec 32 := 0#32
  let v1264 : BitVec 1 := Scalar.cmpi .sgt v1262 c0_i32_1391
  let v1265 : BitVec 32 := Scalar.extui v1264
  let c0_i32_1392 : BitVec 32 := 0#32
  let v1266 : BitVec 1 := Scalar.cmpi .slt v1262 c0_i32_1392
  let v1267 : BitVec 32 := Scalar.extui v1266
  let v1268 : BitVec 32 := Scalar.subi v1265 v1267
  let c11_i32 : BitVec 32 := 11#32
  let c0_i32_1393 : BitVec 32 := 0#32
  let v1269 : BitVec 1 := Scalar.cmpi .sgt c11_i32 c0_i32_1393
  let v1270 : BitVec 32 := Scalar.extui v1269
  let c0_i32_1394 : BitVec 32 := 0#32
  let v1271 : BitVec 1 := Scalar.cmpi .slt c11_i32 c0_i32_1394
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1395 : BitVec 32 := 0#32
  let v1276 : BitVec 1 := Scalar.cmpi .ne v1275 c0_i32_1395
  let v1277 : BitVec 1 := Scalar.andi v1274 v1276
  let v1263 : BitVec 32 := Scalar.divsi v1262 c11_i32
  let c1_i32_1396 : BitVec 32 := 1#32
  let v1278 : BitVec 32 := Scalar.subi v1263 c1_i32_1396
  let v1279 : BitVec 32 := Scalar.select v1277 v1278 v1263
  let c11_i32_1397 : BitVec 32 := 11#32
  let v1280 : BitVec 32 := Scalar.muli v1279 c11_i32_1397
  let v1281 : BitVec 32 := Scalar.subi v1262 v1280
  let c768_i32_1429 : BitVec 32 := 768#32
  let v1317 : BitVec 32 := Scalar.muli v1281 c768_i32_1429
  let v1318 : BitVec 32 := v1317
  let v1319 : Index := Scalar.indexCast v1318
  let c128_1431 : Index := 128#32
  ![0, v1319.toNat, 128]
def k0_off4 (k0_t1 : Fin k0_t1_loop.trips) (c0_i32_1433 : BitVec 32) : Fin 4 → Nat :=
  let c0_1434 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c2_i32_1390 : BitVec 32 := 2#32
  let v1262 : BitVec 32 := Scalar.addi v1261 c2_i32_1390
  let c0_i32_1391 : BitVec 32 := 0#32
  let v1264 : BitVec 1 := Scalar.cmpi .sgt v1262 c0_i32_1391
  let v1265 : BitVec 32 := Scalar.extui v1264
  let c0_i32_1392 : BitVec 32 := 0#32
  let v1266 : BitVec 1 := Scalar.cmpi .slt v1262 c0_i32_1392
  let v1267 : BitVec 32 := Scalar.extui v1266
  let v1268 : BitVec 32 := Scalar.subi v1265 v1267
  let c11_i32 : BitVec 32 := 11#32
  let c0_i32_1393 : BitVec 32 := 0#32
  let v1269 : BitVec 1 := Scalar.cmpi .sgt c11_i32 c0_i32_1393
  let v1270 : BitVec 32 := Scalar.extui v1269
  let c0_i32_1394 : BitVec 32 := 0#32
  let v1271 : BitVec 1 := Scalar.cmpi .slt c11_i32 c0_i32_1394
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1395 : BitVec 32 := 0#32
  let v1276 : BitVec 1 := Scalar.cmpi .ne v1275 c0_i32_1395
  let v1277 : BitVec 1 := Scalar.andi v1274 v1276
  let v1263 : BitVec 32 := Scalar.divsi v1262 c11_i32
  let c1_i32_1396 : BitVec 32 := 1#32
  let v1278 : BitVec 32 := Scalar.subi v1263 c1_i32_1396
  let v1279 : BitVec 32 := Scalar.select v1277 v1278 v1263
  let c4_i32_1432 : BitVec 32 := 4#32
  let v1322 : BitVec 32 := Scalar.muli v1279 c4_i32_1432
  let v1323 : BitVec 32 := Scalar.addi v1322 c0_i32_1433
  let v1324 : Index := Scalar.indexCast v1323
  let c128_1435 : Index := 128#32
  let c0_1436 : Index := 0#32
  ![0, v1324.toNat, 128, 0]
def k0_off5 (k0_t1 : Fin k0_t1_loop.trips) : Fin 4 → Nat :=
  let c0_1523 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c0_i32_1515 : BitVec 32 := 0#32
  let v1423 : BitVec 1 := Scalar.cmpi .sgt v1261 c0_i32_1515
  let v1424 : BitVec 32 := Scalar.extui v1423
  let c0_i32_1516 : BitVec 32 := 0#32
  let v1425 : BitVec 1 := Scalar.cmpi .slt v1261 c0_i32_1516
  let v1426 : BitVec 32 := Scalar.extui v1425
  let v1427 : BitVec 32 := Scalar.subi v1424 v1426
  let c11_i32_1514 : BitVec 32 := 11#32
  let c0_i32_1517 : BitVec 32 := 0#32
  let v1428 : BitVec 1 := Scalar.cmpi .sgt c11_i32_1514 c0_i32_1517
  let v1429 : BitVec 32 := Scalar.extui v1428
  let c0_i32_1518 : BitVec 32 := 0#32
  let v1430 : BitVec 1 := Scalar.cmpi .slt c11_i32_1514 c0_i32_1518
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1514
  let c0_i32_1519 : BitVec 32 := 0#32
  let v1435 : BitVec 1 := Scalar.cmpi .ne v1434 c0_i32_1519
  let v1436 : BitVec 1 := Scalar.andi v1433 v1435
  let v1422 : BitVec 32 := Scalar.divsi v1261 c11_i32_1514
  let c1_i32_1520 : BitVec 32 := 1#32
  let v1437 : BitVec 32 := Scalar.subi v1422 c1_i32_1520
  let v1438 : BitVec 32 := Scalar.select v1436 v1437 v1422
  let c11_i32_1521 : BitVec 32 := 11#32
  let v1439 : BitVec 32 := Scalar.muli v1438 c11_i32_1521
  let v1440 : BitVec 32 := Scalar.subi v1261 v1439
  let c3_i32_1522 : BitVec 32 := 3#32
  let v1441 : BitVec 32 := Scalar.muli v1440 c3_i32_1522
  let v1442 : Index := Scalar.indexCast v1441
  let c0_1524 : Index := 0#32
  let c0_1525 : Index := 0#32
  ![0, v1442.toNat, 0, 0]
def k0_off6 (k0_t1 : Fin k0_t1_loop.trips) (c1_i32_1531 : BitVec 32) : Fin 4 → Nat :=
  let c0_1532 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c0_i32_1515 : BitVec 32 := 0#32
  let v1423 : BitVec 1 := Scalar.cmpi .sgt v1261 c0_i32_1515
  let v1424 : BitVec 32 := Scalar.extui v1423
  let c0_i32_1516 : BitVec 32 := 0#32
  let v1425 : BitVec 1 := Scalar.cmpi .slt v1261 c0_i32_1516
  let v1426 : BitVec 32 := Scalar.extui v1425
  let v1427 : BitVec 32 := Scalar.subi v1424 v1426
  let c11_i32_1514 : BitVec 32 := 11#32
  let c0_i32_1517 : BitVec 32 := 0#32
  let v1428 : BitVec 1 := Scalar.cmpi .sgt c11_i32_1514 c0_i32_1517
  let v1429 : BitVec 32 := Scalar.extui v1428
  let c0_i32_1518 : BitVec 32 := 0#32
  let v1430 : BitVec 1 := Scalar.cmpi .slt c11_i32_1514 c0_i32_1518
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1514
  let c0_i32_1519 : BitVec 32 := 0#32
  let v1435 : BitVec 1 := Scalar.cmpi .ne v1434 c0_i32_1519
  let v1436 : BitVec 1 := Scalar.andi v1433 v1435
  let v1422 : BitVec 32 := Scalar.divsi v1261 c11_i32_1514
  let c1_i32_1520 : BitVec 32 := 1#32
  let v1437 : BitVec 32 := Scalar.subi v1422 c1_i32_1520
  let v1438 : BitVec 32 := Scalar.select v1436 v1437 v1422
  let c11_i32_1521 : BitVec 32 := 11#32
  let v1439 : BitVec 32 := Scalar.muli v1438 c11_i32_1521
  let v1440 : BitVec 32 := Scalar.subi v1261 v1439
  let c3_i32_1530 : BitVec 32 := 3#32
  let v1448 : BitVec 32 := Scalar.muli v1440 c3_i32_1530
  let v1449 : BitVec 32 := Scalar.addi v1448 c1_i32_1531
  let v1450 : Index := Scalar.indexCast v1449
  let c0_1533 : Index := 0#32
  let c0_1534 : Index := 0#32
  ![0, v1450.toNat, 0, 0]
def k0_off7 (k0_t1 : Fin k0_t1_loop.trips) : Fin 4 → Nat :=
  let c0_1559 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c0_i32_1515 : BitVec 32 := 0#32
  let v1423 : BitVec 1 := Scalar.cmpi .sgt v1261 c0_i32_1515
  let v1424 : BitVec 32 := Scalar.extui v1423
  let c0_i32_1516 : BitVec 32 := 0#32
  let v1425 : BitVec 1 := Scalar.cmpi .slt v1261 c0_i32_1516
  let v1426 : BitVec 32 := Scalar.extui v1425
  let v1427 : BitVec 32 := Scalar.subi v1424 v1426
  let c11_i32_1514 : BitVec 32 := 11#32
  let c0_i32_1517 : BitVec 32 := 0#32
  let v1428 : BitVec 1 := Scalar.cmpi .sgt c11_i32_1514 c0_i32_1517
  let v1429 : BitVec 32 := Scalar.extui v1428
  let c0_i32_1518 : BitVec 32 := 0#32
  let v1430 : BitVec 1 := Scalar.cmpi .slt c11_i32_1514 c0_i32_1518
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1514
  let c0_i32_1519 : BitVec 32 := 0#32
  let v1435 : BitVec 1 := Scalar.cmpi .ne v1434 c0_i32_1519
  let v1436 : BitVec 1 := Scalar.andi v1433 v1435
  let v1422 : BitVec 32 := Scalar.divsi v1261 c11_i32_1514
  let c1_i32_1520 : BitVec 32 := 1#32
  let v1437 : BitVec 32 := Scalar.subi v1422 c1_i32_1520
  let v1438 : BitVec 32 := Scalar.select v1436 v1437 v1422
  let c11_i32_1521 : BitVec 32 := 11#32
  let v1439 : BitVec 32 := Scalar.muli v1438 c11_i32_1521
  let v1440 : BitVec 32 := Scalar.subi v1261 v1439
  let c3_i32_1558 : BitVec 32 := 3#32
  let v1476 : BitVec 32 := Scalar.muli v1440 c3_i32_1558
  let v1477 : Index := Scalar.indexCast v1476
  let c80_1560 : Index := 80#32
  let c0_1561 : Index := 0#32
  ![0, v1477.toNat, 80, 0]
def k0_off8 (k0_t1 : Fin k0_t1_loop.trips) (c1_i32_1567 : BitVec 32) : Fin 4 → Nat :=
  let c0_1568 : Index := 0#32
  let c0_i32_1389 : BitVec 32 := 0#32
  let c2_i32 : BitVec 32 := 2#32
  let c0_i32_155 : BitVec 32 := 0#32
  let c1_i32 : BitVec 32 := 1#32
  let arg15 : BitVec 32 := Scf.iv c0_i32_155 c1_i32 k0_t1
  let v1260 : BitVec 32 := Scalar.muli c2_i32 arg15
  let v1261 : BitVec 32 := Scalar.addi c0_i32_1389 v1260
  let c0_i32_1515 : BitVec 32 := 0#32
  let v1423 : BitVec 1 := Scalar.cmpi .sgt v1261 c0_i32_1515
  let v1424 : BitVec 32 := Scalar.extui v1423
  let c0_i32_1516 : BitVec 32 := 0#32
  let v1425 : BitVec 1 := Scalar.cmpi .slt v1261 c0_i32_1516
  let v1426 : BitVec 32 := Scalar.extui v1425
  let v1427 : BitVec 32 := Scalar.subi v1424 v1426
  let c11_i32_1514 : BitVec 32 := 11#32
  let c0_i32_1517 : BitVec 32 := 0#32
  let v1428 : BitVec 1 := Scalar.cmpi .sgt c11_i32_1514 c0_i32_1517
  let v1429 : BitVec 32 := Scalar.extui v1428
  let c0_i32_1518 : BitVec 32 := 0#32
  let v1430 : BitVec 1 := Scalar.cmpi .slt c11_i32_1514 c0_i32_1518
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1514
  let c0_i32_1519 : BitVec 32 := 0#32
  let v1435 : BitVec 1 := Scalar.cmpi .ne v1434 c0_i32_1519
  let v1436 : BitVec 1 := Scalar.andi v1433 v1435
  let v1422 : BitVec 32 := Scalar.divsi v1261 c11_i32_1514
  let c1_i32_1520 : BitVec 32 := 1#32
  let v1437 : BitVec 32 := Scalar.subi v1422 c1_i32_1520
  let v1438 : BitVec 32 := Scalar.select v1436 v1437 v1422
  let c11_i32_1521 : BitVec 32 := 11#32
  let v1439 : BitVec 32 := Scalar.muli v1438 c11_i32_1521
  let v1440 : BitVec 32 := Scalar.subi v1261 v1439
  let c3_i32_1566 : BitVec 32 := 3#32
  let v1483 : BitVec 32 := Scalar.muli v1440 c3_i32_1566
  let v1484 : BitVec 32 := Scalar.addi v1483 c1_i32_1567
  let v1485 : Index := Scalar.indexCast v1484
  let c80_1569 : Index := 80#32
  let c0_1570 : Index := 0#32
  ![0, v1485.toNat, 80, 0]
def k0_mult7 (k0_t1 : Fin k0_t1_loop.trips) : BitVec 32 :=
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c2_i32_1597 : BitVec 32 := 2#32
  let v1514 : BitVec 32 := Scalar.addi v1513 c2_i32_1597
  let c0_i32_1599 : BitVec 32 := 0#32
  let v1516 : BitVec 1 := Scalar.cmpi .sgt v1514 c0_i32_1599
  let v1517 : BitVec 32 := Scalar.extui v1516
  let c0_i32_1600 : BitVec 32 := 0#32
  let v1518 : BitVec 1 := Scalar.cmpi .slt v1514 c0_i32_1600
  let v1519 : BitVec 32 := Scalar.extui v1518
  let v1520 : BitVec 32 := Scalar.subi v1517 v1519
  let c11_i32_1598 : BitVec 32 := 11#32
  let c0_i32_1601 : BitVec 32 := 0#32
  let v1521 : BitVec 1 := Scalar.cmpi .sgt c11_i32_1598 c0_i32_1601
  let v1522 : BitVec 32 := Scalar.extui v1521
  let c0_i32_1602 : BitVec 32 := 0#32
  let v1523 : BitVec 1 := Scalar.cmpi .slt c11_i32_1598 c0_i32_1602
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1598
  let c0_i32_1603 : BitVec 32 := 0#32
  let v1528 : BitVec 1 := Scalar.cmpi .ne v1527 c0_i32_1603
  let v1529 : BitVec 1 := Scalar.andi v1526 v1528
  let v1515 : BitVec 32 := Scalar.divsi v1514 c11_i32_1598
  let c1_i32_1604 : BitVec 32 := 1#32
  let v1530 : BitVec 32 := Scalar.subi v1515 c1_i32_1604
  let v1531 : BitVec 32 := Scalar.select v1529 v1530 v1515
  let c11_i32_1605 : BitVec 32 := 11#32
  let v1532 : BitVec 32 := Scalar.muli v1531 c11_i32_1605
  let v1533 : BitVec 32 := Scalar.subi v1514 v1532
  let c768_i32_1606 : BitVec 32 := 768#32
  let v1534 : BitVec 32 := Scalar.muli v1533 c768_i32_1606
  v1534
def k0_off9 (k0_t1 : Fin k0_t1_loop.trips) : Fin 3 → Nat :=
  let c0_1607 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c2_i32_1597 : BitVec 32 := 2#32
  let v1514 : BitVec 32 := Scalar.addi v1513 c2_i32_1597
  let c0_i32_1599 : BitVec 32 := 0#32
  let v1516 : BitVec 1 := Scalar.cmpi .sgt v1514 c0_i32_1599
  let v1517 : BitVec 32 := Scalar.extui v1516
  let c0_i32_1600 : BitVec 32 := 0#32
  let v1518 : BitVec 1 := Scalar.cmpi .slt v1514 c0_i32_1600
  let v1519 : BitVec 32 := Scalar.extui v1518
  let v1520 : BitVec 32 := Scalar.subi v1517 v1519
  let c11_i32_1598 : BitVec 32 := 11#32
  let c0_i32_1601 : BitVec 32 := 0#32
  let v1521 : BitVec 1 := Scalar.cmpi .sgt c11_i32_1598 c0_i32_1601
  let v1522 : BitVec 32 := Scalar.extui v1521
  let c0_i32_1602 : BitVec 32 := 0#32
  let v1523 : BitVec 1 := Scalar.cmpi .slt c11_i32_1598 c0_i32_1602
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1598
  let c0_i32_1603 : BitVec 32 := 0#32
  let v1528 : BitVec 1 := Scalar.cmpi .ne v1527 c0_i32_1603
  let v1529 : BitVec 1 := Scalar.andi v1526 v1528
  let v1515 : BitVec 32 := Scalar.divsi v1514 c11_i32_1598
  let c1_i32_1604 : BitVec 32 := 1#32
  let v1530 : BitVec 32 := Scalar.subi v1515 c1_i32_1604
  let v1531 : BitVec 32 := Scalar.select v1529 v1530 v1515
  let c11_i32_1605 : BitVec 32 := 11#32
  let v1532 : BitVec 32 := Scalar.muli v1531 c11_i32_1605
  let v1533 : BitVec 32 := Scalar.subi v1514 v1532
  let c768_i32_1606 : BitVec 32 := 768#32
  let v1534 : BitVec 32 := Scalar.muli v1533 c768_i32_1606
  let v1535 : BitVec 32 := v1534
  let v1536 : Index := Scalar.indexCast v1535
  let c0_1608 : Index := 0#32
  ![0, v1536.toNat, 0]
def k0_off10 (k0_t1 : Fin k0_t1_loop.trips) (c0_i32_1610 : BitVec 32) : Fin 4 → Nat :=
  let c0_1611 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c2_i32_1597 : BitVec 32 := 2#32
  let v1514 : BitVec 32 := Scalar.addi v1513 c2_i32_1597
  let c0_i32_1599 : BitVec 32 := 0#32
  let v1516 : BitVec 1 := Scalar.cmpi .sgt v1514 c0_i32_1599
  let v1517 : BitVec 32 := Scalar.extui v1516
  let c0_i32_1600 : BitVec 32 := 0#32
  let v1518 : BitVec 1 := Scalar.cmpi .slt v1514 c0_i32_1600
  let v1519 : BitVec 32 := Scalar.extui v1518
  let v1520 : BitVec 32 := Scalar.subi v1517 v1519
  let c11_i32_1598 : BitVec 32 := 11#32
  let c0_i32_1601 : BitVec 32 := 0#32
  let v1521 : BitVec 1 := Scalar.cmpi .sgt c11_i32_1598 c0_i32_1601
  let v1522 : BitVec 32 := Scalar.extui v1521
  let c0_i32_1602 : BitVec 32 := 0#32
  let v1523 : BitVec 1 := Scalar.cmpi .slt c11_i32_1598 c0_i32_1602
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1598
  let c0_i32_1603 : BitVec 32 := 0#32
  let v1528 : BitVec 1 := Scalar.cmpi .ne v1527 c0_i32_1603
  let v1529 : BitVec 1 := Scalar.andi v1526 v1528
  let v1515 : BitVec 32 := Scalar.divsi v1514 c11_i32_1598
  let c1_i32_1604 : BitVec 32 := 1#32
  let v1530 : BitVec 32 := Scalar.subi v1515 c1_i32_1604
  let v1531 : BitVec 32 := Scalar.select v1529 v1530 v1515
  let c4_i32_1609 : BitVec 32 := 4#32
  let v1539 : BitVec 32 := Scalar.muli v1531 c4_i32_1609
  let v1540 : BitVec 32 := Scalar.addi v1539 c0_i32_1610
  let v1541 : Index := Scalar.indexCast v1540
  let c0_1612 : Index := 0#32
  let c0_1613 : Index := 0#32
  ![0, v1541.toNat, 0, 0]
def k0_mult8 (k0_t1 : Fin k0_t1_loop.trips) : BitVec 32 :=
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c2_i32_1597 : BitVec 32 := 2#32
  let v1514 : BitVec 32 := Scalar.addi v1513 c2_i32_1597
  let c0_i32_1599 : BitVec 32 := 0#32
  let v1516 : BitVec 1 := Scalar.cmpi .sgt v1514 c0_i32_1599
  let v1517 : BitVec 32 := Scalar.extui v1516
  let c0_i32_1600 : BitVec 32 := 0#32
  let v1518 : BitVec 1 := Scalar.cmpi .slt v1514 c0_i32_1600
  let v1519 : BitVec 32 := Scalar.extui v1518
  let v1520 : BitVec 32 := Scalar.subi v1517 v1519
  let c11_i32_1598 : BitVec 32 := 11#32
  let c0_i32_1601 : BitVec 32 := 0#32
  let v1521 : BitVec 1 := Scalar.cmpi .sgt c11_i32_1598 c0_i32_1601
  let v1522 : BitVec 32 := Scalar.extui v1521
  let c0_i32_1602 : BitVec 32 := 0#32
  let v1523 : BitVec 1 := Scalar.cmpi .slt c11_i32_1598 c0_i32_1602
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1598
  let c0_i32_1603 : BitVec 32 := 0#32
  let v1528 : BitVec 1 := Scalar.cmpi .ne v1527 c0_i32_1603
  let v1529 : BitVec 1 := Scalar.andi v1526 v1528
  let v1515 : BitVec 32 := Scalar.divsi v1514 c11_i32_1598
  let c1_i32_1604 : BitVec 32 := 1#32
  let v1530 : BitVec 32 := Scalar.subi v1515 c1_i32_1604
  let v1531 : BitVec 32 := Scalar.select v1529 v1530 v1515
  let c11_i32_1605 : BitVec 32 := 11#32
  let v1532 : BitVec 32 := Scalar.muli v1531 c11_i32_1605
  let v1533 : BitVec 32 := Scalar.subi v1514 v1532
  let c768_i32_1638 : BitVec 32 := 768#32
  let v1569 : BitVec 32 := Scalar.muli v1533 c768_i32_1638
  v1569
def k0_off11 (k0_t1 : Fin k0_t1_loop.trips) : Fin 3 → Nat :=
  let c0_1639 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c2_i32_1597 : BitVec 32 := 2#32
  let v1514 : BitVec 32 := Scalar.addi v1513 c2_i32_1597
  let c0_i32_1599 : BitVec 32 := 0#32
  let v1516 : BitVec 1 := Scalar.cmpi .sgt v1514 c0_i32_1599
  let v1517 : BitVec 32 := Scalar.extui v1516
  let c0_i32_1600 : BitVec 32 := 0#32
  let v1518 : BitVec 1 := Scalar.cmpi .slt v1514 c0_i32_1600
  let v1519 : BitVec 32 := Scalar.extui v1518
  let v1520 : BitVec 32 := Scalar.subi v1517 v1519
  let c11_i32_1598 : BitVec 32 := 11#32
  let c0_i32_1601 : BitVec 32 := 0#32
  let v1521 : BitVec 1 := Scalar.cmpi .sgt c11_i32_1598 c0_i32_1601
  let v1522 : BitVec 32 := Scalar.extui v1521
  let c0_i32_1602 : BitVec 32 := 0#32
  let v1523 : BitVec 1 := Scalar.cmpi .slt c11_i32_1598 c0_i32_1602
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1598
  let c0_i32_1603 : BitVec 32 := 0#32
  let v1528 : BitVec 1 := Scalar.cmpi .ne v1527 c0_i32_1603
  let v1529 : BitVec 1 := Scalar.andi v1526 v1528
  let v1515 : BitVec 32 := Scalar.divsi v1514 c11_i32_1598
  let c1_i32_1604 : BitVec 32 := 1#32
  let v1530 : BitVec 32 := Scalar.subi v1515 c1_i32_1604
  let v1531 : BitVec 32 := Scalar.select v1529 v1530 v1515
  let c11_i32_1605 : BitVec 32 := 11#32
  let v1532 : BitVec 32 := Scalar.muli v1531 c11_i32_1605
  let v1533 : BitVec 32 := Scalar.subi v1514 v1532
  let c768_i32_1638 : BitVec 32 := 768#32
  let v1569 : BitVec 32 := Scalar.muli v1533 c768_i32_1638
  let v1570 : BitVec 32 := v1569
  let v1571 : Index := Scalar.indexCast v1570
  let c128_1640 : Index := 128#32
  ![0, v1571.toNat, 128]
def k0_off12 (k0_t1 : Fin k0_t1_loop.trips) (c0_i32_1642 : BitVec 32) : Fin 4 → Nat :=
  let c0_1643 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c2_i32_1597 : BitVec 32 := 2#32
  let v1514 : BitVec 32 := Scalar.addi v1513 c2_i32_1597
  let c0_i32_1599 : BitVec 32 := 0#32
  let v1516 : BitVec 1 := Scalar.cmpi .sgt v1514 c0_i32_1599
  let v1517 : BitVec 32 := Scalar.extui v1516
  let c0_i32_1600 : BitVec 32 := 0#32
  let v1518 : BitVec 1 := Scalar.cmpi .slt v1514 c0_i32_1600
  let v1519 : BitVec 32 := Scalar.extui v1518
  let v1520 : BitVec 32 := Scalar.subi v1517 v1519
  let c11_i32_1598 : BitVec 32 := 11#32
  let c0_i32_1601 : BitVec 32 := 0#32
  let v1521 : BitVec 1 := Scalar.cmpi .sgt c11_i32_1598 c0_i32_1601
  let v1522 : BitVec 32 := Scalar.extui v1521
  let c0_i32_1602 : BitVec 32 := 0#32
  let v1523 : BitVec 1 := Scalar.cmpi .slt c11_i32_1598 c0_i32_1602
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1598
  let c0_i32_1603 : BitVec 32 := 0#32
  let v1528 : BitVec 1 := Scalar.cmpi .ne v1527 c0_i32_1603
  let v1529 : BitVec 1 := Scalar.andi v1526 v1528
  let v1515 : BitVec 32 := Scalar.divsi v1514 c11_i32_1598
  let c1_i32_1604 : BitVec 32 := 1#32
  let v1530 : BitVec 32 := Scalar.subi v1515 c1_i32_1604
  let v1531 : BitVec 32 := Scalar.select v1529 v1530 v1515
  let c4_i32_1641 : BitVec 32 := 4#32
  let v1574 : BitVec 32 := Scalar.muli v1531 c4_i32_1641
  let v1575 : BitVec 32 := Scalar.addi v1574 c0_i32_1642
  let v1576 : Index := Scalar.indexCast v1575
  let c128_1644 : Index := 128#32
  let c0_1645 : Index := 0#32
  ![0, v1576.toNat, 128, 0]
def k0_off13 (k0_t1 : Fin k0_t1_loop.trips) : Fin 4 → Nat :=
  let c0_1732 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c0_i32_1724 : BitVec 32 := 0#32
  let v1675 : BitVec 1 := Scalar.cmpi .sgt v1513 c0_i32_1724
  let v1676 : BitVec 32 := Scalar.extui v1675
  let c0_i32_1725 : BitVec 32 := 0#32
  let v1677 : BitVec 1 := Scalar.cmpi .slt v1513 c0_i32_1725
  let v1678 : BitVec 32 := Scalar.extui v1677
  let v1679 : BitVec 32 := Scalar.subi v1676 v1678
  let c11_i32_1723 : BitVec 32 := 11#32
  let c0_i32_1726 : BitVec 32 := 0#32
  let v1680 : BitVec 1 := Scalar.cmpi .sgt c11_i32_1723 c0_i32_1726
  let v1681 : BitVec 32 := Scalar.extui v1680
  let c0_i32_1727 : BitVec 32 := 0#32
  let v1682 : BitVec 1 := Scalar.cmpi .slt c11_i32_1723 c0_i32_1727
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1723
  let c0_i32_1728 : BitVec 32 := 0#32
  let v1687 : BitVec 1 := Scalar.cmpi .ne v1686 c0_i32_1728
  let v1688 : BitVec 1 := Scalar.andi v1685 v1687
  let v1674 : BitVec 32 := Scalar.divsi v1513 c11_i32_1723
  let c1_i32_1729 : BitVec 32 := 1#32
  let v1689 : BitVec 32 := Scalar.subi v1674 c1_i32_1729
  let v1690 : BitVec 32 := Scalar.select v1688 v1689 v1674
  let c11_i32_1730 : BitVec 32 := 11#32
  let v1691 : BitVec 32 := Scalar.muli v1690 c11_i32_1730
  let v1692 : BitVec 32 := Scalar.subi v1513 v1691
  let c3_i32_1731 : BitVec 32 := 3#32
  let v1693 : BitVec 32 := Scalar.muli v1692 c3_i32_1731
  let v1694 : Index := Scalar.indexCast v1693
  let c0_1733 : Index := 0#32
  let c0_1734 : Index := 0#32
  ![0, v1694.toNat, 0, 0]
def k0_off14 (k0_t1 : Fin k0_t1_loop.trips) (c1_i32_1740 : BitVec 32) : Fin 4 → Nat :=
  let c0_1741 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c0_i32_1724 : BitVec 32 := 0#32
  let v1675 : BitVec 1 := Scalar.cmpi .sgt v1513 c0_i32_1724
  let v1676 : BitVec 32 := Scalar.extui v1675
  let c0_i32_1725 : BitVec 32 := 0#32
  let v1677 : BitVec 1 := Scalar.cmpi .slt v1513 c0_i32_1725
  let v1678 : BitVec 32 := Scalar.extui v1677
  let v1679 : BitVec 32 := Scalar.subi v1676 v1678
  let c11_i32_1723 : BitVec 32 := 11#32
  let c0_i32_1726 : BitVec 32 := 0#32
  let v1680 : BitVec 1 := Scalar.cmpi .sgt c11_i32_1723 c0_i32_1726
  let v1681 : BitVec 32 := Scalar.extui v1680
  let c0_i32_1727 : BitVec 32 := 0#32
  let v1682 : BitVec 1 := Scalar.cmpi .slt c11_i32_1723 c0_i32_1727
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1723
  let c0_i32_1728 : BitVec 32 := 0#32
  let v1687 : BitVec 1 := Scalar.cmpi .ne v1686 c0_i32_1728
  let v1688 : BitVec 1 := Scalar.andi v1685 v1687
  let v1674 : BitVec 32 := Scalar.divsi v1513 c11_i32_1723
  let c1_i32_1729 : BitVec 32 := 1#32
  let v1689 : BitVec 32 := Scalar.subi v1674 c1_i32_1729
  let v1690 : BitVec 32 := Scalar.select v1688 v1689 v1674
  let c11_i32_1730 : BitVec 32 := 11#32
  let v1691 : BitVec 32 := Scalar.muli v1690 c11_i32_1730
  let v1692 : BitVec 32 := Scalar.subi v1513 v1691
  let c3_i32_1739 : BitVec 32 := 3#32
  let v1700 : BitVec 32 := Scalar.muli v1692 c3_i32_1739
  let v1701 : BitVec 32 := Scalar.addi v1700 c1_i32_1740
  let v1702 : Index := Scalar.indexCast v1701
  let c0_1742 : Index := 0#32
  let c0_1743 : Index := 0#32
  ![0, v1702.toNat, 0, 0]
def k0_off15 (k0_t1 : Fin k0_t1_loop.trips) : Fin 4 → Nat :=
  let c0_1768 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c0_i32_1724 : BitVec 32 := 0#32
  let v1675 : BitVec 1 := Scalar.cmpi .sgt v1513 c0_i32_1724
  let v1676 : BitVec 32 := Scalar.extui v1675
  let c0_i32_1725 : BitVec 32 := 0#32
  let v1677 : BitVec 1 := Scalar.cmpi .slt v1513 c0_i32_1725
  let v1678 : BitVec 32 := Scalar.extui v1677
  let v1679 : BitVec 32 := Scalar.subi v1676 v1678
  let c11_i32_1723 : BitVec 32 := 11#32
  let c0_i32_1726 : BitVec 32 := 0#32
  let v1680 : BitVec 1 := Scalar.cmpi .sgt c11_i32_1723 c0_i32_1726
  let v1681 : BitVec 32 := Scalar.extui v1680
  let c0_i32_1727 : BitVec 32 := 0#32
  let v1682 : BitVec 1 := Scalar.cmpi .slt c11_i32_1723 c0_i32_1727
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1723
  let c0_i32_1728 : BitVec 32 := 0#32
  let v1687 : BitVec 1 := Scalar.cmpi .ne v1686 c0_i32_1728
  let v1688 : BitVec 1 := Scalar.andi v1685 v1687
  let v1674 : BitVec 32 := Scalar.divsi v1513 c11_i32_1723
  let c1_i32_1729 : BitVec 32 := 1#32
  let v1689 : BitVec 32 := Scalar.subi v1674 c1_i32_1729
  let v1690 : BitVec 32 := Scalar.select v1688 v1689 v1674
  let c11_i32_1730 : BitVec 32 := 11#32
  let v1691 : BitVec 32 := Scalar.muli v1690 c11_i32_1730
  let v1692 : BitVec 32 := Scalar.subi v1513 v1691
  let c3_i32_1767 : BitVec 32 := 3#32
  let v1728 : BitVec 32 := Scalar.muli v1692 c3_i32_1767
  let v1729 : Index := Scalar.indexCast v1728
  let c80_1769 : Index := 80#32
  let c0_1770 : Index := 0#32
  ![0, v1729.toNat, 80, 0]
def k0_off16 (k0_t1 : Fin k0_t1_loop.trips) (c1_i32_1776 : BitVec 32) : Fin 4 → Nat :=
  let c0_1777 : Index := 0#32
  let c0_i32_1595 : BitVec 32 := 0#32
  let c2_i32_1594 : BitVec 32 := 2#32
  let c0_i32_155 : BitVec 32 := 0#32
  let c1_i32 : BitVec 32 := 1#32
  let arg15 : BitVec 32 := Scf.iv c0_i32_155 c1_i32 k0_t1
  let v1511 : BitVec 32 := Scalar.muli c2_i32_1594 arg15
  let v1512 : BitVec 32 := Scalar.addi c0_i32_1595 v1511
  let c1_i32_1596 : BitVec 32 := 1#32
  let v1513 : BitVec 32 := Scalar.addi v1512 c1_i32_1596
  let c0_i32_1724 : BitVec 32 := 0#32
  let v1675 : BitVec 1 := Scalar.cmpi .sgt v1513 c0_i32_1724
  let v1676 : BitVec 32 := Scalar.extui v1675
  let c0_i32_1725 : BitVec 32 := 0#32
  let v1677 : BitVec 1 := Scalar.cmpi .slt v1513 c0_i32_1725
  let v1678 : BitVec 32 := Scalar.extui v1677
  let v1679 : BitVec 32 := Scalar.subi v1676 v1678
  let c11_i32_1723 : BitVec 32 := 11#32
  let c0_i32_1726 : BitVec 32 := 0#32
  let v1680 : BitVec 1 := Scalar.cmpi .sgt c11_i32_1723 c0_i32_1726
  let v1681 : BitVec 32 := Scalar.extui v1680
  let c0_i32_1727 : BitVec 32 := 0#32
  let v1682 : BitVec 1 := Scalar.cmpi .slt c11_i32_1723 c0_i32_1727
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1723
  let c0_i32_1728 : BitVec 32 := 0#32
  let v1687 : BitVec 1 := Scalar.cmpi .ne v1686 c0_i32_1728
  let v1688 : BitVec 1 := Scalar.andi v1685 v1687
  let v1674 : BitVec 32 := Scalar.divsi v1513 c11_i32_1723
  let c1_i32_1729 : BitVec 32 := 1#32
  let v1689 : BitVec 32 := Scalar.subi v1674 c1_i32_1729
  let v1690 : BitVec 32 := Scalar.select v1688 v1689 v1674
  let c11_i32_1730 : BitVec 32 := 11#32
  let v1691 : BitVec 32 := Scalar.muli v1690 c11_i32_1730
  let v1692 : BitVec 32 := Scalar.subi v1513 v1691
  let c3_i32_1775 : BitVec 32 := 3#32
  let v1735 : BitVec 32 := Scalar.muli v1692 c3_i32_1775
  let v1736 : BitVec 32 := Scalar.addi v1735 c1_i32_1776
  let v1737 : Index := Scalar.indexCast v1736
  let c80_1778 : Index := 80#32
  let c0_1779 : Index := 0#32
  ![0, v1737.toNat, 80, 0]
def k0_mult9 : BitVec 32 :=
  let c768_i32_157 : BitVec 32 := 768#32
  c768_i32_157
def k0_mult10 : BitVec 32 :=
  let c768_i32_181 : BitVec 32 := 768#32
  c768_i32_181
def k0_mult11 : BitVec 32 :=
  let c0_i32_326 : BitVec 32 := 0#32
  c0_i32_326
def k0_mult12 : BitVec 32 :=
  let c1536_i32 : BitVec 32 := 1536#32
  c1536_i32
def k0_mult13 : BitVec 32 :=
  let c1536_i32_356 : BitVec 32 := 1536#32
  c1536_i32_356
@[reducible] def k0_t2_loop : Scf.Loop 32 :=
  let c0_i32_495 : BitVec 32 := 0#32
  let c4_i32 : BitVec 32 := 4#32
  let v457 : BitVec 32 := Scalar.addi c0_i32_495 c4_i32
  let c1_i32_496 : BitVec 32 := 1#32
  ⟨c0_i32_495, v457, c1_i32_496⟩
def k0_mult14 (k0_t2 : Fin k0_t2_loop.trips) : BitVec 32 :=
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1397 : BitVec 32 := 768#32
  let v1282 : BitVec 32 := Scalar.muli v1281 c768_i32_1397
  v1282
def k0_off17 (k0_t2 : Fin k0_t2_loop.trips) : Fin 3 → Nat :=
  let c0_1398 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1397 : BitVec 32 := 768#32
  let v1282 : BitVec 32 := Scalar.muli v1281 c768_i32_1397
  let v1283 : BitVec 32 := v1282
  let v1284 : Index := Scalar.indexCast v1283
  let c0_1399 : Index := 0#32
  ![0, v1284.toNat, 0]
def k0_off18 (k0_t2 : Fin k0_t2_loop.trips) (c0_i32_1401 : BitVec 32) : Fin 4 → Nat :=
  let c0_1402 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c4_i32_1400 : BitVec 32 := 4#32
  let v1287 : BitVec 32 := Scalar.muli v1279 c4_i32_1400
  let v1288 : BitVec 32 := Scalar.addi v1287 c0_i32_1401
  let v1289 : Index := Scalar.indexCast v1288
  let c0_1403 : Index := 0#32
  let c0_1404 : Index := 0#32
  ![0, v1289.toNat, 0, 0]
def k0_mult15 (k0_t2 : Fin k0_t2_loop.trips) : BitVec 32 :=
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1428 : BitVec 32 := 768#32
  let v1317 : BitVec 32 := Scalar.muli v1281 c768_i32_1428
  v1317
def k0_off19 (k0_t2 : Fin k0_t2_loop.trips) : Fin 3 → Nat :=
  let c0_1429 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1428 : BitVec 32 := 768#32
  let v1317 : BitVec 32 := Scalar.muli v1281 c768_i32_1428
  let v1318 : BitVec 32 := v1317
  let v1319 : Index := Scalar.indexCast v1318
  let c128_1430 : Index := 128#32
  ![0, v1319.toNat, 128]
def k0_off20 (k0_t2 : Fin k0_t2_loop.trips) (c0_i32_1432 : BitVec 32) : Fin 4 → Nat :=
  let c0_1433 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c4_i32_1431 : BitVec 32 := 4#32
  let v1322 : BitVec 32 := Scalar.muli v1279 c4_i32_1431
  let v1323 : BitVec 32 := Scalar.addi v1322 c0_i32_1432
  let v1324 : Index := Scalar.indexCast v1323
  let c128_1434 : Index := 128#32
  let c0_1435 : Index := 0#32
  ![0, v1324.toNat, 128, 0]
def k0_off21 (k0_t2 : Fin k0_t2_loop.trips) : Fin 4 → Nat :=
  let c0_1522 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1521 : BitVec 32 := 3#32
  let v1441 : BitVec 32 := Scalar.muli v1440 c3_i32_1521
  let v1442 : Index := Scalar.indexCast v1441
  let c0_1523 : Index := 0#32
  let c0_1524 : Index := 0#32
  ![0, v1442.toNat, 0, 0]
def k0_off22 (k0_t2 : Fin k0_t2_loop.trips) (c1_i32_1530 : BitVec 32) : Fin 4 → Nat :=
  let c0_1531 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1529 : BitVec 32 := 3#32
  let v1448 : BitVec 32 := Scalar.muli v1440 c3_i32_1529
  let v1449 : BitVec 32 := Scalar.addi v1448 c1_i32_1530
  let v1450 : Index := Scalar.indexCast v1449
  let c0_1532 : Index := 0#32
  let c0_1533 : Index := 0#32
  ![0, v1450.toNat, 0, 0]
def k0_off23 (k0_t2 : Fin k0_t2_loop.trips) : Fin 4 → Nat :=
  let c0_1558 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1557 : BitVec 32 := 3#32
  let v1476 : BitVec 32 := Scalar.muli v1440 c3_i32_1557
  let v1477 : Index := Scalar.indexCast v1476
  let c80_1559 : Index := 80#32
  let c0_1560 : Index := 0#32
  ![0, v1477.toNat, 80, 0]
def k0_off24 (k0_t2 : Fin k0_t2_loop.trips) (c1_i32_1566 : BitVec 32) : Fin 4 → Nat :=
  let c0_1567 : Index := 0#32
  let c12_i32 : BitVec 32 := 12#32
  let c2_i32 : BitVec 32 := 2#32
  let c0_i32_495 : BitVec 32 := 0#32
  let c1_i32_496 : BitVec 32 := 1#32
  let arg15 : BitVec 32 := Scf.iv c0_i32_495 c1_i32_496 k0_t2
  let v1260 : BitVec 32 := Scalar.muli c2_i32 arg15
  let v1261 : BitVec 32 := Scalar.addi c12_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1565 : BitVec 32 := 3#32
  let v1483 : BitVec 32 := Scalar.muli v1440 c3_i32_1565
  let v1484 : BitVec 32 := Scalar.addi v1483 c1_i32_1566
  let v1485 : Index := Scalar.indexCast v1484
  let c80_1568 : Index := 80#32
  let c0_1569 : Index := 0#32
  ![0, v1485.toNat, 80, 0]
def k0_mult16 (k0_t2 : Fin k0_t2_loop.trips) : BitVec 32 :=
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1605 : BitVec 32 := 768#32
  let v1534 : BitVec 32 := Scalar.muli v1533 c768_i32_1605
  v1534
def k0_off25 (k0_t2 : Fin k0_t2_loop.trips) : Fin 3 → Nat :=
  let c0_1606 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1605 : BitVec 32 := 768#32
  let v1534 : BitVec 32 := Scalar.muli v1533 c768_i32_1605
  let v1535 : BitVec 32 := v1534
  let v1536 : Index := Scalar.indexCast v1535
  let c0_1607 : Index := 0#32
  ![0, v1536.toNat, 0]
def k0_off26 (k0_t2 : Fin k0_t2_loop.trips) (c0_i32_1609 : BitVec 32) : Fin 4 → Nat :=
  let c0_1610 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c4_i32_1608 : BitVec 32 := 4#32
  let v1539 : BitVec 32 := Scalar.muli v1531 c4_i32_1608
  let v1540 : BitVec 32 := Scalar.addi v1539 c0_i32_1609
  let v1541 : Index := Scalar.indexCast v1540
  let c0_1611 : Index := 0#32
  let c0_1612 : Index := 0#32
  ![0, v1541.toNat, 0, 0]
def k0_mult17 (k0_t2 : Fin k0_t2_loop.trips) : BitVec 32 :=
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1637 : BitVec 32 := 768#32
  let v1569 : BitVec 32 := Scalar.muli v1533 c768_i32_1637
  v1569
def k0_off27 (k0_t2 : Fin k0_t2_loop.trips) : Fin 3 → Nat :=
  let c0_1638 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1637 : BitVec 32 := 768#32
  let v1569 : BitVec 32 := Scalar.muli v1533 c768_i32_1637
  let v1570 : BitVec 32 := v1569
  let v1571 : Index := Scalar.indexCast v1570
  let c128_1639 : Index := 128#32
  ![0, v1571.toNat, 128]
def k0_off28 (k0_t2 : Fin k0_t2_loop.trips) (c0_i32_1641 : BitVec 32) : Fin 4 → Nat :=
  let c0_1642 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c4_i32_1640 : BitVec 32 := 4#32
  let v1574 : BitVec 32 := Scalar.muli v1531 c4_i32_1640
  let v1575 : BitVec 32 := Scalar.addi v1574 c0_i32_1641
  let v1576 : Index := Scalar.indexCast v1575
  let c128_1643 : Index := 128#32
  let c0_1644 : Index := 0#32
  ![0, v1576.toNat, 128, 0]
def k0_off29 (k0_t2 : Fin k0_t2_loop.trips) : Fin 4 → Nat :=
  let c0_1731 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1730 : BitVec 32 := 3#32
  let v1693 : BitVec 32 := Scalar.muli v1692 c3_i32_1730
  let v1694 : Index := Scalar.indexCast v1693
  let c0_1732 : Index := 0#32
  let c0_1733 : Index := 0#32
  ![0, v1694.toNat, 0, 0]
def k0_off30 (k0_t2 : Fin k0_t2_loop.trips) (c1_i32_1739 : BitVec 32) : Fin 4 → Nat :=
  let c0_1740 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1738 : BitVec 32 := 3#32
  let v1700 : BitVec 32 := Scalar.muli v1692 c3_i32_1738
  let v1701 : BitVec 32 := Scalar.addi v1700 c1_i32_1739
  let v1702 : Index := Scalar.indexCast v1701
  let c0_1741 : Index := 0#32
  let c0_1742 : Index := 0#32
  ![0, v1702.toNat, 0, 0]
def k0_off31 (k0_t2 : Fin k0_t2_loop.trips) : Fin 4 → Nat :=
  let c0_1767 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1766 : BitVec 32 := 3#32
  let v1728 : BitVec 32 := Scalar.muli v1692 c3_i32_1766
  let v1729 : Index := Scalar.indexCast v1728
  let c80_1768 : Index := 80#32
  let c0_1769 : Index := 0#32
  ![0, v1729.toNat, 80, 0]
def k0_off32 (k0_t2 : Fin k0_t2_loop.trips) (c1_i32_1775 : BitVec 32) : Fin 4 → Nat :=
  let c0_1776 : Index := 0#32
  let c12_i32_1594 : BitVec 32 := 12#32
  let c2_i32_1593 : BitVec 32 := 2#32
  let c0_i32_495 : BitVec 32 := 0#32
  let c1_i32_496 : BitVec 32 := 1#32
  let arg15 : BitVec 32 := Scf.iv c0_i32_495 c1_i32_496 k0_t2
  let v1511 : BitVec 32 := Scalar.muli c2_i32_1593 arg15
  let v1512 : BitVec 32 := Scalar.addi c12_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1774 : BitVec 32 := 3#32
  let v1735 : BitVec 32 := Scalar.muli v1692 c3_i32_1774
  let v1736 : BitVec 32 := Scalar.addi v1735 c1_i32_1775
  let v1737 : Index := Scalar.indexCast v1736
  let c80_1777 : Index := 80#32
  let c0_1778 : Index := 0#32
  ![0, v1737.toNat, 80, 0]
def k0_mult18 : BitVec 32 :=
  let c0_i32_498 : BitVec 32 := 0#32
  c0_i32_498
def k0_mult19 : BitVec 32 :=
  let c0_i32_522 : BitVec 32 := 0#32
  c0_i32_522
def k0_mult20 : BitVec 32 :=
  let c768_i32_659 : BitVec 32 := 768#32
  c768_i32_659
def k0_mult21 : BitVec 32 :=
  let c768_i32_687 : BitVec 32 := 768#32
  c768_i32_687
def k0_mult22 : BitVec 32 :=
  let c1024_i32 : BitVec 32 := 1024#32
  c1024_i32
@[reducible] def k0_t3_loop : Scf.Loop 32 :=
  let c0_i32_841 : BitVec 32 := 0#32
  let c5_i32_842 : BitVec 32 := 5#32
  let v770 : BitVec 32 := Scalar.addi c0_i32_841 c5_i32_842
  let c1_i32_843 : BitVec 32 := 1#32
  ⟨c0_i32_841, v770, c1_i32_843⟩
def k0_mult23 (k0_t3 : Fin k0_t3_loop.trips) : BitVec 32 :=
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1397 : BitVec 32 := 768#32
  let v1282 : BitVec 32 := Scalar.muli v1281 c768_i32_1397
  v1282
def k0_off33 (k0_t3 : Fin k0_t3_loop.trips) : Fin 3 → Nat :=
  let c0_1398 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1397 : BitVec 32 := 768#32
  let v1282 : BitVec 32 := Scalar.muli v1281 c768_i32_1397
  let v1283 : BitVec 32 := v1282
  let v1284 : Index := Scalar.indexCast v1283
  let c0_1399 : Index := 0#32
  ![0, v1284.toNat, 0]
def k0_off34 (k0_t3 : Fin k0_t3_loop.trips) (c0_i32_1401 : BitVec 32) : Fin 4 → Nat :=
  let c0_1402 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c4_i32_1400 : BitVec 32 := 4#32
  let v1287 : BitVec 32 := Scalar.muli v1279 c4_i32_1400
  let v1288 : BitVec 32 := Scalar.addi v1287 c0_i32_1401
  let v1289 : Index := Scalar.indexCast v1288
  let c0_1403 : Index := 0#32
  let c0_1404 : Index := 0#32
  ![0, v1289.toNat, 0, 0]
def k0_mult24 (k0_t3 : Fin k0_t3_loop.trips) : BitVec 32 :=
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1428 : BitVec 32 := 768#32
  let v1317 : BitVec 32 := Scalar.muli v1281 c768_i32_1428
  v1317
def k0_off35 (k0_t3 : Fin k0_t3_loop.trips) : Fin 3 → Nat :=
  let c0_1429 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1428 : BitVec 32 := 768#32
  let v1317 : BitVec 32 := Scalar.muli v1281 c768_i32_1428
  let v1318 : BitVec 32 := v1317
  let v1319 : Index := Scalar.indexCast v1318
  let c128_1430 : Index := 128#32
  ![0, v1319.toNat, 128]
def k0_off36 (k0_t3 : Fin k0_t3_loop.trips) (c0_i32_1432 : BitVec 32) : Fin 4 → Nat :=
  let c0_1433 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c4_i32_1431 : BitVec 32 := 4#32
  let v1322 : BitVec 32 := Scalar.muli v1279 c4_i32_1431
  let v1323 : BitVec 32 := Scalar.addi v1322 c0_i32_1432
  let v1324 : Index := Scalar.indexCast v1323
  let c128_1434 : Index := 128#32
  let c0_1435 : Index := 0#32
  ![0, v1324.toNat, 128, 0]
def k0_off37 (k0_t3 : Fin k0_t3_loop.trips) : Fin 4 → Nat :=
  let c0_1522 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1521 : BitVec 32 := 3#32
  let v1441 : BitVec 32 := Scalar.muli v1440 c3_i32_1521
  let v1442 : Index := Scalar.indexCast v1441
  let c0_1523 : Index := 0#32
  let c0_1524 : Index := 0#32
  ![0, v1442.toNat, 0, 0]
def k0_off38 (k0_t3 : Fin k0_t3_loop.trips) (c1_i32_1530 : BitVec 32) : Fin 4 → Nat :=
  let c0_1531 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1529 : BitVec 32 := 3#32
  let v1448 : BitVec 32 := Scalar.muli v1440 c3_i32_1529
  let v1449 : BitVec 32 := Scalar.addi v1448 c1_i32_1530
  let v1450 : Index := Scalar.indexCast v1449
  let c0_1532 : Index := 0#32
  let c0_1533 : Index := 0#32
  ![0, v1450.toNat, 0, 0]
def k0_off39 (k0_t3 : Fin k0_t3_loop.trips) : Fin 4 → Nat :=
  let c0_1558 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1557 : BitVec 32 := 3#32
  let v1476 : BitVec 32 := Scalar.muli v1440 c3_i32_1557
  let v1477 : Index := Scalar.indexCast v1476
  let c80_1559 : Index := 80#32
  let c0_1560 : Index := 0#32
  ![0, v1477.toNat, 80, 0]
def k0_off40 (k0_t3 : Fin k0_t3_loop.trips) (c1_i32_1566 : BitVec 32) : Fin 4 → Nat :=
  let c0_1567 : Index := 0#32
  let c22_i32 : BitVec 32 := 22#32
  let c2_i32 : BitVec 32 := 2#32
  let c0_i32_841 : BitVec 32 := 0#32
  let c1_i32_843 : BitVec 32 := 1#32
  let arg15 : BitVec 32 := Scf.iv c0_i32_841 c1_i32_843 k0_t3
  let v1260 : BitVec 32 := Scalar.muli c2_i32 arg15
  let v1261 : BitVec 32 := Scalar.addi c22_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1565 : BitVec 32 := 3#32
  let v1483 : BitVec 32 := Scalar.muli v1440 c3_i32_1565
  let v1484 : BitVec 32 := Scalar.addi v1483 c1_i32_1566
  let v1485 : Index := Scalar.indexCast v1484
  let c80_1568 : Index := 80#32
  let c0_1569 : Index := 0#32
  ![0, v1485.toNat, 80, 0]
def k0_mult25 (k0_t3 : Fin k0_t3_loop.trips) : BitVec 32 :=
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1605 : BitVec 32 := 768#32
  let v1534 : BitVec 32 := Scalar.muli v1533 c768_i32_1605
  v1534
def k0_off41 (k0_t3 : Fin k0_t3_loop.trips) : Fin 3 → Nat :=
  let c0_1606 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1605 : BitVec 32 := 768#32
  let v1534 : BitVec 32 := Scalar.muli v1533 c768_i32_1605
  let v1535 : BitVec 32 := v1534
  let v1536 : Index := Scalar.indexCast v1535
  let c0_1607 : Index := 0#32
  ![0, v1536.toNat, 0]
def k0_off42 (k0_t3 : Fin k0_t3_loop.trips) (c0_i32_1609 : BitVec 32) : Fin 4 → Nat :=
  let c0_1610 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c4_i32_1608 : BitVec 32 := 4#32
  let v1539 : BitVec 32 := Scalar.muli v1531 c4_i32_1608
  let v1540 : BitVec 32 := Scalar.addi v1539 c0_i32_1609
  let v1541 : Index := Scalar.indexCast v1540
  let c0_1611 : Index := 0#32
  let c0_1612 : Index := 0#32
  ![0, v1541.toNat, 0, 0]
def k0_mult26 (k0_t3 : Fin k0_t3_loop.trips) : BitVec 32 :=
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1637 : BitVec 32 := 768#32
  let v1569 : BitVec 32 := Scalar.muli v1533 c768_i32_1637
  v1569
def k0_off43 (k0_t3 : Fin k0_t3_loop.trips) : Fin 3 → Nat :=
  let c0_1638 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1637 : BitVec 32 := 768#32
  let v1569 : BitVec 32 := Scalar.muli v1533 c768_i32_1637
  let v1570 : BitVec 32 := v1569
  let v1571 : Index := Scalar.indexCast v1570
  let c128_1639 : Index := 128#32
  ![0, v1571.toNat, 128]
def k0_off44 (k0_t3 : Fin k0_t3_loop.trips) (c0_i32_1641 : BitVec 32) : Fin 4 → Nat :=
  let c0_1642 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c4_i32_1640 : BitVec 32 := 4#32
  let v1574 : BitVec 32 := Scalar.muli v1531 c4_i32_1640
  let v1575 : BitVec 32 := Scalar.addi v1574 c0_i32_1641
  let v1576 : Index := Scalar.indexCast v1575
  let c128_1643 : Index := 128#32
  let c0_1644 : Index := 0#32
  ![0, v1576.toNat, 128, 0]
def k0_off45 (k0_t3 : Fin k0_t3_loop.trips) : Fin 4 → Nat :=
  let c0_1731 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1730 : BitVec 32 := 3#32
  let v1693 : BitVec 32 := Scalar.muli v1692 c3_i32_1730
  let v1694 : Index := Scalar.indexCast v1693
  let c0_1732 : Index := 0#32
  let c0_1733 : Index := 0#32
  ![0, v1694.toNat, 0, 0]
def k0_off46 (k0_t3 : Fin k0_t3_loop.trips) (c1_i32_1739 : BitVec 32) : Fin 4 → Nat :=
  let c0_1740 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1738 : BitVec 32 := 3#32
  let v1700 : BitVec 32 := Scalar.muli v1692 c3_i32_1738
  let v1701 : BitVec 32 := Scalar.addi v1700 c1_i32_1739
  let v1702 : Index := Scalar.indexCast v1701
  let c0_1741 : Index := 0#32
  let c0_1742 : Index := 0#32
  ![0, v1702.toNat, 0, 0]
def k0_off47 (k0_t3 : Fin k0_t3_loop.trips) : Fin 4 → Nat :=
  let c0_1767 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1766 : BitVec 32 := 3#32
  let v1728 : BitVec 32 := Scalar.muli v1692 c3_i32_1766
  let v1729 : Index := Scalar.indexCast v1728
  let c80_1768 : Index := 80#32
  let c0_1769 : Index := 0#32
  ![0, v1729.toNat, 80, 0]
def k0_off48 (k0_t3 : Fin k0_t3_loop.trips) (c1_i32_1775 : BitVec 32) : Fin 4 → Nat :=
  let c0_1776 : Index := 0#32
  let c22_i32_1594 : BitVec 32 := 22#32
  let c2_i32_1593 : BitVec 32 := 2#32
  let c0_i32_841 : BitVec 32 := 0#32
  let c1_i32_843 : BitVec 32 := 1#32
  let arg15 : BitVec 32 := Scf.iv c0_i32_841 c1_i32_843 k0_t3
  let v1511 : BitVec 32 := Scalar.muli c2_i32_1593 arg15
  let v1512 : BitVec 32 := Scalar.addi c22_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1774 : BitVec 32 := 3#32
  let v1735 : BitVec 32 := Scalar.muli v1692 c3_i32_1774
  let v1736 : BitVec 32 := Scalar.addi v1735 c1_i32_1775
  let v1737 : Index := Scalar.indexCast v1736
  let c80_1777 : Index := 80#32
  let c0_1778 : Index := 0#32
  ![0, v1737.toNat, 80, 0]
def k0_mult27 : BitVec 32 :=
  let c768_i32_845 : BitVec 32 := 768#32
  c768_i32_845
def k0_mult28 : BitVec 32 :=
  let c768_i32_869 : BitVec 32 := 768#32
  c768_i32_869
def k0_mult29 : BitVec 32 :=
  let c2048_i32 : BitVec 32 := 2048#32
  c2048_i32
def k0_mult30 : BitVec 32 :=
  let c1536_i32_1023 : BitVec 32 := 1536#32
  c1536_i32_1023
def k0_mult31 : BitVec 32 :=
  let c1536_i32_1051 : BitVec 32 := 1536#32
  c1536_i32_1051
@[reducible] def k0_t4_loop : Scf.Loop 32 :=
  let c0_i32_1191 : BitVec 32 := 0#32
  let c4_i32_1192 : BitVec 32 := 4#32
  let v1083 : BitVec 32 := Scalar.addi c0_i32_1191 c4_i32_1192
  let c1_i32_1193 : BitVec 32 := 1#32
  ⟨c0_i32_1191, v1083, c1_i32_1193⟩
def k0_mult32 (k0_t4 : Fin k0_t4_loop.trips) : BitVec 32 :=
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1397 : BitVec 32 := 768#32
  let v1282 : BitVec 32 := Scalar.muli v1281 c768_i32_1397
  v1282
def k0_off49 (k0_t4 : Fin k0_t4_loop.trips) : Fin 3 → Nat :=
  let c0_1398 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1397 : BitVec 32 := 768#32
  let v1282 : BitVec 32 := Scalar.muli v1281 c768_i32_1397
  let v1283 : BitVec 32 := v1282
  let v1284 : Index := Scalar.indexCast v1283
  let c0_1399 : Index := 0#32
  ![0, v1284.toNat, 0]
def k0_off50 (k0_t4 : Fin k0_t4_loop.trips) (c0_i32_1401 : BitVec 32) : Fin 4 → Nat :=
  let c0_1402 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c4_i32_1400 : BitVec 32 := 4#32
  let v1287 : BitVec 32 := Scalar.muli v1279 c4_i32_1400
  let v1288 : BitVec 32 := Scalar.addi v1287 c0_i32_1401
  let v1289 : Index := Scalar.indexCast v1288
  let c0_1403 : Index := 0#32
  let c0_1404 : Index := 0#32
  ![0, v1289.toNat, 0, 0]
def k0_mult33 (k0_t4 : Fin k0_t4_loop.trips) : BitVec 32 :=
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1428 : BitVec 32 := 768#32
  let v1317 : BitVec 32 := Scalar.muli v1281 c768_i32_1428
  v1317
def k0_off51 (k0_t4 : Fin k0_t4_loop.trips) : Fin 3 → Nat :=
  let c0_1429 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c11_i32_1396 : BitVec 32 := 11#32
  let v1280 : BitVec 32 := Scalar.muli v1279 c11_i32_1396
  let v1281 : BitVec 32 := Scalar.subi v1262 v1280
  let c768_i32_1428 : BitVec 32 := 768#32
  let v1317 : BitVec 32 := Scalar.muli v1281 c768_i32_1428
  let v1318 : BitVec 32 := v1317
  let v1319 : Index := Scalar.indexCast v1318
  let c128_1430 : Index := 128#32
  ![0, v1319.toNat, 128]
def k0_off52 (k0_t4 : Fin k0_t4_loop.trips) (c0_i32_1432 : BitVec 32) : Fin 4 → Nat :=
  let c0_1433 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c2_i32_1389 : BitVec 32 := 2#32
  let v1262 : BitVec 32 := Scalar.addi v1261 c2_i32_1389
  let c0_i32_1390 : BitVec 32 := 0#32
  let v1264 : BitVec 1 := Scalar.cmpi .sgt v1262 c0_i32_1390
  let v1265 : BitVec 32 := Scalar.extui v1264
  let c0_i32_1391 : BitVec 32 := 0#32
  let v1266 : BitVec 1 := Scalar.cmpi .slt v1262 c0_i32_1391
  let v1267 : BitVec 32 := Scalar.extui v1266
  let v1268 : BitVec 32 := Scalar.subi v1265 v1267
  let c11_i32 : BitVec 32 := 11#32
  let c0_i32_1392 : BitVec 32 := 0#32
  let v1269 : BitVec 1 := Scalar.cmpi .sgt c11_i32 c0_i32_1392
  let v1270 : BitVec 32 := Scalar.extui v1269
  let c0_i32_1393 : BitVec 32 := 0#32
  let v1271 : BitVec 1 := Scalar.cmpi .slt c11_i32 c0_i32_1393
  let v1272 : BitVec 32 := Scalar.extui v1271
  let v1273 : BitVec 32 := Scalar.subi v1270 v1272
  let v1274 : BitVec 1 := Scalar.cmpi .ne v1268 v1273
  let v1275 : BitVec 32 := Scalar.remsi v1262 c11_i32
  let c0_i32_1394 : BitVec 32 := 0#32
  let v1276 : BitVec 1 := Scalar.cmpi .ne v1275 c0_i32_1394
  let v1277 : BitVec 1 := Scalar.andi v1274 v1276
  let v1263 : BitVec 32 := Scalar.divsi v1262 c11_i32
  let c1_i32_1395 : BitVec 32 := 1#32
  let v1278 : BitVec 32 := Scalar.subi v1263 c1_i32_1395
  let v1279 : BitVec 32 := Scalar.select v1277 v1278 v1263
  let c4_i32_1431 : BitVec 32 := 4#32
  let v1322 : BitVec 32 := Scalar.muli v1279 c4_i32_1431
  let v1323 : BitVec 32 := Scalar.addi v1322 c0_i32_1432
  let v1324 : Index := Scalar.indexCast v1323
  let c128_1434 : Index := 128#32
  let c0_1435 : Index := 0#32
  ![0, v1324.toNat, 128, 0]
def k0_off53 (k0_t4 : Fin k0_t4_loop.trips) : Fin 4 → Nat :=
  let c0_1522 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1521 : BitVec 32 := 3#32
  let v1441 : BitVec 32 := Scalar.muli v1440 c3_i32_1521
  let v1442 : Index := Scalar.indexCast v1441
  let c0_1523 : Index := 0#32
  let c0_1524 : Index := 0#32
  ![0, v1442.toNat, 0, 0]
def k0_off54 (k0_t4 : Fin k0_t4_loop.trips) (c1_i32_1530 : BitVec 32) : Fin 4 → Nat :=
  let c0_1531 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1529 : BitVec 32 := 3#32
  let v1448 : BitVec 32 := Scalar.muli v1440 c3_i32_1529
  let v1449 : BitVec 32 := Scalar.addi v1448 c1_i32_1530
  let v1450 : Index := Scalar.indexCast v1449
  let c0_1532 : Index := 0#32
  let c0_1533 : Index := 0#32
  ![0, v1450.toNat, 0, 0]
def k0_off55 (k0_t4 : Fin k0_t4_loop.trips) : Fin 4 → Nat :=
  let c0_1558 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1557 : BitVec 32 := 3#32
  let v1476 : BitVec 32 := Scalar.muli v1440 c3_i32_1557
  let v1477 : Index := Scalar.indexCast v1476
  let c80_1559 : Index := 80#32
  let c0_1560 : Index := 0#32
  ![0, v1477.toNat, 80, 0]
def k0_off56 (k0_t4 : Fin k0_t4_loop.trips) (c1_i32_1566 : BitVec 32) : Fin 4 → Nat :=
  let c0_1567 : Index := 0#32
  let c34_i32 : BitVec 32 := 34#32
  let c2_i32 : BitVec 32 := 2#32
  let c0_i32_1191 : BitVec 32 := 0#32
  let c1_i32_1193 : BitVec 32 := 1#32
  let arg15 : BitVec 32 := Scf.iv c0_i32_1191 c1_i32_1193 k0_t4
  let v1260 : BitVec 32 := Scalar.muli c2_i32 arg15
  let v1261 : BitVec 32 := Scalar.addi c34_i32 v1260
  let c0_i32_1514 : BitVec 32 := 0#32
  let v1423 : BitVec 1 := Scalar.cmpi .sgt v1261 c0_i32_1514
  let v1424 : BitVec 32 := Scalar.extui v1423
  let c0_i32_1515 : BitVec 32 := 0#32
  let v1425 : BitVec 1 := Scalar.cmpi .slt v1261 c0_i32_1515
  let v1426 : BitVec 32 := Scalar.extui v1425
  let v1427 : BitVec 32 := Scalar.subi v1424 v1426
  let c11_i32_1513 : BitVec 32 := 11#32
  let c0_i32_1516 : BitVec 32 := 0#32
  let v1428 : BitVec 1 := Scalar.cmpi .sgt c11_i32_1513 c0_i32_1516
  let v1429 : BitVec 32 := Scalar.extui v1428
  let c0_i32_1517 : BitVec 32 := 0#32
  let v1430 : BitVec 1 := Scalar.cmpi .slt c11_i32_1513 c0_i32_1517
  let v1431 : BitVec 32 := Scalar.extui v1430
  let v1432 : BitVec 32 := Scalar.subi v1429 v1431
  let v1433 : BitVec 1 := Scalar.cmpi .ne v1427 v1432
  let v1434 : BitVec 32 := Scalar.remsi v1261 c11_i32_1513
  let c0_i32_1518 : BitVec 32 := 0#32
  let v1435 : BitVec 1 := Scalar.cmpi .ne v1434 c0_i32_1518
  let v1436 : BitVec 1 := Scalar.andi v1433 v1435
  let v1422 : BitVec 32 := Scalar.divsi v1261 c11_i32_1513
  let c1_i32_1519 : BitVec 32 := 1#32
  let v1437 : BitVec 32 := Scalar.subi v1422 c1_i32_1519
  let v1438 : BitVec 32 := Scalar.select v1436 v1437 v1422
  let c11_i32_1520 : BitVec 32 := 11#32
  let v1439 : BitVec 32 := Scalar.muli v1438 c11_i32_1520
  let v1440 : BitVec 32 := Scalar.subi v1261 v1439
  let c3_i32_1565 : BitVec 32 := 3#32
  let v1483 : BitVec 32 := Scalar.muli v1440 c3_i32_1565
  let v1484 : BitVec 32 := Scalar.addi v1483 c1_i32_1566
  let v1485 : Index := Scalar.indexCast v1484
  let c80_1568 : Index := 80#32
  let c0_1569 : Index := 0#32
  ![0, v1485.toNat, 80, 0]
def k0_mult34 (k0_t4 : Fin k0_t4_loop.trips) : BitVec 32 :=
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1605 : BitVec 32 := 768#32
  let v1534 : BitVec 32 := Scalar.muli v1533 c768_i32_1605
  v1534
def k0_off57 (k0_t4 : Fin k0_t4_loop.trips) : Fin 3 → Nat :=
  let c0_1606 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1605 : BitVec 32 := 768#32
  let v1534 : BitVec 32 := Scalar.muli v1533 c768_i32_1605
  let v1535 : BitVec 32 := v1534
  let v1536 : Index := Scalar.indexCast v1535
  let c0_1607 : Index := 0#32
  ![0, v1536.toNat, 0]
def k0_off58 (k0_t4 : Fin k0_t4_loop.trips) (c0_i32_1609 : BitVec 32) : Fin 4 → Nat :=
  let c0_1610 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c4_i32_1608 : BitVec 32 := 4#32
  let v1539 : BitVec 32 := Scalar.muli v1531 c4_i32_1608
  let v1540 : BitVec 32 := Scalar.addi v1539 c0_i32_1609
  let v1541 : Index := Scalar.indexCast v1540
  let c0_1611 : Index := 0#32
  let c0_1612 : Index := 0#32
  ![0, v1541.toNat, 0, 0]
def k0_mult35 (k0_t4 : Fin k0_t4_loop.trips) : BitVec 32 :=
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1637 : BitVec 32 := 768#32
  let v1569 : BitVec 32 := Scalar.muli v1533 c768_i32_1637
  v1569
def k0_off59 (k0_t4 : Fin k0_t4_loop.trips) : Fin 3 → Nat :=
  let c0_1638 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c11_i32_1604 : BitVec 32 := 11#32
  let v1532 : BitVec 32 := Scalar.muli v1531 c11_i32_1604
  let v1533 : BitVec 32 := Scalar.subi v1514 v1532
  let c768_i32_1637 : BitVec 32 := 768#32
  let v1569 : BitVec 32 := Scalar.muli v1533 c768_i32_1637
  let v1570 : BitVec 32 := v1569
  let v1571 : Index := Scalar.indexCast v1570
  let c128_1639 : Index := 128#32
  ![0, v1571.toNat, 128]
def k0_off60 (k0_t4 : Fin k0_t4_loop.trips) (c0_i32_1641 : BitVec 32) : Fin 4 → Nat :=
  let c0_1642 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c2_i32_1596 : BitVec 32 := 2#32
  let v1514 : BitVec 32 := Scalar.addi v1513 c2_i32_1596
  let c0_i32_1598 : BitVec 32 := 0#32
  let v1516 : BitVec 1 := Scalar.cmpi .sgt v1514 c0_i32_1598
  let v1517 : BitVec 32 := Scalar.extui v1516
  let c0_i32_1599 : BitVec 32 := 0#32
  let v1518 : BitVec 1 := Scalar.cmpi .slt v1514 c0_i32_1599
  let v1519 : BitVec 32 := Scalar.extui v1518
  let v1520 : BitVec 32 := Scalar.subi v1517 v1519
  let c11_i32_1597 : BitVec 32 := 11#32
  let c0_i32_1600 : BitVec 32 := 0#32
  let v1521 : BitVec 1 := Scalar.cmpi .sgt c11_i32_1597 c0_i32_1600
  let v1522 : BitVec 32 := Scalar.extui v1521
  let c0_i32_1601 : BitVec 32 := 0#32
  let v1523 : BitVec 1 := Scalar.cmpi .slt c11_i32_1597 c0_i32_1601
  let v1524 : BitVec 32 := Scalar.extui v1523
  let v1525 : BitVec 32 := Scalar.subi v1522 v1524
  let v1526 : BitVec 1 := Scalar.cmpi .ne v1520 v1525
  let v1527 : BitVec 32 := Scalar.remsi v1514 c11_i32_1597
  let c0_i32_1602 : BitVec 32 := 0#32
  let v1528 : BitVec 1 := Scalar.cmpi .ne v1527 c0_i32_1602
  let v1529 : BitVec 1 := Scalar.andi v1526 v1528
  let v1515 : BitVec 32 := Scalar.divsi v1514 c11_i32_1597
  let c1_i32_1603 : BitVec 32 := 1#32
  let v1530 : BitVec 32 := Scalar.subi v1515 c1_i32_1603
  let v1531 : BitVec 32 := Scalar.select v1529 v1530 v1515
  let c4_i32_1640 : BitVec 32 := 4#32
  let v1574 : BitVec 32 := Scalar.muli v1531 c4_i32_1640
  let v1575 : BitVec 32 := Scalar.addi v1574 c0_i32_1641
  let v1576 : Index := Scalar.indexCast v1575
  let c128_1643 : Index := 128#32
  let c0_1644 : Index := 0#32
  ![0, v1576.toNat, 128, 0]
def k0_off61 (k0_t4 : Fin k0_t4_loop.trips) : Fin 4 → Nat :=
  let c0_1731 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1730 : BitVec 32 := 3#32
  let v1693 : BitVec 32 := Scalar.muli v1692 c3_i32_1730
  let v1694 : Index := Scalar.indexCast v1693
  let c0_1732 : Index := 0#32
  let c0_1733 : Index := 0#32
  ![0, v1694.toNat, 0, 0]
def k0_off62 (k0_t4 : Fin k0_t4_loop.trips) (c1_i32_1739 : BitVec 32) : Fin 4 → Nat :=
  let c0_1740 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1738 : BitVec 32 := 3#32
  let v1700 : BitVec 32 := Scalar.muli v1692 c3_i32_1738
  let v1701 : BitVec 32 := Scalar.addi v1700 c1_i32_1739
  let v1702 : Index := Scalar.indexCast v1701
  let c0_1741 : Index := 0#32
  let c0_1742 : Index := 0#32
  ![0, v1702.toNat, 0, 0]
def k0_off63 (k0_t4 : Fin k0_t4_loop.trips) : Fin 4 → Nat :=
  let c0_1767 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1766 : BitVec 32 := 3#32
  let v1728 : BitVec 32 := Scalar.muli v1692 c3_i32_1766
  let v1729 : Index := Scalar.indexCast v1728
  let c80_1768 : Index := 80#32
  let c0_1769 : Index := 0#32
  ![0, v1729.toNat, 80, 0]
def k0_off64 (k0_t4 : Fin k0_t4_loop.trips) (c1_i32_1775 : BitVec 32) : Fin 4 → Nat :=
  let c0_1776 : Index := 0#32
  let c34_i32_1594 : BitVec 32 := 34#32
  let c2_i32_1593 : BitVec 32 := 2#32
  let c0_i32_1191 : BitVec 32 := 0#32
  let c1_i32_1193 : BitVec 32 := 1#32
  let arg15 : BitVec 32 := Scf.iv c0_i32_1191 c1_i32_1193 k0_t4
  let v1511 : BitVec 32 := Scalar.muli c2_i32_1593 arg15
  let v1512 : BitVec 32 := Scalar.addi c34_i32_1594 v1511
  let c1_i32_1595 : BitVec 32 := 1#32
  let v1513 : BitVec 32 := Scalar.addi v1512 c1_i32_1595
  let c0_i32_1723 : BitVec 32 := 0#32
  let v1675 : BitVec 1 := Scalar.cmpi .sgt v1513 c0_i32_1723
  let v1676 : BitVec 32 := Scalar.extui v1675
  let c0_i32_1724 : BitVec 32 := 0#32
  let v1677 : BitVec 1 := Scalar.cmpi .slt v1513 c0_i32_1724
  let v1678 : BitVec 32 := Scalar.extui v1677
  let v1679 : BitVec 32 := Scalar.subi v1676 v1678
  let c11_i32_1722 : BitVec 32 := 11#32
  let c0_i32_1725 : BitVec 32 := 0#32
  let v1680 : BitVec 1 := Scalar.cmpi .sgt c11_i32_1722 c0_i32_1725
  let v1681 : BitVec 32 := Scalar.extui v1680
  let c0_i32_1726 : BitVec 32 := 0#32
  let v1682 : BitVec 1 := Scalar.cmpi .slt c11_i32_1722 c0_i32_1726
  let v1683 : BitVec 32 := Scalar.extui v1682
  let v1684 : BitVec 32 := Scalar.subi v1681 v1683
  let v1685 : BitVec 1 := Scalar.cmpi .ne v1679 v1684
  let v1686 : BitVec 32 := Scalar.remsi v1513 c11_i32_1722
  let c0_i32_1727 : BitVec 32 := 0#32
  let v1687 : BitVec 1 := Scalar.cmpi .ne v1686 c0_i32_1727
  let v1688 : BitVec 1 := Scalar.andi v1685 v1687
  let v1674 : BitVec 32 := Scalar.divsi v1513 c11_i32_1722
  let c1_i32_1728 : BitVec 32 := 1#32
  let v1689 : BitVec 32 := Scalar.subi v1674 c1_i32_1728
  let v1690 : BitVec 32 := Scalar.select v1688 v1689 v1674
  let c11_i32_1729 : BitVec 32 := 11#32
  let v1691 : BitVec 32 := Scalar.muli v1690 c11_i32_1729
  let v1692 : BitVec 32 := Scalar.subi v1513 v1691
  let c3_i32_1774 : BitVec 32 := 3#32
  let v1735 : BitVec 32 := Scalar.muli v1692 c3_i32_1774
  let v1736 : BitVec 32 := Scalar.addi v1735 c1_i32_1775
  let v1737 : Index := Scalar.indexCast v1736
  let c80_1777 : Index := 80#32
  let c0_1778 : Index := 0#32
  ![0, v1737.toNat, 80, 0]
def k0_mult36 : BitVec 32 :=
  let c3072_i32 : BitVec 32 := 3072#32
  c3072_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x8x96 : Shape := ⟨4, ![8, 8192, 8, 96]⟩
abbrev S8x8192x8x64 : Shape := ⟨4, ![8, 8192, 8, 64]⟩
abbrev S8x256x8x96 : Shape := ⟨4, ![8, 256, 8, 96]⟩
abbrev S8x256x8x64 : Shape := ⟨4, ![8, 256, 8, 64]⟩
abbrev S8x8448x8x96 : Shape := ⟨4, ![8, 8448, 8, 96]⟩
abbrev S8x8448x8x64 : Shape := ⟨4, ![8, 8448, 8, 64]⟩
abbrev S8x8x8192x8448 : Shape := ⟨4, ![8, 8, 8192, 8448]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x8192x512 : Shape := ⟨3, ![8, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S8x256x8x96, .f32⟩
  | .hbm, ⟨4, _⟩ => ⟨S8x256x8x64, .f32⟩
  | .hbm, ⟨5, _⟩ => ⟨S8x8448x8x96, .f32⟩
  | .hbm, ⟨6, _⟩ => ⟨S8x8448x8x64, .f32⟩
  | .hbm, ⟨7, _⟩ => ⟨S8x8x8192x8448, .f32⟩
  | .hbm, ⟨8, _⟩ => ⟨S_, .f32⟩
  | .hbm, ⟨9, _⟩ => ⟨S8x8x8192x8448, .f32⟩
  | .hbm, ⟨10, _⟩ => ⟨S8x8x8192x8448, .f32⟩
  | .hbm, ⟨11, _⟩ => ⟨S_, .f32⟩
  | .hbm, ⟨12, _⟩ => ⟨S8x8x8192, .f32⟩
  | .hbm, ⟨13, _⟩ => ⟨S_, .f32⟩
  | .hbm, ⟨14, _⟩ => ⟨S8x8x8192, .f32⟩
  | .hbm, ⟨15, _⟩ => ⟨S8x8x8192, .f32⟩
  | .hbm, ⟨16, _⟩ => ⟨S8x8x8192x1, .f32⟩
  | .hbm, ⟨17, _⟩ => ⟨S8x8x8192x8448, .f32⟩
  | .hbm, ⟨18, _⟩ => ⟨S8x8x8192x8448, .f32⟩
  | .hbm, ⟨19, _⟩ => ⟨S8x8x8192x8448, .f32⟩
  | .hbm, ⟨20, _⟩ => ⟨S_, .f32⟩
  | .hbm, ⟨21, _⟩ => ⟨S8x8x8192, .f32⟩
  | .hbm, ⟨22, _⟩ => ⟨S8x8x8192x1, .f32⟩
  | .hbm, ⟨23, _⟩ => ⟨S8x8x8192x8448, .f32⟩
  | .hbm, ⟨24, _⟩ => ⟨S8x8x8192x8448, .f32⟩
  | .hbm, ⟨25, _⟩ => ⟨S8x8x64x8192, .f32⟩
  | .hbm, ⟨26, _⟩ => ⟨S8x8192x8x64, .f32⟩
  | .hbm, ⟨27, _⟩ => ⟨S8x8192x512, .f32⟩
  | .hbm, ⟨28, _⟩ => ⟨S8x8192x512, .bf16⟩
  | _, _ => ⟨S8x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S8x16x1024x1024 : Shape := ⟨4, ![8, 16, 1024, 1024]⟩
abbrev S8x16x32x1024 : Shape := ⟨4, ![8, 16, 32, 1024]⟩
abbrev S4x16x1024x1024 : Shape := ⟨4, ![4, 16, 1024, 1024]⟩
abbrev S8x16x1056x1024 : Shape := ⟨4, ![8, 16, 1056, 1024]⟩
abbrev S1x1x1056x1024 : Shape := ⟨4, ![1, 1, 1056, 1024]⟩
abbrev S1x1x1024x1024 : Shape := ⟨4, ![1, 1, 1024, 1024]⟩
abbrev S1024x1024 : Shape := ⟨2, ![1024, 1024]⟩
abbrev S1x1x352x1024 : Shape := ⟨4, ![1, 1, 352, 1024]⟩
abbrev S352x1024 : Shape := ⟨2, ![352, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x32x1024, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S8x16x1056x1024, .f32⟩
  | .hbm, ⟨6, _⟩ => ⟨S8x16x1056x1024, .bf16⟩
  | .hbm, ⟨7, _⟩ => ⟨S8x16x1056x1024, .bf16⟩
  | .local _ .vmem, ⟨0, _⟩ => ⟨S1x1x1056x1024, .bf16⟩
  | .local _ .vmem, ⟨1, _⟩ => ⟨S1x1x1056x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1056x1024, .bf16⟩
  | .local _ .vmem, ⟨9, _⟩ => ⟨S1x1x1056x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_1 : BitVec 32 := 0#32
  let c3_i32 : BitVec 32 := 3#32
  let v3 : BitVec 32 := Scalar.addi c0_i32_1 c3_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c352_i32 : BitVec 32 := 352#32
  let v4 : BitVec 32 := Scalar.muli arg10 c352_i32
  v4
def k0_off1 (k0_t1 : Fin k0_t1_loop.trips) : Fin 4 → Nat :=
  let c0 : Index := 0#32
  let c0_3 : Index := 0#32
  let c0_i32_1 : BitVec 32 := 0#32
  let c1_i32 : BitVec 32 := 1#32
  let arg10 : BitVec 32 := Scf.iv c0_i32_1 c1_i32 k0_t1
  let c352_i32 : BitVec 32 := 352#32
  let v4 : BitVec 32 := Scalar.muli arg10 c352_i32
  let v5 : BitVec 32 := v4
  let v6 : Index := Scalar.indexCast v5
  let c0_4 : Index := 0#32
  ![0, 0, v6.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x16x1024x1024 : Shape := ⟨4, ![8, 16, 1024, 1024]⟩
abbrev S8x16x32x1024 : Shape := ⟨4, ![8, 16, 32, 1024]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S8x16x1056x1024 : Shape := ⟨4, ![8, 16, 1056, 1024]⟩
abbrev S16x1024x8x1056 : Shape := ⟨4, ![16, 1024, 8, 1056]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x32x1024, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S1x16x1024x1024, .f32⟩
  | .hbm, ⟨6, _⟩ => ⟨S16x1024x1024, .f32⟩
  | .hbm, ⟨7, _⟩ => ⟨S1x16x1024x1024, .f32⟩
  | .hbm, ⟨8, _⟩ => ⟨S16x1024x1024, .f32⟩
  | .hbm, ⟨9, _⟩ => ⟨S1x16x1024x1024, .f32⟩
  | .hbm, ⟨10, _⟩ => ⟨S16x1024x1024, .f32⟩
  | .hbm, ⟨11, _⟩ => ⟨S8x16x1056x1024, .f32⟩
  | .hbm, ⟨12, _⟩ => ⟨S16x1024x8x1056, .f32⟩
  | .hbm, ⟨13, _⟩ => ⟨S8x16x1056x1024, .f32⟩
  | .hbm, ⟨14, _⟩ => ⟨S8x16x1056x1024, .f32⟩
  | .hbm, ⟨15, _⟩ => ⟨S8x16x1056x1024, .f32⟩
  | .hbm, ⟨16, _⟩ => ⟨S_, .f32⟩
  | .hbm, ⟨17, _⟩ => ⟨S8x16x1056x1024, .f32⟩
  | .hbm, ⟨18, _⟩ => ⟨S8x16x1056x1024, .f32⟩
  | .hbm, ⟨19, _⟩ => ⟨S_, .f32⟩
  | .hbm, ⟨20, _⟩ => ⟨S8x16x1056x1024, .f32⟩
  | .hbm, ⟨21, _⟩ => ⟨S8x16x1056x1024, .f32⟩
  | .hbm, ⟨22, _⟩ => ⟨S8x16x1056x1024, .f32⟩
  | .hbm, ⟨23, _⟩ => ⟨S16x1024x8x1056, .f32⟩
  | .hbm, ⟨24, _⟩ => ⟨S8x16x1056x1024, .f32⟩
  | .hbm, ⟨25, _⟩ => ⟨S8x16x1056x1024, .f32⟩
  | .hbm, ⟨26, _⟩ => ⟨S16x1024x8x1056, .f32⟩
  | .hbm, ⟨27, _⟩ => ⟨S8x16x1056x1024, .f32⟩
  | .hbm, ⟨28, _⟩ => ⟨S8x16x1056x1024, .bf16⟩
  | _, _ => ⟨S8x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.FfnPoint.lean ====
module

public import proofs.«01_k».proof.Proof.Gen.Kernel2Ideal.Skeleton
public import Idealize.ShloMosaic.Lib.Pointwise

/-! The experts' arithmetic of one tile of tokens, read at an index over the extended reals. -/

@[expose] public section

noncomputable section

namespace Cert.Proof.Ffn

open Cert.Kernel2Ideal Cert.Kernel2Ideal.Gen
open Idealize.ShloMosaic

/-- A token through a matrix, one output channel. -/
def lin (x : Fin 1024 → EReal) (w : Fin 1024 → Fin 1024 → EReal) (f : Fin 1024) : EReal := ∑ d : Fin 1024, x d * w d f

/-- A gate `g` through its activation, times the channel `u` that it lets pass. -/
def act (g u : EReal) : EReal := g * Ideal.div 1 (1 + Ideal.exp (-g)) * u

/-- A token through one expert, one output channel. -/
def row (x : Fin 1024 → EReal) (wg wu wd : Fin 1024 → Fin 1024 → EReal) (o : Fin 1024) : EReal :=
  ∑ f : Fin 1024, act (lin x wg f) (lin x wu f) * wd f o

/-- The weights as the kernel keeps them: the block of one expert without its two leading axes. -/
theorem pay1_apply (v : Vec Ideal S1x1x1024x1024 .f32) (d f : Fin 1024) : k0_pay1 v (ix2 d f) = v (ix4 0 0 d f) := by
  pointwise [k0_pay1]

/-- The second weights, alike. -/
theorem pay2_apply (v : Vec Ideal S1x1x1024x1024 .f32) (d f : Fin 1024) : k0_pay2 v (ix2 d f) = v (ix4 0 0 d f) := by
  pointwise [k0_pay2]

/-- The third weights, alike. -/
theorem pay3_apply (v : Vec Ideal S1x1x1024x1024 .f32) (d f : Fin 1024) : k0_pay3 v (ix2 d f) = v (ix4 0 0 d f) := by
  pointwise [k0_pay3]

/-- One tile of tokens through the expert, at one token and output channel. -/
theorem pay4_apply (v7 : Vec Ideal S1x1x352x1024 .bf16) (v9 v11 v23 : Vec Ideal S1024x1024 .bf16) (i : Fin 352) (o : Fin 1024) :
    k0_pay4 v7 v9 v11 v23 (ix4 0 0 i o) = row (fun d => v7 (ix4 0 0 i d)) (fun d f => v9 (ix2 d f)) (fun d f => v11 (ix2 d f)) (fun f o => v23 (ix2 f o)) o := by
  pointwise [k0_pay4]
  simp only [row, act, lin, zero_sub]

end Cert.Proof.Ffn

end
-- ==== Proof.FfnBlock.lean ====
module

public import proofs.«01_k».proof.Proof.FfnPoint
public import proofs.«01_k».proof.Proof.Gen.Kernel2Ideal.Frame
public import Idealize.ShloMosaic.Lib.VecWindow

/-! What one grid point of the experts' call leaves in its output block and in the kept weights. -/

@[expose] public section

set_option maxRecDepth 16384

noncomputable section

namespace Cert.Proof.Ffn

open Cert.Kernel2Ideal Cert.Kernel2Ideal.Gen
open Idealize.ShloMosaic

/-- A block of tokens through an expert's three matrices. -/
def blk (x : Vec Ideal S1x1x1056x1024 .bf16) (wg wu wd : Vec Ideal S1024x1024 .bf16) : Vec Ideal S1x1x1056x1024 .bf16 :=
  fun y => row (fun d => x (ix4 0 0 (y 2) d)) (fun d f => wg (ix2 d f)) (fun d f => wu (ix2 d f)) (fun f o => wd (ix2 f o)) (y 3)

/-- Trip `k` handles the tokens from `352 k` on. -/
theorem off1 : ∀ k : Fin k0_t1_loop.trips, k0_off1 k = ![0, 0, 352 * k.val, 0] := by decide +kernel

/-- A whole matrix read through its view is the matrix. -/
theorem whole_read (v : View sig .tc .vmem S1024x1024 .bf16) (X : BufTy.Contents (Elt Ideal) v.ty) :
    View.readAt (Elt Ideal) v (Rect.unit (s := S1024x1024) ![0, 0] S1024x1024.size inb_S1024x1024_S1024x1024_0_0).toLoadRect X = v.read (Elt Ideal) X := by
  funext y
  refine congrArg (v.read (Elt Ideal) X) (funext fun a => Fin.ext ?_)
  show (![0, 0] : Fin 2 → ℕ) a + 1 * (y a : ℕ) = _
  fin_cases a <;> simp

/-- The whole matrix as a rectangle of itself. -/
theorem whole_emb (z : S1024x1024.Idx) : (Rect.unit (s := S1024x1024) ![0, 0] S1024x1024.size inb_S1024x1024_S1024x1024_0_0).emb z = z := by
  funext a
  refine Fin.ext ?_
  show (![0, 0] : Fin 2 → ℕ) a + 1 * (z a : ℕ) = _
  fin_cases a <;> simp

/-- What one trip stores is the block's value at the places it stores to. -/
theorem trip_val (𝒱 : Variants) (c : Dev nD) (bd : Option 𝒱.V) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole)
    (X2 : BufTy.Contents (Elt Ideal) arg2.view.ty) (X7 : BufTy.Contents (Elt Ideal) arg7.view.ty) (X8 : BufTy.Contents (Elt Ideal) arg8.view.ty) (X9 : BufTy.Contents (Elt Ideal) arg9.view.ty) (k : Fin k0_t1_loop.trips) :
    ∀ p ∈ (trip_k0_t1 (F := Ideal) 𝒱 c bd i arg2 harg2 arg3 harg3 arg4 harg4 arg5 harg5 arg6 harg6 arg7 harg7 arg8 harg8 arg9 harg9 X2 X7 X8 X9 k).1, ∀ z : p.1.shape.Idx,
      p.2 z = blk (arg2.view.read (Elt Ideal) X2) (arg7.view.read (Elt Ideal) X7) (arg8.view.read (Elt Ideal) X8) (arg9.view.read (Elt Ideal) X9) (p.1.emb z) := by
  intro p hp
  unfold trip_k0_t1 at hp
  obtain rfl := List.mem_singleton.mp hp
  intro z
  dsimp only at z ⊢
  obtain ⟨a, b, r, o, rfl⟩ : ∃ (a b : Fin 1) (r : Fin 352) (o : Fin 1024), z = ix4 a b r o := ⟨z 0, z 1, z 2, z 3, by funext j; fin_cases j <;> rfl⟩
  obtain rfl : a = 0 := Subsingleton.elim _ _
  obtain rfl : b = 0 := Subsingleton.elim _ _
  rw [pay4_apply, whole_read, whole_read, whole_read]
  unfold blk
  have e2 : ∀ d : Fin 1024, (Rect.unit (s := S1x1x1056x1024) (k0_off1 k) S1x1x352x1024.size (k0_off1_inb k)).emb (ix4 0 0 r d) = ix4 0 0 ((Rect.unit (s := S1x1x1056x1024) (k0_off1 k) S1x1x352x1024.size (k0_off1_inb k)).emb (ix4 0 0 r o) 2) d := by
    intro d
    funext j
    refine Fin.ext ?_
    fin_cases j
    · show k0_off1 k 0 + 1 * 0 = 0
      rw [off1]; rfl
    · show k0_off1 k 1 + 1 * 0 = 0
      rw [off1]; rfl
    · rfl
    · show k0_off1 k 3 + 1 * d.val = d.val
      rw [off1]; show 0 + 1 * d.val = d.val; omega
  have e3 : (Rect.unit (s := S1x1x1056x1024) (k0_off1 k) S1x1x352x1024.size (k0_off1_inb k)).emb (ix4 0 0 r o) 3 = o := by
    refine Fin.ext ?_
    show k0_off1 k 3 + 1 * o.val = o.val
    rw [off1]; show 0 + 1 * o.val = o.val; omega
  have e4 : (fun d : Fin 1024 => View.readAt (Elt Ideal) arg2.view (Rect.unit (s := S1x1x1056x1024) (k0_off1 k) S1x1x352x1024.size (k0_off1_inb k)).toLoadRect X2 (ix4 0 0 r d))
      = fun d => arg2.view.read (Elt Ideal) X2 (ix4 0 0 ((Rect.unit (s := S1x1x1056x1024) (k0_off1 k) S1x1x352x1024.size (k0_off1_inb k)).emb (ix4 0 0 r o) 2) d) :=
    funext fun d => congrArg (arg2.view.read (Elt Ideal) X2) (e2 d)
  exact (congrArg (fun g => row g _ _ _ o) e4).trans (congrArg (fun w => row _ _ _ _ w) e3.symm)

/-- The same of all the trips before `n`. -/
theorem trips_val (𝒱 : Variants) (c : Dev nD) (bd : Option 𝒱.V) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole)
    (X2 : BufTy.Contents (Elt Ideal) arg2.view.ty) (X7 : BufTy.Contents (Elt Ideal) arg7.view.ty) (X8 : BufTy.Contents (Elt Ideal) arg8.view.ty) (X9 : BufTy.Contents (Elt Ideal) arg9.view.ty) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 X2 X7 X8 X9 n, ∀ z : p.1.shape.Idx,
      p.2 z = blk (arg2.view.read (Elt Ideal) X2) (arg7.view.read (Elt Ideal) X7) (arg8.view.read (Elt Ideal) X8) (arg9.view.read (Elt Ideal) X9) (p.1.emb z) := by
  induction n with
  | zero =>
    intro p hp
    rw [pb_k0_t1.eq_1] at hp
    exact absurd hp List.not_mem_nil
  | succ n ih =>
    intro p hp
    have e := pb_k0_t1_succ (F := Ideal) 𝒱 c bd i arg2 harg2 arg3 harg3 arg4 harg4 arg5 harg5 arg6 harg6 arg7 harg7 arg8 harg8 arg9 harg9 X2 X7 X8 X9 ⟨n, hn⟩
    rw [e] at hp
    rcases List.mem_append.mp hp with h | h
    · exact trip_val 𝒱 c bd i arg2 harg2 arg3 harg3 arg4 harg4 arg5 harg5 arg6 harg6 arg7 harg7 arg8 harg8 arg9 harg9 X2 X7 X8 X9 ⟨n, hn⟩ p h
    · exact ih (Nat.le_of_succ_le hn) p h

/-- The same where the buffers read as named arrays. -/
theorem trips_at (𝒱 : Variants) (c : Dev nD) (bd : Option 𝒱.V) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole)
    (X2 : BufTy.Contents (Elt Ideal) arg2.view.ty) (X7 : BufTy.Contents (Elt Ideal) arg7.view.ty) (X8 : BufTy.Contents (Elt Ideal) arg8.view.ty) (X9 : BufTy.Contents (Elt Ideal) arg9.view.ty) (n : ℕ) (hn : n ≤ k0_t1_loop.trips)
    (x : Vec Ideal S1x1x1056x1024 .bf16) (wg wu wd : Vec Ideal S1024x1024 .bf16)
    (h2 : arg2.view.read (Elt Ideal) X2 = x) (h7 : arg7.view.read (Elt Ideal) X7 = wg) (h8 : arg8.view.read (Elt Ideal) X8 = wu) (h9 : arg9.view.read (Elt Ideal) X9 = wd) :
    ∀ p ∈ pb_k0_t1 (F := Ideal) 𝒱 c bd i arg2 harg2 arg3 harg3 arg4 harg4 arg5 harg5 arg6 harg6 arg7 harg7 arg8 harg8 arg9 harg9 X2 X7 X8 X9 n, ∀ z : p.1.shape.Idx, p.2 z = blk x wg wu wd (p.1.emb z) := by
  subst h2 h7 h8 h9
  exact trips_val 𝒱 c bd i arg2 harg2 arg3 harg3 arg4 harg4 arg5 harg5 arg6 harg6 arg7 harg7 arg8 harg8 arg9 harg9 X2 X7 X8 X9 n hn

/-- At a later batch entry of an expert, the block is the tokens through the kept weights. -/
theorem outB (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : ¬cond0_0 i)
    (x0 : Vec Ideal S1x1x1056x1024 .bf16) (x1 : Vec Ideal S1x1x1024x1024 .f32) (x2 : Vec Ideal S1x1x1024x1024 .f32) (x3 : Vec Ideal S1x1x1024x1024 .f32) (y1 y2 y3 : Vec Ideal S1024x1024 .bf16) :
    out0_B_4 c i arg2 harg2 arg3 harg3 arg4 harg4 arg5 harg5 arg6 harg6 arg7 harg7 arg8 harg8 arg9 harg9 hc0 x0 x1 x2 x3 y1 y2 y3 = blk x0 y1 y2 y3 := by
  funext y
  unfold out0_B_4
  refine View.read_writes_apply_of_pieces (v := VO0_4) _ (blk x0 y1 y2 y3) _ ?_ y (cover0_B_4 c i arg2 harg2 arg3 harg3 arg4 harg4 arg5 harg5 arg6 harg6 arg7 harg7 arg8 harg8 arg9 harg9 hc0 x0 x1 x2 x3 y1 y2 y3 y)
  unfold kernelRun0_B
  dsimp only
  have h := trips_val Variants.none c none i arg2 harg2 arg3 harg3 arg4 harg4 arg5 harg5 arg6 harg6 arg7 harg7 arg8 harg8 arg9 harg9 (harg2.unread x0) (harg7.unread y1) (harg8.unread y2) (harg9.unread y3) k0_t1_loop.trips le_rfl
  rw [harg2.read_unread, harg7.read_unread, harg8.read_unread, harg9.read_unread] at h
  exact h

/-- The pieces stored into the kept weights 0, as an expert's first batch entry leaves them. -/
theorem keep0 (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) (v : View sig .tc .vmem S1024x1024 .bf16) (f : BufTy.Contents (Elt Ideal) v.ty) :
    v.read (Elt Ideal) (v.writes (Elt Ideal) f (kernelRun0_A c i arg2 harg2 arg3 harg3 arg4 harg4 arg5 harg5 arg6 harg6 arg7 harg7 arg8 harg8 arg9 harg9 hc0 x0 x1 x2 x3).2.1) = k0_pay1 x1 := by
  funext y
  refine View.read_writes_apply_of_pieces (v := v) _ (k0_pay1 x1) _ ?_ y (scover0_A_0 c i arg2 harg2 arg3 harg3 arg4 harg4 arg5 harg5 arg6 harg6 arg7 harg7 arg8 harg8 arg9 harg9 hc0 x0 x1 x2 x3 y)
  unfold kernelRun0_A
  dsimp only
  unfold kernelRun0_A.sl.HS0_1
  intro p hp
  obtain rfl := List.mem_singleton.mp hp
  intro z
  exact (congrArg (fun u => k0_pay1 u z) ((View.readAt_full _ _ _).trans (harg3.read_unread _))).trans (congrArg (k0_pay1 x1) (whole_emb z).symm)

/-- The pieces stored into the kept weights 1, as an expert's first batch entry leaves them. -/
theorem keep1 (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) (v : View sig .tc .vmem S1024x1024 .bf16) (f : BufTy.Contents (Elt Ideal) v.ty) :
    v.read (Elt Ideal) (v.writes (Elt Ideal) f (kernelRun0_A c i arg2 harg2 arg3 harg3 arg4 harg4 arg5 harg5 arg6 harg6 arg7 harg7 arg8 harg8 arg9 harg9 hc0 x0 x1 x2 x3).2.2.1) = k0_pay2 x2 := by
  funext y
  refine View.read_writes_apply_of_pieces (v := v) _ (k0_pay2 x2) _ ?_ y (scover0_A_1 c i arg2 harg2 arg3 harg3 arg4 harg4 arg5 harg5 arg6 harg6 arg7 harg7 arg8 harg8 arg9 harg9 hc0 x0 x1 x2 x3 y)
  unfold kernelRun0_A
  dsimp only
  unfold kernelRun0_A.sl.HS1_1
  intro p hp
  obtain rfl := List.mem_singleton.mp hp
  intro z
  exact (congrArg (fun u => k0_pay2 u z) ((View.readAt_full _ _ _).trans (harg4.read_unread _))).trans (congrArg (k0_pay2 x2) (whole_emb z).symm)

/-- The pieces stored into the kept weights 2, as an expert's first batch entry leaves them. -/
theorem keep2 (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) (v : View sig .tc .vmem S1024x1024 .bf16) (f : BufTy.Contents (Elt Ideal) v.ty) :
    v.read (Elt Ideal) (v.writes (Elt Ideal) f (kernelRun0_A c i arg2 harg2 arg3 harg3 arg4 harg4 arg5 harg5 arg6 harg6 arg7 harg7 arg8 harg8 arg9 harg9 hc0 x0 x1 x2 x3).2.2.2.1) = k0_pay3 x3 := by
  funext y
  refine View.read_writes_apply_of_pieces (v := v) _ (k0_pay3 x3) _ ?_ y (scover0_A_2 c i arg2 harg2 arg3 harg3 arg4 harg4 arg5 harg5 arg6 harg6 arg7 harg7 arg8 harg8 arg9 harg9 hc0 x0 x1 x2 x3 y)
  unfold kernelRun0_A
  dsimp only
  unfold kernelRun0_A.sl.HS2_1
  intro p hp
  obtain rfl := List.mem_singleton.mp hp
  intro z
  exact (congrArg (fun u => k0_pay3 u z) ((View.readAt_full _ _ _).trans (harg5.read_unread _))).trans (congrArg (k0_pay3 x3) (whole_emb z).symm)

/-- What an expert's first batch entry leaves in the kept weights 0. -/
theorem sout0 (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) :
    sout0_A_0 c i arg2 harg2 arg3 harg3 arg4 harg4 arg5 harg5 arg6 harg6 arg7 harg7 arg8 harg8 arg9 harg9 hc0 x0 x1 x2 x3 = k0_pay1 x1 := by
  unfold sout0_A_0
  exact keep0 c i arg2 harg2 arg3 harg3 arg4 harg4 arg5 harg5 arg6 harg6 arg7 harg7 arg8 harg8 arg9 harg9 hc0 x0 x1 x2 x3 VS0_0 VS0_0.junk

/-- What an expert's first batch entry leaves in the kept weights 1. -/
theorem sout1 (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) :
    sout0_A_1 c i arg2 harg2 arg3 harg3 arg4 harg4 arg5 harg5 arg6 harg6 arg7 harg7 arg8 harg8 arg9 harg9 hc0 x0 x1 x2 x3 = k0_pay2 x2 := by
  unfold sout0_A_1
  exact keep1 c i arg2 harg2 arg3 harg3 arg4 harg4 arg5 harg5 arg6 harg6 arg7 harg7 arg8 harg8 arg9 harg9 hc0 x0 x1 x2 x3 VS0_1 VS0_1.junk

/-- What an expert's first batch entry leaves in the kept weights 2. -/
theorem sout2 (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) :
    sout0_A_2 c i arg2 harg2 arg3 harg3 arg4 harg4 arg5 harg5 arg6 harg6 arg7 harg7 arg8 harg8 arg9 harg9 hc0 x0 x1 x2 x3 = k0_pay3 x3 := by
  unfold sout0_A_2
  exact keep2 c i arg2 harg2 arg3 harg3 arg4 harg4 arg5 harg5 arg6 harg6 arg7 harg7 arg8 harg8 arg9 harg9 hc0 x0 x1 x2 x3 VS0_2 VS0_2.junk

/-- The pieces of a first batch entry's block are those of its trips. -/
theorem list_a (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) :
    (kernelRun0_A c i arg2 harg2 arg3 harg3 arg4 harg4 arg5 harg5 arg6 harg6 arg7 harg7 arg8 harg8 arg9 harg9 hc0 x0 x1 x2 x3).1 = pb_k0_t1 Variants.none c none i arg2 harg2 arg3 harg3 arg4 harg4 arg5 harg5 arg6 harg6 arg7 harg7 arg8 harg8 arg9 harg9 (harg2.unread x0)
    (arg7.view.writes (Elt Ideal) arg7.view.junk (kernelRun0_A c i arg2 harg2 arg3 harg3 arg4 harg4 arg5 harg5 arg6 harg6 arg7 harg7 arg8 harg8 arg9 harg9 hc0 x0 x1 x2 x3).2.1)
    (arg8.view.writes (Elt Ideal) arg8.view.junk (kernelRun0_A c i arg2 harg2 arg3 harg3 arg4 harg4 arg5 harg5 arg6 harg6 arg7 harg7 arg8 harg8 arg9 harg9 hc0 x0 x1 x2 x3).2.2.1)
    (arg9.view.writes (Elt Ideal) arg9.view.junk (kernelRun0_A c i arg2 harg2 arg3 harg3 arg4 harg4 arg5 harg5 arg6 harg6 arg7 harg7 arg8 harg8 arg9 harg9 hc0 x0 x1 x2 x3).2.2.2.1) k0_t1_loop.trips := by
  unfold kernelRun0_A
  dsimp only

/-- At an expert's first batch entry, the block is the tokens through the weights just kept. -/
theorem outA (c : Dev nD) (i : grid0.Coords) (arg2 : Memref sig .tc .vmem S1x1x1056x1024 .bf16) (harg2 : arg2.IsWhole) (arg3 : Memref sig .tc .vmem S1x1x1024x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1056x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (hc0 : cond0_0 i)
    (x0 : Vec Ideal S1x1x1056x1024 .bf16) (x1 : Vec Ideal S1x1x1024x1024 .f32) (x2 : Vec Ideal S1x1x1024x1024 .f32) (x3 : Vec Ideal S1x1x1024x1024 .f32) :
    out0_A_4 c i arg2 harg2 arg3 harg3 arg4 harg4 arg5 harg5 arg6 harg6 arg7 harg7 arg8 harg8 arg9 harg9 hc0 x0 x1 x2 x3 = blk x0 (k0_pay1 x1) (k0_pay2 x2) (k0_pay3 x3) := by
  funext y
  unfold out0_A_4
  have h := trips_at Variants.none c none i arg2 harg2 arg3 harg3 arg4 harg4 arg5 harg5 arg6 harg6 arg7 harg7 arg8 harg8 arg9 harg9 _ _ _ _ k0_t1_loop.trips le_rfl x0 (k0_pay1 x1) (k0_pay2 x2) (k0_pay3 x3) (harg2.read_unread x0)
    (keep0 c i arg2 harg2 arg3 harg3 arg4 harg4 arg5 harg5 arg6 harg6 arg7 harg7 arg8 harg8 arg9 harg9 hc0 x0 x1 x2 x3 arg7.view arg7.view.junk)
    (keep1 c i arg2 harg2 arg3 harg3 arg4 harg4 arg5 harg5 arg6 harg6 arg7 harg7 arg8 harg8 arg9 harg9 hc0 x0 x1 x2 x3 arg8.view arg8.view.junk)
    (keep2 c i arg2 harg2 arg3 harg3 arg4 harg4 arg5 harg5 arg6 harg6 arg7 harg7 arg8 harg8 arg9 harg9 hc0 x0 x1 x2 x3 arg9.view arg9.view.junk)
  have hc := cover0_A_4 c i arg2 harg2 arg3 harg3 arg4 harg4 arg5 harg5 arg6 harg6 arg7 harg7 arg8 harg8 arg9 harg9 hc0 x0 x1 x2 x3 y
  have e := list_a c i arg2 harg2 arg3 harg3 arg4 harg4 arg5 harg5 arg6 harg6 arg7 harg7 arg8 harg8 arg9 harg9 hc0 x0 x1 x2 x3
  rw [e] at hc ⊢
  exact View.read_writes_apply_of_pieces (v := VO0_4) _ (blk x0 (k0_pay1 x1) (k0_pay2 x2) (k0_pay3 x3)) _ h y hc

end Cert.Proof.Ffn

end
-- ==== Proof.FfnRef.lean ====
module

public import proofs.«01_k».proof.Proof.Gen.Reference2Ideal.Run
public import proofs.«01_k».proof.Proof.FfnPoint

/-! The experts' reference read at an index, over the extended reals. -/

@[expose] public section

noncomputable section

namespace Cert.Proof.FfnRef

open Cert.Reference2Ideal Cert.Reference2Ideal.Gen
open Idealize.ShloMosaic
open Cert.Proof.Ffn (lin act row)

/-- The weights of the first layer. -/
def first {F : FTy → Type} [FloatOps F] (a : FVec F S4x16x1024x1024 .f32) : FVec F S16x1024x1024 .f32 :=
  shapeCast S16x1024x1024 (extractStridedSlice S1x16x1024x1024 ![0, 0, 0, 0] a slices_S4x16x1024x1024_S1x16x1024x1024_0_0_0_0) shapeCasts_S1x16x1024x1024_S16x1024x1024

/-- The experts' tokens, context first. -/
def toks {F : FTy → Type} [FloatOps F] (a0 : FVec F S8x16x1024x1024 .f32) (a1 : FVec F S8x16x32x1024 .f32) : FVec F S8x16x1056x1024 .f32 :=
  concatenate S8x16x1056x1024 2 [⟨S8x16x32x1024, a1⟩, ⟨S8x16x1024x1024, a0⟩] concatenates_S8x16x32x1024_S8x16x1024x1024_S8x16x1056x1024_d2

/-- Each expert's matrix against its tokens. -/
def mul {F : FTy → Type} [FloatOps F] (w : FVec F S16x1024x1024 .f32) (x : FVec F S8x16x1056x1024 .f32) : FVec F S8x16x1056x1024 .f32 :=
  transpose S8x16x1056x1024 [2, 0, 3, 1]
    (Host.dotGeneral dot_S16x1024x1024_S8x16x1056x1024_S16x1024x8x1056_1_3_2_02_0_1 none w x) transposes_S16x1024x8x1056_S8x16x1056x1024_2_0_3_1

/-- The gate's activation. -/
def gate {F : FTy → Type} [FloatOps F] (g : FVec F S8x16x1056x1024 .f32) : FVec F S8x16x1056x1024 .f32 :=
  mulf g (Host.divf (broadcastInDim S8x16x1056x1024 ![] bcast_S_S8x16x1056x1024 (constant S_ .f32 0x3F800000#32))
    (addf (broadcastInDim S8x16x1056x1024 ![] bcast_S_S8x16x1056x1024 (constant S_ .f32 0x3F800000#32)) (Host.exp (Host.negf g))))

/-- The reference's result. -/
def out {F : FTy → Type} [FloatOps F] (a0 : FVec F S8x16x1024x1024 .f32) (a1 : FVec F S8x16x32x1024 .f32) (a2 a3 a4 : FVec F S4x16x1024x1024 .f32) :
    FVec F S8x16x1056x1024 .bf16 :=
  truncf .bf16 (mul (first a4) (mulf (gate (mul (first a2) (toks a0 a1))) (mul (first a3) (toks a0 a1)))) bitsLt_bf16_f32

theorem first_apply (a : FVec Ideal S4x16x1024x1024 .f32) (e : Fin 16) (d f : Fin 1024) : first a (ix3 e d f) = a (ix4 0 e d f) := by
  pointwise [first]

theorem mul_apply (w : FVec Ideal S16x1024x1024 .f32) (x : FVec Ideal S8x16x1056x1024 .f32) (b : Fin 8) (e : Fin 16) (r : Fin 1056) (f : Fin 1024) :
    mul w x (ix4 b e r f) = ∑ d : Fin 1024, w (ix3 e d f) * x (ix4 b e r d) := by
  pointwise [mul]

theorem gate_apply (g : FVec Ideal S8x16x1056x1024 .f32) (j : S8x16x1056x1024.Idx) :
    gate g j = g j * Ideal.div 1 (1 + Ideal.exp (-g j)) := by
  pointwise [gate]

/-- An entry of the result: its token through its expert. -/
theorem out_apply (a0 : FVec Ideal S8x16x1024x1024 .f32) (a1 : FVec Ideal S8x16x32x1024 .f32) (a2 a3 a4 : FVec Ideal S4x16x1024x1024 .f32)
    (b : Fin 8) (e : Fin 16) (r : Fin 1056) (o : Fin 1024) :
    out a0 a1 a2 a3 a4 (ix4 b e r o) = row (fun d => toks a0 a1 (ix4 b e r d)) (fun d f => a2 (ix4 0 e d f)) (fun d f => a3 (ix4 0 e d f)) (fun f o => a4 (ix4 0 e f o)) o := by
  show mul (first a4) (mulf (gate (mul (first a2) (toks a0 a1))) (mul (first a3) (toks a0 a1))) (ix4 b e r o) = _
  rw [mul_apply]
  unfold row
  refine Finset.sum_congr rfl fun f _ => ?_
  have hl : ∀ a : FVec Ideal S4x16x1024x1024 .f32, mul (first a) (toks a0 a1) (ix4 b e r f) = lin (fun d => toks a0 a1 (ix4 b e r d)) (fun d f => a (ix4 0 e d f)) f := by
    intro a
    rw [mul_apply]
    exact Finset.sum_congr rfl fun d _ => by rw [first_apply, mul_comm]
  show first a4 (ix3 e f o) * (gate (mul (first a2) (toks a0 a1)) (ix4 b e r f) * mul (first a3) (toks a0 a1) (ix4 b e r f)) = _
  rw [gate_apply, hl, hl, first_apply, mul_comm]
  rfl

end Cert.Proof.FfnRef

end
-- ==== Proof.FfnValue.lean ====
module

public import proofs.«01_k».proof.Proof.FfnBlock
public import proofs.«01_k».proof.Proof.FfnRef
public import proofs.«01_k».proof.Proof.Gen.Kernel2Ideal.Value
public import Idealize.ShloMosaic.Lib.Pipeline.ValueKit.Geometry
public import Idealize.ShloMosaic.Lib.StableHlo.ReadAt

/-! The experts' call computes the reference's array: the blocks its grid points read, the weights they keep between the
    batch entries of one expert, and the array that they leave. -/

@[expose] public section

set_option maxRecDepth 16384

noncomputable section

namespace Cert.Proof.Ffn

open Cert.Kernel2Ideal Cert.Kernel2Ideal.Gen
open Idealize.ShloMosaic Idealize.ShloMosaic.TcCoe
open Cert.Proof.FfnRef (toks)

/-- The expert of point `n`. -/
def pe (n : ℕ) : Fin 16 := ⟨n / 8 % 16, Nat.mod_lt _ (by decide)⟩

/-- The batch entry of point `n`. -/
def pbat (n : ℕ) : Fin 8 := ⟨n % 8, Nat.mod_lt _ (by decide)⟩

/-- An expert's matrix of the first layer. -/
def kept (a : FVec Ideal S4x16x1024x1024 .f32) (e : Fin 16) : Vec Ideal S1024x1024 .bf16 := fun y => a (ix4 0 e (y 0) (y 1))

theorem index0 : ∀ t : Fin cfg0.N, win0_0.index t = ![t.val % 8, t.val / 8, 0, 0] := by decide +kernel
theorem index1 : ∀ t : Fin cfg0.N, win0_1.index t = ![0, t.val / 8, 0, 0] := by decide +kernel
theorem index2 : ∀ t : Fin cfg0.N, win0_2.index t = ![0, t.val / 8, 0, 0] := by decide +kernel
theorem index3 : ∀ t : Fin cfg0.N, win0_3.index t = ![0, t.val / 8, 0, 0] := by decide +kernel

variable (m : (ℓ : Loc nD τ sig) → Buf (Elt Ideal) ℓ) (c : Dev nD)

/-- The tokens' array when the points start: the two arguments joined, context first. -/
theorem V_v1 : V m c main_v1 = truncf .bf16 (toks (F := Ideal) (m ((c : Thread nD τ).loc main_arg0)) (m ((c : Thread nD τ).loc main_arg1))) bitsLt_bf16_f32 := by
  unfold V
  after_results
  all_goals rfl

/-- Reading a block of tokens of any memory. -/
theorem read_x (W : (b : Ref sig .tc) → b.ty.Contents (Elt Ideal)) (t : Fin cfg0.N) (x : S1x1x1056x1024.Idx) :
    ((cfg0.win 0).blk t).view.read (Elt Ideal) (W (Pipeline.arrRef spec0 0)) x = W main_v1 ((win0_0.blk t).view.emb x) := rfl

theorem emb_x (t : Fin cfg0.N) (x : S1x1x1056x1024.Idx) :
    ((win0_0.blk t).view.emb x 0 : ℕ) = t.val % 8 + (x 0).val ∧ ((win0_0.blk t).view.emb x 1 : ℕ) = t.val / 8 + (x 1).val
      ∧ ((win0_0.blk t).view.emb x 2 : ℕ) = (x 2).val ∧ ((win0_0.blk t).view.emb x 3 : ℕ) = (x 3).val := by
  blk_simp [index0]
  exact ⟨trivial, trivial, trivial, trivial⟩

/-- A point's block of tokens. -/
theorem blk_x (t : Fin cfg0.N) (r : Fin 1056) (d : Fin 1024) : (iblk m c 0 t : Vec Ideal S1x1x1056x1024 .bf16) (ix4 0 0 r d)
    = toks (F := Ideal) (m ((c : Thread nD τ).loc main_arg0)) (m ((c : Thread nD τ).loc main_arg1)) (ix4 (pbat t.val) (pe t.val) r d) := by
  have ht : t.val < 128 := t.isLt
  obtain ⟨h0, h1, h2, h3⟩ := emb_x t (ix4 0 0 r d)
  change _ = t.val % 8 + 0 at h0
  change _ = t.val / 8 + 0 at h1
  change _ = r.val at h2
  change _ = d.val at h3
  unfold iblk
  refine (read_x (V m c) t (ix4 0 0 r d)).trans ?_
  rw [V_v1]
  show toks (F := Ideal) (m ((c : Thread nD τ).loc main_arg0)) (m ((c : Thread nD τ).loc main_arg1)) ((win0_0.blk t).view.emb (ix4 0 0 r d)) = _
  refine congrArg _ (funext fun a => Fin.ext ?_)
  fin_cases a
  · exact h0
  · refine h1.trans ?_
    show t.val / 8 + 0 = t.val / 8 % 16
    omega
  · exact h2
  · exact h3

/-- Reading a block of weights 1 of any memory. -/
theorem read_w1 (W : (b : Ref sig .tc) → b.ty.Contents (Elt Ideal)) (t : Fin cfg0.N) (x : S1x1x1024x1024.Idx) :
    ((cfg0.win 1).blk t).view.read (Elt Ideal) (W (Pipeline.arrRef spec0 1)) x = W main_arg2 ((win0_1.blk t).view.emb x) := rfl

theorem emb_w1 (t : Fin cfg0.N) (x : S1x1x1024x1024.Idx) :
    ((win0_1.blk t).view.emb x 0 : ℕ) = (x 0).val ∧ ((win0_1.blk t).view.emb x 1 : ℕ) = t.val / 8 + (x 1).val
      ∧ ((win0_1.blk t).view.emb x 2 : ℕ) = (x 2).val ∧ ((win0_1.blk t).view.emb x 3 : ℕ) = (x 3).val := by
  blk_simp [index1]
  exact ⟨trivial, trivial, trivial, trivial⟩

/-- A point's block of weights 1, as kept. -/
theorem pay_w1 (t : Fin cfg0.N) : k0_pay1 (iblk m c 1 t : Vec Ideal S1x1x1024x1024 .f32) = kept (m ((c : Thread nD τ).loc main_arg2)) (pe t.val) := by
  have ht : t.val < 128 := t.isLt
  funext y
  obtain ⟨d, f, rfl⟩ : ∃ d f : Fin 1024, y = ix2 d f := ⟨y 0, y 1, by funext j; fin_cases j <;> rfl⟩
  rw [pay1_apply]
  obtain ⟨h0, h1, h2, h3⟩ := emb_w1 t (ix4 0 0 d f)
  change _ = 0 at h0
  change _ = t.val / 8 + 0 at h1
  change _ = d.val at h2
  change _ = f.val at h3
  unfold iblk kept
  refine (read_w1 (V m c) t (ix4 0 0 d f)).trans ?_
  rw [V_main_arg2]
  refine congrArg _ (funext fun a => Fin.ext ?_)
  fin_cases a
  · exact h0
  · refine h1.trans ?_
    show t.val / 8 + 0 = t.val / 8 % 16
    omega
  · exact h2
  · exact h3

/-- Reading a block of weights 2 of any memory. -/
theorem read_w2 (W : (b : Ref sig .tc) → b.ty.Contents (Elt Ideal)) (t : Fin cfg0.N) (x : S1x1x1024x1024.Idx) :
    ((cfg0.win 2).blk t).view.read (Elt Ideal) (W (Pipeline.arrRef spec0 2)) x = W main_arg3 ((win0_2.blk t).view.emb x) := rfl

theorem emb_w2 (t : Fin cfg0.N) (x : S1x1x1024x1024.Idx) :
    ((win0_2.blk t).view.emb x 0 : ℕ) = (x 0).val ∧ ((win0_2.blk t).view.emb x 1 : ℕ) = t.val / 8 + (x 1).val
      ∧ ((win0_2.blk t).view.emb x 2 : ℕ) = (x 2).val ∧ ((win0_2.blk t).view.emb x 3 : ℕ) = (x 3).val := by
  blk_simp [index2]
  exact ⟨trivial, trivial, trivial, trivial⟩

/-- A point's block of weights 2, as kept. -/
theorem pay_w2 (t : Fin cfg0.N) : k0_pay2 (iblk m c 2 t : Vec Ideal S1x1x1024x1024 .f32) = kept (m ((c : Thread nD τ).loc main_arg3)) (pe t.val) := by
  have ht : t.val < 128 := t.isLt
  funext y
  obtain ⟨d, f, rfl⟩ : ∃ d f : Fin 1024, y = ix2 d f := ⟨y 0, y 1, by funext j; fin_cases j <;> rfl⟩
  rw [pay2_apply]
  obtain ⟨h0, h1, h2, h3⟩ := emb_w2 t (ix4 0 0 d f)
  change _ = 0 at h0
  change _ = t.val / 8 + 0 at h1
  change _ = d.val at h2
  change _ = f.val at h3
  unfold iblk kept
  refine (read_w2 (V m c) t (ix4 0 0 d f)).trans ?_
  rw [V_main_arg3]
  refine congrArg _ (funext fun a => Fin.ext ?_)
  fin_cases a
  · exact h0
  · refine h1.trans ?_
    show t.val / 8 + 0 = t.val / 8 % 16
    omega
  · exact h2
  · exact h3

/-- Reading a block of weights 3 of any memory. -/
theorem read_w3 (W : (b : Ref sig .tc) → b.ty.Contents (Elt Ideal)) (t : Fin cfg0.N) (x : S1x1x1024x1024.Idx) :
    ((cfg0.win 3).blk t).view.read (Elt Ideal) (W (Pipeline.arrRef spec0 3)) x = W main_arg4 ((win0_3.blk t).view.emb x) := rfl

theorem emb_w3 (t : Fin cfg0.N) (x : S1x1x1024x1024.Idx) :
    ((win0_3.blk t).view.emb x 0 : ℕ) = (x 0).val ∧ ((win0_3.blk t).view.emb x 1 : ℕ) = t.val / 8 + (x 1).val
      ∧ ((win0_3.blk t).view.emb x 2 : ℕ) = (x 2).val ∧ ((win0_3.blk t).view.emb x 3 : ℕ) = (x 3).val := by
  blk_simp [index3]
  exact ⟨trivial, trivial, trivial, trivial⟩

/-- A point's block of weights 3, as kept. -/
theorem pay_w3 (t : Fin cfg0.N) : k0_pay3 (iblk m c 3 t : Vec Ideal S1x1x1024x1024 .f32) = kept (m ((c : Thread nD τ).loc main_arg4)) (pe t.val) := by
  have ht : t.val < 128 := t.isLt
  funext y
  obtain ⟨d, f, rfl⟩ : ∃ d f : Fin 1024, y = ix2 d f := ⟨y 0, y 1, by funext j; fin_cases j <;> rfl⟩
  rw [pay3_apply]
  obtain ⟨h0, h1, h2, h3⟩ := emb_w3 t (ix4 0 0 d f)
  change _ = 0 at h0
  change _ = t.val / 8 + 0 at h1
  change _ = d.val at h2
  change _ = f.val at h3
  unfold iblk kept
  refine (read_w3 (V m c) t (ix4 0 0 d f)).trans ?_
  rw [V_main_arg4]
  refine congrArg _ (funext fun a => Fin.ext ?_)
  fin_cases a
  · exact h0
  · refine h1.trans ?_
    show t.val / 8 + 0 = t.val / 8 % 16
    omega
  · exact h2
  · exact h3

/-- What point `n` leaves: its block of tokens through the expert's weights, and these weights. -/
def left (t : Fin cfg0.N) : Vec Ideal S1x1x1056x1024 .bf16 × Vec Ideal S1024x1024 .bf16 × Vec Ideal S1024x1024 .bf16 × Vec Ideal S1024x1024 .bf16 :=
  (blk (iblk m c 0 t) (kept (m ((c : Thread nD τ).loc main_arg2)) (pe t.val)) (kept (m ((c : Thread nD τ).loc main_arg3)) (pe t.val)) (kept (m ((c : Thread nD τ).loc main_arg4)) (pe t.val)),
    kept (m ((c : Thread nD τ).loc main_arg2)) (pe t.val), kept (m ((c : Thread nD τ).loc main_arg3)) (pe t.val), kept (m ((c : Thread nD τ).loc main_arg4)) (pe t.val))

/-- The grid's points in order: the first batch entry of an expert stores its weights, the others find them. -/
theorem outs (n : ℕ) (hn : n < cfg0.N) : outsAt0 m c n hn = left m c ⟨n, hn⟩ := by
  induction n using Nat.strong_induction_on with
  | _ n ih =>
    by_cases h0 : n % 8 = 0
    · rw [outsAt0_A m c ⟨n, hn⟩ h0, outA, sout0, sout1, sout2]
      unfold left
      rw [pay_w1, pay_w2, pay_w3]
    · have hp : n - 1 < cfg0.N := Nat.lt_of_le_of_lt (Nat.sub_le _ _) hn
      have e := ih (n - 1) (by omega) hp
      have ee : pe (n - 1) = pe n := by
        unfold pe
        refine Fin.ext ?_
        show (n - 1) / 8 % 16 = n / 8 % 16
        omega
      refine (outsAt0_B m c ⟨n, hn⟩ h0).trans ?_
      dsimp only
      rw [e]
      unfold left
      dsimp only
      rw [ee]
      refine Prod.ext ?_ (Prod.ext rfl (Prod.ext rfl rfl))
      rw [outB]

/-- The array that the call leaves is the reference's. -/
theorem value : Cert.Kernel2Ideal.Value.G4 m c = FfnRef.out (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  obtain ⟨b, e, r, o, rfl⟩ : ∃ (b : Fin 8) (e : Fin 16) (r : Fin 1056) (o : Fin 1024), i = ix4 b e r o := ⟨i 0, i 1, i 2, i 3, by funext j; fin_cases j <;> rfl⟩
  have hb := b.isLt
  have he := e.isLt
  have hr := r.isLt
  have ho := o.isLt
  have hpt : Cert.Kernel2Ideal.Value.pt4Of (ix4 b e r o) = b.val + 8 * e.val := by
    show 1 * (b.val / 1 - 0) + 8 * (e.val / 1 - 0) + 128 * (r.val / 1056 - 0) + 128 * (o.val / 1024 - 0) = _
    omega
  have hlt : Cert.Kernel2Ideal.Value.pt4Of (ix4 b e r o) < cfg0.N := by
    rw [hpt]
    show _ < 128
    omega
  have hloc : Cert.Kernel2Ideal.Value.loc4Of (ix4 b e r o) = ix4 0 0 r o := by
    funext a
    refine Fin.ext ?_
    fin_cases a
    · show b.val % 1 = 0; omega
    · show e.val % 1 = 0; omega
    · show r.val % 1056 = r.val; omega
    · show o.val % 1024 = o.val; omega
  have hbat : pbat (Cert.Kernel2Ideal.Value.pt4Of (ix4 b e r o)) = b := by
    rw [hpt]; refine Fin.ext ?_; show (b.val + 8 * e.val) % 8 = b.val; omega
  have hexp : pe (Cert.Kernel2Ideal.Value.pt4Of (ix4 b e r o)) = e := by
    rw [hpt]; refine Fin.ext ?_; show (b.val + 8 * e.val) / 8 % 16 = e.val; omega
  unfold Cert.Kernel2Ideal.Value.G4
  rw [dif_pos hlt, ← Cert.Kernel2Ideal.Value.outsAt0_sweep m c _ hlt, outs, hloc]
  rw [FfnRef.out_apply]
  unfold left blk
  dsimp only
  show row (fun d => (iblk m c 0 _ : Vec Ideal S1x1x1056x1024 .bf16) (ix4 0 0 r d)) _ _ _ o = _
  simp only [blk_x, hbat, hexp]
  rfl

end Cert.Proof.Ffn

end
-- ==== Proof.Common.lean ====
/-
  What every module of the attention call's proof shares: the resource algebra, a memref's buffer held whole, and the
  operands of the kernel's body as one list of binders.
-/
module

public import proofs.«01_k».proof.Proof.Gen.KernelIdeal.Frame
public import proofs.«01_k».proof.Proof.Gen.KernelIdeal.Loops

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
abbrev UU (nD : Nat) (τ : Topo) : Type := UR sig nD τ

local notation "𝕄" => MT nD τ sig Unit (Elt F) ℕ (UU nD τ) ℕ

/-- The contents of a memref's buffer on core `c`. -/
abbrev Bf (c : Dev nD) {sp : Space} {S : Shape} {e : EltTy} (M : Memref sig .tc sp S e) : Type := Buf (Elt F) (M.view.loc (c : Thread nD τ))
/-- That buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

end Cert.Proof.Attn

end
-- ==== Proof.Model.lean ====
module

public import proofs.«01_k».proof.Proof.Common
public import Idealize.ShloMosaic.Lib.VecWindow

/-! What the attention kernel computes at one grid point, written as plain recursions over its work items: item `n` is the key chunk `n % 11` of the
    query tile `n / 11`; `h` is the head of the pair. Every value is kept in the form in which the kernel stores it. -/

@[expose] public section

noncomputable section

namespace Cert.Proof.Attn

open Cert.KernelIdeal Cert.KernelIdeal.Gen
open Idealize.ShloMosaic

variable {F : FTy → Type} [FloatOps F]

/-- The contents of the three input blocks. -/
abbrev QB (F : FTy → Type) := S1x16x256x256.Idx → Elt F .bf16
abbrev KB (F : FTy → Type) := S1x8448x256.Idx → Elt F .bf16
abbrev VB (F : FTy → Type) := S1x33x160x256.Idx → Elt F .bf16

theorem mod11 (n : ℕ) : n % 11 ≤ 10 := by omega
theorem div4 (n : ℕ) : (n / 11) % 4 ≤ 3 := by omega

/-- The key rows of item `n`, head `h`. -/
def Kb (x : KB F) (n : ℕ) (h : Fin 2) : Vec F S1x768x128 .bf16 :=
  VecWindow.window x ![0, 768 * (n % 11), 128 * h.val] S1x768x128.size (by
    have := mod11 n; intro a; fin_cases a <;> simp [S1x768x128, S1x8448x256] <;> omega)

/-- The `j`-th of the four query blocks of item `n`'s tile, head `h`. -/
def Qb (x : QB F) (n : ℕ) (h : Fin 2) (j : Fin 4) : Vec F S1x1x128x256 .bf16 :=
  VecWindow.window x ![0, 4 * ((n / 11) % 4) + j.val, 128 * h.val, 0] S1x1x128x256.size (by
    have := div4 n; intro a; fin_cases a <;> simp [S1x1x128x256, S1x16x256x256] <;> omega)

/-- The `j`-th of the three value blocks of item `n`, head `h`. -/
def Vb (x : VB F) (n : ℕ) (h : Fin 2) (j : Fin 3) : Vec F S1x1x80x256 .bf16 :=
  VecWindow.window x ![0, 3 * (n % 11) + j.val, 80 * h.val, 0] S1x1x80x256.size (by
    have := mod11 n; intro a; fin_cases a <;> simp [S1x1x80x256, S1x33x160x256] <;> omega)

/-- One chunk of scores: keys against the four query blocks side by side. -/
def scoreV (vK : Vec F S1x768x128 .bf16) (q0 q1 q2 q3 : Vec F S1x1x128x256 .bf16) : FVec F S768x1024 .f32 :=
  matmul dot_S768x128_S128x1024_S768x1024_1_0_0_1_n_n none (shapeCast S768x128 vK shapeCasts_S1x768x128_S768x128 : FVec F S768x128 .bf16)
    (concatenate S128x1024 1 [⟨S128x256, (shapeCast S128x256 q0 shapeCasts_S1x1x128x256_S128x256 : FVec F S128x256 .bf16)⟩,
      ⟨S128x256, (shapeCast S128x256 q1 shapeCasts_S1x1x128x256_S128x256 : FVec F S128x256 .bf16)⟩,
      ⟨S128x256, (shapeCast S128x256 q2 shapeCasts_S1x1x128x256_S128x256 : FVec F S128x256 .bf16)⟩,
      ⟨S128x256, (shapeCast S128x256 q3 shapeCasts_S1x1x128x256_S128x256 : FVec F S128x256 .bf16)⟩]
      concatenates_S128x256_S128x256_S128x256_S128x256_S128x1024_d1 : FVec F S128x1024 .bf16)
    (constant S768x1024 .f32 0x00000000#32 : FVec F S768x1024 .f32)

def scoreS (vK : Vec F S1x768x128 .bf16) (q0 q1 q2 q3 : Vec F S1x1x128x256 .bf16) : FVec F S1x768x1024 .f32 :=
  shapeCast S1x768x1024 (scoreV vK q0 q1 q2 q3) shapeCasts_S768x1024_S1x768x1024

/-- The largest score of every query of the chunk. -/
def cmaxS (vK : Vec F S1x768x128 .bf16) (q0 q1 q2 q3 : Vec F S1x1x128x256 .bf16) : FVec F S1x1x1x1024 .f32 :=
  shapeCast S1x1x1x1024 (shapeCast S1x1024 (multiReduction .maximumf [0] S1024 (scoreV vK q0 q1 q2 q3) 0xFF800000#32
    reduces_S768x1024_S1024 (.inl rfl) rfl : FVec F S1024 .f32) shapeCasts_S1024_S1x1024 : FVec F S1x1024 .f32) shapeCasts_S1x1024_S1x1x1x1024

/-- The running maximum a tile starts from. -/
def ninf : FVec F S1x1024 .f32 := broadcast S1x1024 (Scalar.ofBits .f32 0xFF800000#32 : F .f32)

/-- The running maximum as it is loaded. -/
def mLd (m : Vec F S1x1x1024 .f32) : FVec F S1x1024 .f32 := shapeCast S1x1024 m shapeCasts_S1x1x1024_S1x1024

def mNewV (mp : FVec F S1x1024 .f32) (cm : Vec F S1x1x1x1024 .f32) : FVec F S1x1024 .f32 :=
  maximumf mp (shapeCast S1x1024 cm shapeCasts_S1x1x1x1024_S1x1024)

def mSt (mp : FVec F S1x1024 .f32) (cm : Vec F S1x1x1x1024 .f32) : FVec F S1x1x1024 .f32 :=
  shapeCast S1x1x1024 (mNewV mp cm) shapeCasts_S1x1024_S1x1x1024

/-- The rescale factor of the accumulator. -/
def alSt (mp : FVec F S1x1024 .f32) (cm : Vec F S1x1x1x1024 .f32) : FVec F S1x1x1x1024 .f32 :=
  shapeCast S1x1x1x1024 (exp2 (subf mp (mNewV mp cm)) : FVec F S1x1024 .f32) shapeCasts_S1x1024_S1x1x1x1024

/-- The weights of the chunk. -/
def pSt (mp : FVec F S1x1024 .f32) (cm : Vec F S1x1x1x1024 .f32) (s : Vec F S1x768x1024 .f32) : FVec F S1x768x1024 .bf16 :=
  shapeCast S1x768x1024 (truncf .bf16 (exp2 (subf (shapeCast S768x1024 s shapeCasts_S1x768x1024_S768x1024 : FVec F S768x1024 .f32)
    (broadcastTo S768x1024 (mNewV mp cm) broadcasts_S1x1024_S768x1024))) bitsLt_bf16_f32 : FVec F S768x1024 .bf16) shapeCasts_S768x1024_S1x768x1024

/-- Values against weights, one block. -/
def pvV (v : Vec F S1x1x80x256 .bf16) (p : Vec F S1x256x1024 .bf16) : FVec F S80x1024 .f32 :=
  matmul dot_S80x256_S256x1024_S80x1024_1_0_0_1_n_n none (shapeCast S80x256 v shapeCasts_S1x1x80x256_S80x256 : FVec F S80x256 .bf16)
    (shapeCast S256x1024 p shapeCasts_S1x256x1024_S256x1024 : FVec F S256x1024 .bf16) (constant S80x1024 .f32 0x00000000#32 : FVec F S80x1024 .f32)

/-- The accumulator after one more chunk. -/
def accSt (v0 v1 v2 : Vec F S1x1x80x256 .bf16) (p0 p1 p2 : Vec F S1x256x1024 .bf16) (al : Vec F S1x1x1x1024 .f32) (acc : Vec F S1x80x1024 .f32) :
    FVec F S1x80x1024 .f32 :=
  shapeCast S1x80x1024 (addf (mulf (broadcastTo S80x1024 (shapeCast S1x1024 al shapeCasts_S1x1x1x1024_S1x1024 : FVec F S1x1024 .f32) broadcasts_S1x1024_S80x1024)
    (shapeCast S80x1024 acc shapeCasts_S1x80x1024_S80x1024 : FVec F S80x1024 .f32)) (addf (addf (pvV v0 p0) (pvV v1 p1)) (pvV v2 p2)) : FVec F S80x1024 .f32)
    shapeCasts_S80x1024_S1x80x1024

/-- One head's quotient. -/
def quoV (n : Vec F S1x64x1024 .f32) (d : Vec F S1x1x1024 .f32) : FVec F S64x1024 .f32 :=
  divf (shapeCast S64x1024 n shapeCasts_S1x64x1024_S64x1024 : FVec F S64x1024 .f32)
    (broadcastTo S64x1024 (shapeCast S1x1024 d shapeCasts_S1x1x1024_S1x1024 : FVec F S1x1024 .f32) broadcasts_S1x1024_S64x1024)

/-- The output tile of the two heads. -/
def finSt (n0 : Vec F S1x64x1024 .f32) (d0 : Vec F S1x1x1024 .f32) (n1 : Vec F S1x64x1024 .f32) (d1 : Vec F S1x1x1024 .f32) : FVec F S1x1024x128 .bf16 :=
  shapeCast S1x1024x128 (truncf .bf16 (transpose S1024x128 [1, 0] (concatenate S128x1024 0 [⟨S64x1024, quoV n0 d0⟩, ⟨S64x1024, quoV n1 d1⟩]
    concatenates_S64x1024_S64x1024_S128x1024_d0 : FVec F S128x1024 .f32) transposes_S128x1024_p1_0_S1024x128 : FVec F S1024x128 .f32) bitsLt_bf16_f32 : FVec F S1024x128 .bf16)
    shapeCasts_S1024x128_S1x1024x128

/-- A block of 256 rows of the weights. -/
def p256 (p : Vec F S1x768x1024 .bf16) (j : Fin 3) : Vec F S1x256x1024 .bf16 :=
  VecWindow.window (s := S1x768x1024) p ![0, 256 * j.val, 0] S1x256x1024.size (by
    intro a; fin_cases a <;> simp [S1x256x1024, S1x768x1024] <;> omega)

/-- The 64 value rows and the denominator row of an accumulator. -/
def acc64 (a : Vec F S1x80x1024 .f32) : Vec F S1x64x1024 .f32 :=
  VecWindow.window (s := S1x80x1024) a ![0, 0, 0] S1x64x1024.size (by intro a; fin_cases a <;> simp [S1x64x1024, S1x80x1024])
def acc1 (a : Vec F S1x80x1024 .f32) : Vec F S1x1x1024 .f32 :=
  VecWindow.window (s := S1x80x1024) a ![0, 64, 0] S1x1x1024.size (by intro a; fin_cases a <;> simp [S1x1x1024, S1x80x1024])

variable (xq : QB F) (xk : KB F) (xv : VB F)

def sI (n : ℕ) (h : Fin 2) : Vec F S1x768x1024 .f32 := scoreS (Kb xk n h) (Qb xq n h 0) (Qb xq n h 1) (Qb xq n h 2) (Qb xq n h 3)
def cmI (n : ℕ) (h : Fin 2) : Vec F S1x1x1x1024 .f32 := cmaxS (Kb xk n h) (Qb xq n h 0) (Qb xq n h 1) (Qb xq n h 2) (Qb xq n h 3)

/-- The running maximum before item `n`, as the tile's first item resets it. -/
def mpI : ℕ → Fin 2 → FVec F S1x1024 .f32
  | 0, _ => ninf
  | n + 1, h => if (n + 1) % 11 = 0 then ninf else mLd (mSt (mpI n h) (cmI xq xk n h))

def mI (n : ℕ) (h : Fin 2) : Vec F S1x1x1024 .f32 := mSt (mpI xq xk n h) (cmI xq xk n h)
def pI (n : ℕ) (h : Fin 2) : Vec F S1x768x1024 .bf16 := pSt (mpI xq xk n h) (cmI xq xk n h) (sI xq xk n h)
def alI (n : ℕ) (h : Fin 2) : Vec F S1x1x1x1024 .f32 := alSt (mpI xq xk n h) (cmI xq xk n h)

/-- The accumulator before item `n`. -/
def accI : ℕ → Fin 2 → Vec F S1x80x1024 .f32
  | 0, _ => (constant S1x80x1024 .f32 0x00000000#32 : FVec F S1x80x1024 .f32)
  | n + 1, h => accSt (Vb xv n h 0) (Vb xv n h 1) (Vb xv n h 2) (p256 (pI xq xk n h) 0) (p256 (pI xq xk n h) 1) (p256 (pI xq xk n h) 2)
      (alI xq xk n h) (accI n h)

/-- The output tile after item `n` − 1. -/
def outI (n : ℕ) : Vec F S1x1024x128 .bf16 :=
  finSt (acc64 (accI xq xk xv n 0)) (acc1 (accI xq xk xv n 0)) (acc64 (accI xq xk xv n 1)) (acc1 (accI xq xk xv n 1))

/-- The whole output block: row `r` of query tile `r / 1024`. -/
def outB : S1x4096x128.Idx → Elt F .bf16 := fun y =>
  outI xq xk xv (11 * ((y 1).val / 1024 + 1)) (fun a => match a with
    | 0 => ⟨0, by decide⟩ | 1 => ⟨(y 1).val % 1024, Nat.mod_lt _ (by decide)⟩ | 2 => ⟨(y 2).val, (y 2).isLt⟩)

end Cert.Proof.Attn

end
-- ==== Proof.Facts.lean ====
module

public import proofs.«01_k».proof.Proof.Model

/-! What the scratch buffers hold between two work items. -/

@[expose] public section

noncomputable section

namespace Cert.Proof.Attn

open Cert.KernelIdeal Cert.KernelIdeal.Gen
open Idealize.ShloMosaic

variable {F : FTy → Type} [FloatOps F]

/-- The contents of the scratch buffers before the step of an even item `t`: the scores of item `t + 1`, the weights and the factor of item `t`, the
    running maximum after item `t` and the accumulator before it. -/
structure Facts (xq : QB F) (xk : KB F) (xv : VB F) (c : Dev nD)
    (arg8 : Memref sig .tc .vmem S2x768x1024 .f32) (arg9 : Memref sig .tc .vmem S2x768x1024 .bf16)
    (arg11 : Memref sig .tc .vmem S2x2x1x1024 .f32) (arg12 : Memref sig .tc .vmem S2x2x1x1024 .f32)
    (arg13 : Memref sig .tc .vmem S2x80x1024 .f32) (arg14 : Memref sig .tc .vmem S2x1x1024 .f32)
    (f8 : Bf (F := F) c arg8) (f9 : Bf (F := F) c arg9) (f11 : Bf (F := F) c arg11) (f12 : Bf (F := F) c arg12)
    (f13 : Bf (F := F) c arg13) (f14 : Bf (F := F) c arg14) (t : ℕ) : Prop where
  s0 : View.readAt (Elt F) arg8.view (Rect.unit (s := S2x768x1024) ![0, 0, 0] S1x768x1024.size inb_S2x768x1024_S1x768x1024_0_0_0).toLoadRect f8 = sI xq xk (t + 1) 0
  s1 : View.readAt (Elt F) arg8.view (Rect.unit (s := S2x768x1024) ![1, 0, 0] S1x768x1024.size inb_S2x768x1024_S1x768x1024_1_0_0).toLoadRect f8 = sI xq xk (t + 1) 1
  cm0 : View.readAt (Elt F) arg12.view (Rect.unit (s := S2x2x1x1024) ![1, 0, 0, 0] S1x1x1x1024.size inb_S2x2x1x1024_S1x1x1x1024_1_0_0_0).toLoadRect f12 = cmI xq xk (t + 1) 0
  cm1 : View.readAt (Elt F) arg12.view (Rect.unit (s := S2x2x1x1024) ![1, 1, 0, 0] S1x1x1x1024.size inb_S2x2x1x1024_S1x1x1x1024_1_1_0_0).toLoadRect f12 = cmI xq xk (t + 1) 1
  p0 : View.readAt (Elt F) arg9.view (Rect.unit (s := S2x768x1024) ![0, 0, 0] S1x768x1024.size inb_S2x768x1024_S1x768x1024_0_0_0).toLoadRect f9 = pI xq xk t 0
  p1 : View.readAt (Elt F) arg9.view (Rect.unit (s := S2x768x1024) ![1, 0, 0] S1x768x1024.size inb_S2x768x1024_S1x768x1024_1_0_0).toLoadRect f9 = pI xq xk t 1
  al0 : View.readAt (Elt F) arg11.view (Rect.unit (s := S2x2x1x1024) ![0, 0, 0, 0] S1x1x1x1024.size inb_S2x2x1x1024_S1x1x1x1024_0_0_0_0).toLoadRect f11 = alI xq xk t 0
  al1 : View.readAt (Elt F) arg11.view (Rect.unit (s := S2x2x1x1024) ![0, 1, 0, 0] S1x1x1x1024.size inb_S2x2x1x1024_S1x1x1x1024_0_1_0_0).toLoadRect f11 = alI xq xk t 1
  m0 : View.readAt (Elt F) arg14.view (Rect.unit (s := S2x1x1024) ![0, 0, 0] S1x1x1024.size inb_S2x1x1024_S1x1x1024_0_0_0).toLoadRect f14 = mI xq xk t 0
  m1 : View.readAt (Elt F) arg14.view (Rect.unit (s := S2x1x1024) ![1, 0, 0] S1x1x1024.size inb_S2x1x1024_S1x1x1024_1_0_0).toLoadRect f14 = mI xq xk t 1
  acc0 : View.readAt (Elt F) arg13.view (Rect.unit (s := S2x80x1024) ![0, 0, 0] S1x80x1024.size inb_S2x80x1024_S1x80x1024_0_0_0).toLoadRect f13 = accI xq xk xv t 0
  acc1 : View.readAt (Elt F) arg13.view (Rect.unit (s := S2x80x1024) ![1, 0, 0] S1x80x1024.size inb_S2x80x1024_S1x80x1024_1_0_0).toLoadRect f13 = accI xq xk xv t 1

end Cert.Proof.Attn

end
-- ==== Proof.Links.lean ====
module

public import proofs.«01_k».proof.Proof.Facts

/-! Loads after stores, and the model's values recognised from their parts. -/

@[expose] public section

noncomputable section

namespace Cert.Proof.Attn

open Cert.KernelIdeal Cert.KernelIdeal.Gen
open Idealize.ShloMosaic

variable {F : FTy → Type} [FloatOps F]

section Loads

variable {κ : Kind} {sp : Space} {s : Shape} {e : EltTy} {Val : EltTy → Type}

/-- A load of the box stored last reads the payload. -/
theorem readAt_hit (v : View sig κ sp s e) (f : v.ty.Contents Val) {off size : Fin s.rank → ℕ} (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w := by
  rw [View.readAt_unit v _ inb rfl inb, View.read_writes_cons_put v f inb' w L rfl]
  exact VecWindow.window_put_same _ _ _ _ _

/-- A load of a box apart from the box stored last does not see it. -/
theorem readAt_skip (v : View sig κ sp s e) (f : v.ty.Contents Val) {off size off' size' : Fin s.rank → ℕ} (inb : ∀ a, off a + size a ≤ s.size a)
    (inb' : ∀ a, off' a + size' a ≤ s.size a) (w : (Rect.unit off' size' inb').shape.Idx → Val e) (L : List (View.Piece Val s e))
    (h : ∃ a, off' a + size' a ≤ off a ∨ off a + size a ≤ off' a) :
    v.readAt Val (Rect.unit off size inb).toLoadRect (v.writes Val f (⟨Rect.unit off' size' inb', w⟩ :: L))
      = v.readAt Val (Rect.unit off size inb).toLoadRect (v.writes Val f L) := by
  rw [View.readAt_unit v _ inb rfl inb, View.readAt_unit v _ inb rfl inb, View.read_writes_cons_put v f inb' w L rfl]
  funext y
  obtain ⟨a, ha⟩ := h
  show VecWindow.put _ off' size' w _ = _
  unfold VecWindow.put
  rw [dif_neg]
  · rfl
  · intro hy
    have h1 := hy a
    have h2 : ((Rect.unit off size inb).emb y a).val = off a + 1 * (y a).val := rfl
    have h3 : (y a).val < size a := (y a).isLt
    omega

/-- A load of a box inside a box already loaded reads a window of it. -/
theorem readAt_sub (v : View sig κ sp s e) (f : v.ty.Contents Val) {off size off' size' : Fin s.rank → ℕ} (inb : ∀ a, off a + size a ≤ s.size a)
    (inb' : ∀ a, off' a + size' a ≤ s.size a) (x : (Rect.unit off size inb).shape.Idx → Val e)
    (hx : v.readAt Val (Rect.unit off size inb).toLoadRect f = x) (o : Fin s.rank → ℕ) (ho : ∀ a, off' a = off a + o a)
    (hin : ∀ a, o a + size' a ≤ size a) :
    v.readAt Val (Rect.unit off' size' inb').toLoadRect f = VecWindow.window (s := (Rect.unit off size inb).shape) x o size' hin := by
  subst hx
  funext y
  refine congrArg (v.read Val f) (funext fun a => Fin.ext ?_)
  show off' a + 1 * (y a).val = off a + 1 * (o a + 1 * (y a).val)
  rw [ho a]; omega

theorem readAt_sub_const (v : View sig κ sp s e) (f : v.ty.Contents Val) {off size off' size' : Fin s.rank → ℕ}
    (inb : ∀ a, off a + size a ≤ s.size a) (inb' : ∀ a, off' a + size' a ≤ s.size a) (w : (Rect.unit off size inb).shape.Idx → Val e)
    (L : List (View.Piece Val s e)) (z : Val e) (hw : ∀ i, w i = z) (o : Fin s.rank → ℕ) (ho : ∀ a, off' a = off a + o a)
    (hin : ∀ a, o a + size' a ≤ size a) :
    v.readAt Val (Rect.unit off' size' inb').toLoadRect (v.writes Val f (⟨Rect.unit off size inb, w⟩ :: L)) = fun _ => z := by
  refine (readAt_sub v _ inb inb' w (readAt_hit _ _ _ _ _ _) o ho hin).trans ?_
  funext y
  exact hw _

variable [∀ e, Nonempty (Val e)]

theorem readCov_hit (v : View sig κ sp s e) {off size : Fin s.rank → ℕ} (inb inb' : ∀ a, off a + size a ≤ s.size a)
    (w : (Rect.unit off size inb').shape.Idx → Val e) (L : List (View.Piece Val s e)) :
    v.readCov (⟨Rect.unit off size inb', w⟩ :: L) (Rect.unit off size inb).toLoadRect = w := readAt_hit v v.junk inb inb' w L

theorem readCov_skip' (v : View sig κ sp s e) {off size off' size' : Fin s.rank → ℕ} (inb : ∀ a, off a + size a ≤ s.size a)
    (inb' : ∀ a, off' a + size' a ≤ s.size a) (w : (Rect.unit off' size' inb').shape.Idx → Val e) (L : List (View.Piece Val s e))
    (h : ∃ a, off' a + size' a ≤ off a ∨ off a + size a ≤ off' a) :
    v.readCov (⟨Rect.unit off' size' inb', w⟩ :: L) (Rect.unit off size inb).toLoadRect = v.readCov L (Rect.unit off size inb).toLoadRect :=
  readAt_skip v v.junk inb inb' w L h

theorem readCov_sub (v : View sig κ sp s e) {off size off' size' : Fin s.rank → ℕ} (inb : ∀ a, off a + size a ≤ s.size a)
    (inb' : ∀ a, off' a + size' a ≤ s.size a) (w : (Rect.unit off size inb).shape.Idx → Val e) (L : List (View.Piece Val s e))
    (o : Fin s.rank → ℕ) (ho : ∀ a, off' a = off a + o a) (hin : ∀ a, o a + size' a ≤ size a) :
    v.readCov (⟨Rect.unit off size inb, w⟩ :: L) (Rect.unit off' size' inb').toLoadRect
      = VecWindow.window (s := (Rect.unit off size inb).shape) w o size' hin :=
  readAt_sub v _ inb inb' w (readAt_hit v v.junk inb inb w L) o ho hin

end Loads

theorem Kb_of {c : Dev nD} (arg4 : Memref sig .tc .vmem S1x8448x256 .bf16) (f4 : Bf (F := F) c arg4) (n : ℕ) (h : Fin 2) {off : Fin 3 → ℕ}
    (inb : ∀ a, off a + S1x768x128.size a ≤ S1x8448x256.size a) (ho : off = ![0, 768 * (n % 11), 128 * h.val]) :
    View.readAt (Elt F) arg4.view (Rect.unit (s := S1x8448x256) off S1x768x128.size inb).toLoadRect f4 = Kb (arg4.view.read (Elt F) f4) n h :=
  View.readAt_unit _ _ _ ho _

theorem Qb_of {c : Dev nD} (arg3 : Memref sig .tc .vmem S1x16x256x256 .bf16) (f3 : Bf (F := F) c arg3) (n : ℕ) (h : Fin 2) (j : Fin 4) {off : Fin 4 → ℕ}
    (inb : ∀ a, off a + S1x1x128x256.size a ≤ S1x16x256x256.size a) (ho : off = ![0, 4 * ((n / 11) % 4) + j.val, 128 * h.val, 0]) :
    View.readAt (Elt F) arg3.view (Rect.unit (s := S1x16x256x256) off S1x1x128x256.size inb).toLoadRect f3 = Qb (arg3.view.read (Elt F) f3) n h j :=
  View.readAt_unit _ _ _ ho _

theorem Vb_of {c : Dev nD} (arg5 : Memref sig .tc .vmem S1x33x160x256 .bf16) (f5 : Bf (F := F) c arg5) (n : ℕ) (h : Fin 2) (j : Fin 3) {off : Fin 4 → ℕ}
    (inb : ∀ a, off a + S1x1x80x256.size a ≤ S1x33x160x256.size a) (ho : off = ![0, 3 * (n % 11) + j.val, 80 * h.val, 0]) :
    View.readAt (Elt F) arg5.view (Rect.unit (s := S1x33x160x256) off S1x1x80x256.size inb).toLoadRect f5 = Vb (arg5.view.read (Elt F) f5) n h j :=
  View.readAt_unit _ _ _ ho _

/-- A block of 256 rows of the weights stored last. -/
theorem ldP_cov (arg : Memref sig .tc .vmem S2x768x1024 .bf16) (h : ℕ) (j : Fin 3) (inb : ∀ a, (![h, 0, 0] : Fin 3 → ℕ) a + S1x768x1024.size a ≤ S2x768x1024.size a)
    (inb' : ∀ a, (![h, 256 * j.val, 0] : Fin 3 → ℕ) a + S1x256x1024.size a ≤ S2x768x1024.size a)
    {w x : Vec F S1x768x1024 .bf16} (hw : w = x) (L : List (View.Piece (Elt F) S2x768x1024 .bf16)) :
    arg.view.readCov ((⟨Rect.unit (s := S2x768x1024) ![h, 0, 0] S1x768x1024.size inb, w⟩ : View.Piece (Elt F) S2x768x1024 .bf16) :: L)
      (Rect.unit (s := S2x768x1024) ![h, 256 * j.val, 0] S1x256x1024.size inb').toLoadRect = p256 x j := by
  subst hw
  exact readCov_sub arg.view inb inb' w L ![0, 256 * j.val, 0] (by intro a; fin_cases a <;> simp) (by intro a; fin_cases a <;> simp [S1x256x1024, S1x768x1024] <;> omega)

/-- The value rows and the denominator row of an accumulator stored last. -/
theorem ldA_cov (arg : Memref sig .tc .vmem S2x80x1024 .f32) (h : ℕ) (inb : ∀ a, (![h, 0, 0] : Fin 3 → ℕ) a + S1x80x1024.size a ≤ S2x80x1024.size a)
    (inb' : ∀ a, (![h, 0, 0] : Fin 3 → ℕ) a + S1x64x1024.size a ≤ S2x80x1024.size a)
    {w x : Vec F S1x80x1024 .f32} (hw : w = x) (L : List (View.Piece (Elt F) S2x80x1024 .f32)) :
    arg.view.readCov ((⟨Rect.unit (s := S2x80x1024) ![h, 0, 0] S1x80x1024.size inb, w⟩ : View.Piece (Elt F) S2x80x1024 .f32) :: L)
      (Rect.unit (s := S2x80x1024) ![h, 0, 0] S1x64x1024.size inb').toLoadRect = acc64 x := by
  subst hw
  exact readCov_sub arg.view inb inb' w L ![0, 0, 0] (by intro a; fin_cases a <;> simp) (by intro a; fin_cases a <;> simp [S1x64x1024, S1x80x1024])

theorem ldD_cov (arg : Memref sig .tc .vmem S2x80x1024 .f32) (h : ℕ) (inb : ∀ a, (![h, 0, 0] : Fin 3 → ℕ) a + S1x80x1024.size a ≤ S2x80x1024.size a)
    (inb' : ∀ a, (![h, 64, 0] : Fin 3 → ℕ) a + S1x1x1024.size a ≤ S2x80x1024.size a)
    {w x : Vec F S1x80x1024 .f32} (hw : w = x) (L : List (View.Piece (Elt F) S2x80x1024 .f32)) :
    arg.view.readCov ((⟨Rect.unit (s := S2x80x1024) ![h, 0, 0] S1x80x1024.size inb, w⟩ : View.Piece (Elt F) S2x80x1024 .f32) :: L)
      (Rect.unit (s := S2x80x1024) ![h, 64, 0] S1x1x1024.size inb').toLoadRect = acc1 x := by
  subst hw
  exact readCov_sub arg.view inb inb' w L ![0, 64, 0] (by intro a; fin_cases a <;> simp) (by intro a; fin_cases a <;> simp [S1x1x1024, S1x80x1024])

section Parts

variable {xq : QB F} {xk : KB F} {xv : VB F}

theorem sI_of {n : ℕ} {h : Fin 2} {vK : Vec F S1x768x128 .bf16} {q0 q1 q2 q3 : Vec F S1x1x128x256 .bf16}
    (hK : vK = Kb xk n h) (h0 : q0 = Qb xq n h 0) (h1 : q1 = Qb xq n h 1) (h2 : q2 = Qb xq n h 2) (h3 : q3 = Qb xq n h 3) :
    scoreS vK q0 q1 q2 q3 = sI xq xk n h := by rw [hK, h0, h1, h2, h3]; rfl

theorem cmI_of {n : ℕ} {h : Fin 2} {vK : Vec F S1x768x128 .bf16} {q0 q1 q2 q3 : Vec F S1x1x128x256 .bf16}
    (hK : vK = Kb xk n h) (h0 : q0 = Qb xq n h 0) (h1 : q1 = Qb xq n h 1) (h2 : q2 = Qb xq n h 2) (h3 : q3 = Qb xq n h 3) :
    cmaxS vK q0 q1 q2 q3 = cmI xq xk n h := by rw [hK, h0, h1, h2, h3]; rfl

/-- Within a tile the running maximum goes on from the item before. -/
theorem mpI_on {n : ℕ} {h : Fin 2} {b : BitVec 1} {m : Vec F S1x1x1024 .f32} (hb : b = 0#1) (hn : (n + 1) % 11 ≠ 0) (hm : m = mI xq xk n h) :
    (Scalar.select b ninf (mLd m) : FVec F S1x1024 .f32) = mpI xq xk (n + 1) h := by
  subst hb hm
  rw [mpI, if_neg hn]; rfl

/-- A tile's first item resets it. -/
theorem mpI_reset {n : ℕ} {h : Fin 2} {b : BitVec 1} {m : Vec F S1x1x1024 .f32} (hb : b = 1#1) (hn : n % 11 = 0) :
    (Scalar.select b ninf (mLd m) : FVec F S1x1024 .f32) = mpI xq xk n h := by
  subst hb
  cases n with
  | zero => rfl
  | succ n => rw [mpI, if_pos hn]; rfl

theorem mI_of {n : ℕ} {h : Fin 2} {mp : FVec F S1x1024 .f32} {cm : Vec F S1x1x1x1024 .f32} (h1 : mp = mpI xq xk n h) (h2 : cm = cmI xq xk n h) :
    mSt mp cm = mI xq xk n h := by rw [h1, h2]; rfl

theorem alI_of {n : ℕ} {h : Fin 2} {mp : FVec F S1x1024 .f32} {cm : Vec F S1x1x1x1024 .f32} (h1 : mp = mpI xq xk n h) (h2 : cm = cmI xq xk n h) :
    alSt mp cm = alI xq xk n h := by rw [h1, h2]; rfl

theorem pI_of {n : ℕ} {h : Fin 2} {mp : FVec F S1x1024 .f32} {cm : Vec F S1x1x1x1024 .f32} {s : Vec F S1x768x1024 .f32}
    (h1 : mp = mpI xq xk n h) (h2 : cm = cmI xq xk n h) (h3 : s = sI xq xk n h) : pSt mp cm s = pI xq xk n h := by rw [h1, h2, h3]; rfl

theorem accI_of {n : ℕ} {h : Fin 2} {v0 v1 v2 : Vec F S1x1x80x256 .bf16} {p0 p1 p2 : Vec F S1x256x1024 .bf16} {al : Vec F S1x1x1x1024 .f32}
    {acc : Vec F S1x80x1024 .f32} (a0 : v0 = Vb xv n h 0) (a1 : v1 = Vb xv n h 1) (a2 : v2 = Vb xv n h 2)
    (b0 : p0 = p256 (pI xq xk n h) 0) (b1 : p1 = p256 (pI xq xk n h) 1) (b2 : p2 = p256 (pI xq xk n h) 2)
    (hal : al = alI xq xk n h) (hacc : acc = accI xq xk xv n h) :
    accSt v0 v1 v2 p0 p1 p2 al acc = accI xq xk xv (n + 1) h := by rw [a0, a1, a2, b0, b1, b2, hal, hacc]; rfl

theorem fin_of {n : ℕ} {n0 : Vec F S1x64x1024 .f32} {d0 : Vec F S1x1x1024 .f32} {n1 : Vec F S1x64x1024 .f32} {d1 : Vec F S1x1x1024 .f32}
    (h0 : n0 = acc64 (accI xq xk xv n 0)) (h1 : d0 = acc1 (accI xq xk xv n 0)) (h2 : n1 = acc64 (accI xq xk xv n 1)) (h3 : d1 = acc1 (accI xq xk xv n 1)) :
    finSt n0 d0 n1 d1 = outI xq xk xv n := by rw [h0, h1, h2, h3]; rfl

/-- The four tiles stored are the output block. -/
theorem outB_of {c : Dev nD} (arg6 : Memref sig .tc .vmem S1x4096x128 .bf16) (f6 : Bf (F := F) c arg6)
    (i0 : ∀ a, (![0, 0, 0] : Fin 3 → ℕ) a + S1x1024x128.size a ≤ S1x4096x128.size a) (i1 : ∀ a, (![0, 1024, 0] : Fin 3 → ℕ) a + S1x1024x128.size a ≤ S1x4096x128.size a)
    (i2 : ∀ a, (![0, 2048, 0] : Fin 3 → ℕ) a + S1x1024x128.size a ≤ S1x4096x128.size a) (i3 : ∀ a, (![0, 3072, 0] : Fin 3 → ℕ) a + S1x1024x128.size a ≤ S1x4096x128.size a)
    {w0 w1 w2 w3 : Vec F S1x1024x128 .bf16}
    (h0 : w0 = outI xq xk xv 11) (h1 : w1 = outI xq xk xv 22) (h2 : w2 = outI xq xk xv 33) (h3 : w3 = outI xq xk xv 44) :
    arg6.view.read (Elt F) (arg6.view.writes (Elt F) f6 [(⟨Rect.unit (s := S1x4096x128) ![0, 3072, 0] S1x1024x128.size i3, w3⟩ : View.Piece (Elt F) S1x4096x128 .bf16),
      (⟨Rect.unit (s := S1x4096x128) ![0, 2048, 0] S1x1024x128.size i2, w2⟩ : View.Piece (Elt F) S1x4096x128 .bf16),
      (⟨Rect.unit (s := S1x4096x128) ![0, 1024, 0] S1x1024x128.size i1, w1⟩ : View.Piece (Elt F) S1x4096x128 .bf16),
      (⟨Rect.unit (s := S1x4096x128) ![0, 0, 0] S1x1024x128.size i0, w0⟩ : View.Piece (Elt F) S1x4096x128 .bf16)]) = outB xq xk xv := by
  subst h0 h1 h2 h3
  rw [View.read_writes_cons_put _ _ _ _ _ rfl, View.read_writes_cons_put _ _ _ _ _ rfl, View.read_writes_cons_put _ _ _ _ _ rfl,
    View.read_writes_cons_put _ _ _ _ _ rfl]
  funext y
  have y0 : (y 0).val < 1 := (y 0).isLt
  have y1 : (y 1).val < 4096 := (y 1).isLt
  have y2 : (y 2).val < 128 := (y 2).isLt
  have key : ∀ (q : ℕ) (x : S1x4096x128.Idx → Elt F .bf16), VecWindow.put x ![0, 1024 * q, 0] S1x1024x128.size (outI xq xk xv (11 * (q + 1))) y
      = if (y 1).val / 1024 = q then outB xq xk xv y else x y := by
    intro q x
    unfold VecWindow.put
    by_cases hq : (y 1).val / 1024 = q
    · rw [if_pos hq, dif_pos (by
        intro a; fin_cases a
        · exact ⟨Nat.zero_le _, y0⟩
        · exact ⟨by show 1024 * q ≤ (y 1).val; omega, by show (y 1).val < 1024 * q + 1024; omega⟩
        · exact ⟨Nat.zero_le _, by show (y 2).val < 0 + 128; omega⟩)]
      unfold outB
      rw [hq]
      refine congrArg (outI xq xk xv (11 * (q + 1))) (funext fun a => Fin.ext ?_)
      fin_cases a
      · show (y 0).val - 0 = 0; omega
      · show (y 1).val - 1024 * q = (y 1).val % 1024; omega
      · show (y 2).val - 0 = (y 2).val; omega
    · rw [if_neg hq, dif_neg]
      intro h
      have h1 := h 1
      have a1 : 1024 * q ≤ (y 1).val := h1.1
      have a2 : (y 1).val < 1024 * q + 1024 := h1.2
      omega
  refine (key 3 _).trans ?_
  split
  · rfl
  refine (key 2 _).trans ?_
  split
  · rfl
  refine (key 1 _).trans ?_
  split
  · rfl
  refine (key 0 _).trans ?_
  rw [if_pos (by omega)]

/-- The accumulators as they are cleared. -/
theorem acc0_of {c : Dev nD} (arg13 : Memref sig .tc .vmem S2x80x1024 .f32) (f13 : Bf (F := F) c arg13) (h : Fin 2)
    (inb : ∀ a, (![h.val, 0, 0] : Fin 3 → ℕ) a + S1x80x1024.size a ≤ S2x80x1024.size a)
    (L : List (View.Piece (Elt F) S2x80x1024 .f32)) :
    View.readAt (Elt F) arg13.view (Rect.unit (s := S2x80x1024) ![h.val, 0, 0] S1x80x1024.size inb).toLoadRect
      (arg13.view.writes (Elt F) f13 ((⟨Rect.unit (s := S2x80x1024) ![0, 0, 0] S2x80x1024.size inb_S2x80x1024_S2x80x1024_0_0_0,
        k0_pay207 (F := F)⟩ : View.Piece (Elt F) S2x80x1024 .f32) :: L)) = accI xq xk xv 0 h := by
  have hw : ∀ i, k0_pay207 (F := F) i = Scalar.ofBits .f32 0x00000000#32 := fun i => rfl
  refine (readAt_sub_const arg13.view f13 inb_S2x80x1024_S2x80x1024_0_0_0 inb (k0_pay207 (F := F)) L _ hw ![h.val, 0, 0]
    (by intro a; fin_cases a <;> simp) (by intro a; fin_cases a <;> simp [S1x80x1024, S2x80x1024] <;> omega)).trans ?_
  funext y
  rfl

end Parts

end Cert.Proof.Attn

end
-- ==== Proof.Trip1.lean ====
module

public import proofs.«01_k».proof.Proof.Links

@[expose] public section

set_option maxHeartbeats 4000000
set_option maxRecDepth 8192

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

attribute [local irreducible] shapeCast broadcastTo concatenate

/-! One trip of loop 1: the steps of two items, from what the scratch buffers hold before it to what they hold after. -/

theorem trip1 (c : Dev nD) (i : grid0.Coords) (arg3 : Memref sig .tc .vmem S1x16x256x256 .bf16) (harg3 : arg3.IsWhole) (arg4 : Memref sig .tc .vmem S1x8448x256 .bf16) (harg4 : arg4.IsWhole) (arg5 : Memref sig .tc .vmem S1x33x160x256 .bf16) (harg5 : arg5.IsWhole) (arg6 : Memref sig .tc .vmem S1x4096x128 .bf16) (harg6 : arg6.IsWhole) (arg7 : Memref sig .tc .vmem S2x768x1024 .f32) (harg7 : arg7.IsWhole) (arg8 : Memref sig .tc .vmem S2x768x1024 .f32) (harg8 : arg8.IsWhole) (arg9 : Memref sig .tc .vmem S2x768x1024 .bf16) (harg9 : arg9.IsWhole) (arg10 : Memref sig .tc .vmem S2x768x1024 .bf16) (harg10 : arg10.IsWhole) (arg11 : Memref sig .tc .vmem S2x2x1x1024 .f32) (harg11 : arg11.IsWhole) (arg12 : Memref sig .tc .vmem S2x2x1x1024 .f32) (harg12 : arg12.IsWhole) (arg13 : Memref sig .tc .vmem S2x80x1024 .f32) (harg13 : arg13.IsWhole) (arg14 : Memref sig .tc .vmem S2x1x1024 .f32) (harg14 : arg14.IsWhole) (v121 : FVec F S768x1024 .f32) (v125 : FVec F S1x1024 .f32) (v128 : FVec F S1x1024 .f32) (v129 : FVec F S768x1024 .f32) (f3 : Bf (F := F) c arg3) (f4 : Bf (F := F) c arg4) (f5 : Bf (F := F) c arg5)
  (k : Fin k0_t1_loop.trips) (acc : Unit) :
  iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (2 * k.val)⌝)
   ⊢ wp frame (wpE (defs₀ (F := F)) Variants.none c none) Set.univ
    (k0_t1_body i arg3 harg3 arg4 harg4 arg5 harg5 arg6 harg6 arg7 harg7 arg8 harg8 arg9 harg9 arg10 harg10 arg11 harg11 arg12 harg12 arg13 harg13 arg14 harg14 v121 v125 v128 v129 k acc)
    (fun _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (2 * k.val + 2)⌝)) := by
  have hk : k.val < 5 := lt_of_lt_of_eq k.isLt (by decide +kernel)
  unfold k0_t1_body
  iintro ⟨%f7, %f8, %f9, %f10, %f11, %f12, %f13, %f14, H3, H4, H5, H7, H8, H9, H10, H11, H12, H13, H14, %hF⟩
  sl_exec
  sl_step
  iexists _, _, _, _, _, _, _, _
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  constructor
  · repeat refine (readAt_skip _ _ _ _ _ _ (by decide)).trans ?_
    refine (readAt_hit _ _ _ _ _ _).trans ?_
    refine sI_of (n := (2 * k.val + 3)) (h := 0) ?_ ?_ ?_ ?_ ?_
    · exact Kb_of _ _ (2 * k.val + 3) 0 _ (by clear hF hk; revert k; decide +kernel)
    · exact Qb_of _ _ (2 * k.val + 3) 0 0 _ (by clear hF hk; revert k; decide +kernel)
    · exact Qb_of _ _ (2 * k.val + 3) 0 1 _ (by clear hF hk; revert k; decide +kernel)
    · exact Qb_of _ _ (2 * k.val + 3) 0 2 _ (by clear hF hk; revert k; decide +kernel)
    · exact Qb_of _ _ (2 * k.val + 3) 0 3 _ (by clear hF hk; revert k; decide +kernel)
  · repeat refine (readAt_skip _ _ _ _ _ _ (by decide)).trans ?_
    refine (readAt_hit _ _ _ _ _ _).trans ?_
    refine sI_of (n := (2 * k.val + 3)) (h := 1) ?_ ?_ ?_ ?_ ?_
    · exact Kb_of _ _ (2 * k.val + 3) 1 _ (by clear hF hk; revert k; decide +kernel)
    · exact Qb_of _ _ (2 * k.val + 3) 1 0 _ (by clear hF hk; revert k; decide +kernel)
    · exact Qb_of _ _ (2 * k.val + 3) 1 1 _ (by clear hF hk; revert k; decide +kernel)
    · exact Qb_of _ _ (2 * k.val + 3) 1 2 _ (by clear hF hk; revert k; decide +kernel)
    · exact Qb_of _ _ (2 * k.val + 3) 1 3 _ (by clear hF hk; revert k; decide +kernel)
  · repeat refine (readAt_skip _ _ _ _ _ _ (by decide)).trans ?_
    refine (readAt_hit _ _ _ _ _ _).trans ?_
    refine cmI_of (n := (2 * k.val + 3)) (h := 0) ?_ ?_ ?_ ?_ ?_
    · exact Kb_of _ _ (2 * k.val + 3) 0 _ (by clear hF hk; revert k; decide +kernel)
    · exact Qb_of _ _ (2 * k.val + 3) 0 0 _ (by clear hF hk; revert k; decide +kernel)
    · exact Qb_of _ _ (2 * k.val + 3) 0 1 _ (by clear hF hk; revert k; decide +kernel)
    · exact Qb_of _ _ (2 * k.val + 3) 0 2 _ (by clear hF hk; revert k; decide +kernel)
    · exact Qb_of _ _ (2 * k.val + 3) 0 3 _ (by clear hF hk; revert k; decide +kernel)
  · repeat refine (readAt_skip _ _ _ _ _ _ (by decide)).trans ?_
    refine (readAt_hit _ _ _ _ _ _).trans ?_
    refine cmI_of (n := (2 * k.val + 3)) (h := 1) ?_ ?_ ?_ ?_ ?_
    · exact Kb_of _ _ (2 * k.val + 3) 1 _ (by clear hF hk; revert k; decide +kernel)
    · exact Qb_of _ _ (2 * k.val + 3) 1 0 _ (by clear hF hk; revert k; decide +kernel)
    · exact Qb_of _ _ (2 * k.val + 3) 1 1 _ (by clear hF hk; revert k; decide +kernel)
    · exact Qb_of _ _ (2 * k.val + 3) 1 2 _ (by clear hF hk; revert k; decide +kernel)
    · exact Qb_of _ _ (2 * k.val + 3) 1 3 _ (by clear hF hk; revert k; decide +kernel)
  · repeat refine (readAt_skip _ _ _ _ _ _ (by decide)).trans ?_
    refine (readAt_hit _ _ _ _ _ _).trans ?_
    refine pI_of (n := (2 * k.val + 2)) (h := 0) ?_ ?_ ?_
    · refine mpI_on (n := (2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (2 * k.val + 1)) (h := 0) ?_ ?_
        · refine mpI_on (n := (2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (2 * k.val + 2)) (h := 0) ?_ ?_ ?_ ?_ ?_
      · exact Kb_of _ _ (2 * k.val + 2) 0 _ (by clear hF hk; revert k; decide +kernel)
      · exact Qb_of _ _ (2 * k.val + 2) 0 0 _ (by clear hF hk; revert k; decide +kernel)
      · exact Qb_of _ _ (2 * k.val + 2) 0 1 _ (by clear hF hk; revert k; decide +kernel)
      · exact Qb_of _ _ (2 * k.val + 2) 0 2 _ (by clear hF hk; revert k; decide +kernel)
      · exact Qb_of _ _ (2 * k.val + 2) 0 3 _ (by clear hF hk; revert k; decide +kernel)
    · repeat refine (readCov_skip' _ _ _ _ _ (by decide)).trans ?_
      refine (readCov_hit _ _ _ _ _).trans ?_
      refine sI_of (n := (2 * k.val + 2)) (h := 0) ?_ ?_ ?_ ?_ ?_
      · exact Kb_of _ _ (2 * k.val + 2) 0 _ (by clear hF hk; revert k; decide +kernel)
      · exact Qb_of _ _ (2 * k.val + 2) 0 0 _ (by clear hF hk; revert k; decide +kernel)
      · exact Qb_of _ _ (2 * k.val + 2) 0 1 _ (by clear hF hk; revert k; decide +kernel)
      · exact Qb_of _ _ (2 * k.val + 2) 0 2 _ (by clear hF hk; revert k; decide +kernel)
      · exact Qb_of _ _ (2 * k.val + 2) 0 3 _ (by clear hF hk; revert k; decide +kernel)
  · repeat refine (readAt_skip _ _ _ _ _ _ (by decide)).trans ?_
    refine (readAt_hit _ _ _ _ _ _).trans ?_
    refine pI_of (n := (2 * k.val + 2)) (h := 1) ?_ ?_ ?_
    · refine mpI_on (n := (2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (2 * k.val + 1)) (h := 1) ?_ ?_
        · refine mpI_on (n := (2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (2 * k.val + 2)) (h := 1) ?_ ?_ ?_ ?_ ?_
      · exact Kb_of _ _ (2 * k.val + 2) 1 _ (by clear hF hk; revert k; decide +kernel)
      · exact Qb_of _ _ (2 * k.val + 2) 1 0 _ (by clear hF hk; revert k; decide +kernel)
      · exact Qb_of _ _ (2 * k.val + 2) 1 1 _ (by clear hF hk; revert k; decide +kernel)
      · exact Qb_of _ _ (2 * k.val + 2) 1 2 _ (by clear hF hk; revert k; decide +kernel)
      · exact Qb_of _ _ (2 * k.val + 2) 1 3 _ (by clear hF hk; revert k; decide +kernel)
    · repeat refine (readCov_skip' _ _ _ _ _ (by decide)).trans ?_
      refine (readCov_hit _ _ _ _ _).trans ?_
      refine sI_of (n := (2 * k.val + 2)) (h := 1) ?_ ?_ ?_ ?_ ?_
      · exact Kb_of _ _ (2 * k.val + 2) 1 _ (by clear hF hk; revert k; decide +kernel)
      · exact Qb_of _ _ (2 * k.val + 2) 1 0 _ (by clear hF hk; revert k; decide +kernel)
      · exact Qb_of _ _ (2 * k.val + 2) 1 1 _ (by clear hF hk; revert k; decide +kernel)
      · exact Qb_of _ _ (2 * k.val + 2) 1 2 _ (by clear hF hk; revert k; decide +kernel)
      · exact Qb_of _ _ (2 * k.val + 2) 1 3 _ (by clear hF hk; revert k; decide +kernel)
  · repeat refine (readAt_skip _ _ _ _ _ _ (by decide)).trans ?_
    refine (readAt_hit _ _ _ _ _ _).trans ?_
    refine alI_of (n := (2 * k.val + 2)) (h := 0) ?_ ?_
    · refine mpI_on (n := (2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (2 * k.val + 1)) (h := 0) ?_ ?_
        · refine mpI_on (n := (2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (2 * k.val + 2)) (h := 0) ?_ ?_ ?_ ?_ ?_
      · exact Kb_of _ _ (2 * k.val + 2) 0 _ (by clear hF hk; revert k; decide +kernel)
      · exact Qb_of _ _ (2 * k.val + 2) 0 0 _ (by clear hF hk; revert k; decide +kernel)
      · exact Qb_of _ _ (2 * k.val + 2) 0 1 _ (by clear hF hk; revert k; decide +kernel)
      · exact Qb_of _ _ (2 * k.val + 2) 0 2 _ (by clear hF hk; revert k; decide +kernel)
      · exact Qb_of _ _ (2 * k.val + 2) 0 3 _ (by clear hF hk; revert k; decide +kernel)
  · repeat refine (readAt_skip _ _ _ _ _ _ (by decide)).trans ?_
    refine (readAt_hit _ _ _ _ _ _).trans ?_
    refine alI_of (n := (2 * k.val + 2)) (h := 1) ?_ ?_
    · refine mpI_on (n := (2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (2 * k.val + 1)) (h := 1) ?_ ?_
        · refine mpI_on (n := (2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (2 * k.val + 2)) (h := 1) ?_ ?_ ?_ ?_ ?_
      · exact Kb_of _ _ (2 * k.val + 2) 1 _ (by clear hF hk; revert k; decide +kernel)
      · exact Qb_of _ _ (2 * k.val + 2) 1 0 _ (by clear hF hk; revert k; decide +kernel)
      · exact Qb_of _ _ (2 * k.val + 2) 1 1 _ (by clear hF hk; revert k; decide +kernel)
      · exact Qb_of _ _ (2 * k.val + 2) 1 2 _ (by clear hF hk; revert k; decide +kernel)
      · exact Qb_of _ _ (2 * k.val + 2) 1 3 _ (by clear hF hk; revert k; decide +kernel)
  · repeat refine (readAt_skip _ _ _ _ _ _ (by decide)).trans ?_
    refine (readAt_hit _ _ _ _ _ _).trans ?_
    refine mI_of (n := (2 * k.val + 2)) (h := 0) ?_ ?_
    · refine mpI_on (n := (2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (2 * k.val + 1)) (h := 0) ?_ ?_
        · refine mpI_on (n := (2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (2 * k.val + 2)) (h := 0) ?_ ?_ ?_ ?_ ?_
      · exact Kb_of _ _ (2 * k.val + 2) 0 _ (by clear hF hk; revert k; decide +kernel)
      · exact Qb_of _ _ (2 * k.val + 2) 0 0 _ (by clear hF hk; revert k; decide +kernel)
      · exact Qb_of _ _ (2 * k.val + 2) 0 1 _ (by clear hF hk; revert k; decide +kernel)
      · exact Qb_of _ _ (2 * k.val + 2) 0 2 _ (by clear hF hk; revert k; decide +kernel)
      · exact Qb_of _ _ (2 * k.val + 2) 0 3 _ (by clear hF hk; revert k; decide +kernel)
  · repeat refine (readAt_skip _ _ _ _ _ _ (by decide)).trans ?_
    refine (readAt_hit _ _ _ _ _ _).trans ?_
    refine mI_of (n := (2 * k.val + 2)) (h := 1) ?_ ?_
    · refine mpI_on (n := (2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (2 * k.val + 1)) (h := 1) ?_ ?_
        · refine mpI_on (n := (2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (2 * k.val + 2)) (h := 1) ?_ ?_ ?_ ?_ ?_
      · exact Kb_of _ _ (2 * k.val + 2) 1 _ (by clear hF hk; revert k; decide +kernel)
      · exact Qb_of _ _ (2 * k.val + 2) 1 0 _ (by clear hF hk; revert k; decide +kernel)
      · exact Qb_of _ _ (2 * k.val + 2) 1 1 _ (by clear hF hk; revert k; decide +kernel)
      · exact Qb_of _ _ (2 * k.val + 2) 1 2 _ (by clear hF hk; revert k; decide +kernel)
      · exact Qb_of _ _ (2 * k.val + 2) 1 3 _ (by clear hF hk; revert k; decide +kernel)
  · repeat refine (readAt_skip _ _ _ _ _ _ (by decide)).trans ?_
    refine (readAt_hit _ _ _ _ _ _).trans ?_
    refine accI_of (n := (2 * k.val + 1)) (h := 0) ?_ ?_ ?_ ?_ ?_ ?_ ?_ ?_
    · exact Vb_of _ _ (2 * k.val + 1) 0 0 _ (by clear hF hk; revert k; decide +kernel)
    · exact Vb_of _ _ (2 * k.val + 1) 0 1 _ (by clear hF hk; revert k; decide +kernel)
    · exact Vb_of _ _ (2 * k.val + 1) 0 2 _ (by clear hF hk; revert k; decide +kernel)
    · repeat refine (readCov_skip' _ _ _ _ _ (by decide)).trans ?_
      refine ldP_cov _ 0 0 _ _ (x := pI _ _ (2 * k.val + 1) 0) ?_ _
      refine pI_of (n := (2 * k.val + 1)) (h := 0) ?_ ?_ ?_
      · refine mpI_on (n := (2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 1 _ _ (x := pI _ _ (2 * k.val + 1) 0) ?_ _
      refine pI_of (n := (2 * k.val + 1)) (h := 0) ?_ ?_ ?_
      · refine mpI_on (n := (2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 2 _ _ (x := pI _ _ (2 * k.val + 1) 0) ?_ _
      refine pI_of (n := (2 * k.val + 1)) (h := 0) ?_ ?_ ?_
      · refine mpI_on (n := (2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine (readCov_hit _ _ _ _ _).trans ?_
      refine alI_of (n := (2 * k.val + 1)) (h := 0) ?_ ?_
      · refine mpI_on (n := (2 * k.val)) (h := 0) ?_ ?_ ?_
        · sl_unfold_run_names
          clear hF hk; revert k; decide +kernel
        · omega
        · exact hF.m0
      · exact hF.cm0
    · repeat refine (readCov_skip' _ _ _ _ _ (by decide)).trans ?_
      refine (readCov_hit _ _ _ _ _).trans ?_
      refine accI_of (n := (2 * k.val)) (h := 0) ?_ ?_ ?_ ?_ ?_ ?_ ?_ ?_
      · exact Vb_of _ _ (2 * k.val) 0 0 _ (by clear hF hk; revert k; decide +kernel)
      · exact Vb_of _ _ (2 * k.val) 0 1 _ (by clear hF hk; revert k; decide +kernel)
      · exact Vb_of _ _ (2 * k.val) 0 2 _ (by clear hF hk; revert k; decide +kernel)
      · exact readAt_sub _ _ _ _ _ hF.p0 ![0, 0, 0] (by decide) (by decide)
      · exact readAt_sub _ _ _ _ _ hF.p0 ![0, 256, 0] (by decide) (by decide)
      · exact readAt_sub _ _ _ _ _ hF.p0 ![0, 512, 0] (by decide) (by decide)
      · exact hF.al0
      · exact hF.acc0
  · repeat refine (readAt_skip _ _ _ _ _ _ (by decide)).trans ?_
    refine (readAt_hit _ _ _ _ _ _).trans ?_
    refine accI_of (n := (2 * k.val + 1)) (h := 1) ?_ ?_ ?_ ?_ ?_ ?_ ?_ ?_
    · exact Vb_of _ _ (2 * k.val + 1) 1 0 _ (by clear hF hk; revert k; decide +kernel)
    · exact Vb_of _ _ (2 * k.val + 1) 1 1 _ (by clear hF hk; revert k; decide +kernel)
    · exact Vb_of _ _ (2 * k.val + 1) 1 2 _ (by clear hF hk; revert k; decide +kernel)
    · repeat refine (readCov_skip' _ _ _ _ _ (by decide)).trans ?_
      refine ldP_cov _ 1 0 _ _ (x := pI _ _ (2 * k.val + 1) 1) ?_ _
      refine pI_of (n := (2 * k.val + 1)) (h := 1) ?_ ?_ ?_
      · refine mpI_on (n := (2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 1 _ _ (x := pI _ _ (2 * k.val + 1) 1) ?_ _
      refine pI_of (n := (2 * k.val + 1)) (h := 1) ?_ ?_ ?_
      · refine mpI_on (n := (2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 2 _ _ (x := pI _ _ (2 * k.val + 1) 1) ?_ _
      refine pI_of (n := (2 * k.val + 1)) (h := 1) ?_ ?_ ?_
      · refine mpI_on (n := (2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine (readCov_hit _ _ _ _ _).trans ?_
      refine alI_of (n := (2 * k.val + 1)) (h := 1) ?_ ?_
      · refine mpI_on (n := (2 * k.val)) (h := 1) ?_ ?_ ?_
        · sl_unfold_run_names
          clear hF hk; revert k; decide +kernel
        · omega
        · exact hF.m1
      · exact hF.cm1
    · repeat refine (readCov_skip' _ _ _ _ _ (by decide)).trans ?_
      refine (readCov_hit _ _ _ _ _).trans ?_
      refine accI_of (n := (2 * k.val)) (h := 1) ?_ ?_ ?_ ?_ ?_ ?_ ?_ ?_
      · exact Vb_of _ _ (2 * k.val) 1 0 _ (by clear hF hk; revert k; decide +kernel)
      · exact Vb_of _ _ (2 * k.val) 1 1 _ (by clear hF hk; revert k; decide +kernel)
      · exact Vb_of _ _ (2 * k.val) 1 2 _ (by clear hF hk; revert k; decide +kernel)
      · exact readAt_sub _ _ _ _ _ hF.p1 ![0, 0, 0] (by decide) (by decide)
      · exact readAt_sub _ _ _ _ _ hF.p1 ![0, 256, 0] (by decide) (by decide)
      · exact readAt_sub _ _ _ _ _ hF.p1 ![0, 512, 0] (by decide) (by decide)
      · exact hF.al1
      · exact hF.acc1

end Cert.Proof.Attn

end
-- ==== Proof.Trip2.lean ====
module

public import proofs.«01_k».proof.Proof.Links

@[expose] public section

set_option maxHeartbeats 4000000
set_option maxRecDepth 8192

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

attribute [local irreducible] shapeCast broadcastTo concatenate

/-! One trip of loop 2: the steps of two items, from what the scratch buffers hold before it to what they hold after. -/

theorem trip2 (c : Dev nD) (i : grid0.Coords) (arg3 : Memref sig .tc .vmem S1x16x256x256 .bf16) (harg3 : arg3.IsWhole) (arg4 : Memref sig .tc .vmem S1x8448x256 .bf16) (harg4 : arg4.IsWhole) (arg5 : Memref sig .tc .vmem S1x33x160x256 .bf16) (harg5 : arg5.IsWhole) (arg6 : Memref sig .tc .vmem S1x4096x128 .bf16) (harg6 : arg6.IsWhole) (arg7 : Memref sig .tc .vmem S2x768x1024 .f32) (harg7 : arg7.IsWhole) (arg8 : Memref sig .tc .vmem S2x768x1024 .f32) (harg8 : arg8.IsWhole) (arg9 : Memref sig .tc .vmem S2x768x1024 .bf16) (harg9 : arg9.IsWhole) (arg10 : Memref sig .tc .vmem S2x768x1024 .bf16) (harg10 : arg10.IsWhole) (arg11 : Memref sig .tc .vmem S2x2x1x1024 .f32) (harg11 : arg11.IsWhole) (arg12 : Memref sig .tc .vmem S2x2x1x1024 .f32) (harg12 : arg12.IsWhole) (arg13 : Memref sig .tc .vmem S2x80x1024 .f32) (harg13 : arg13.IsWhole) (arg14 : Memref sig .tc .vmem S2x1x1024 .f32) (harg14 : arg14.IsWhole) (v456 : FVec F S1x80x1024 .f32) (f3 : Bf (F := F) c arg3) (f4 : Bf (F := F) c arg4) (f5 : Bf (F := F) c arg5)
  (k : Fin k0_t2_loop.trips) (acc : Unit) :
  iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (12 + 2 * k.val)⌝)
   ⊢ wp frame (wpE (defs₀ (F := F)) Variants.none c none) Set.univ
    (k0_t2_body i arg3 harg3 arg4 harg4 arg5 harg5 arg6 harg6 arg7 harg7 arg8 harg8 arg9 harg9 arg10 harg10 arg11 harg11 arg12 harg12 arg13 harg13 arg14 harg14 v456 k acc)
    (fun _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (12 + 2 * k.val + 2)⌝)) := by
  have hk : k.val < 4 := lt_of_lt_of_eq k.isLt (by decide +kernel)
  unfold k0_t2_body
  iintro ⟨%f7, %f8, %f9, %f10, %f11, %f12, %f13, %f14, H3, H4, H5, H7, H8, H9, H10, H11, H12, H13, H14, %hF⟩
  sl_exec
  sl_step
  iexists _, _, _, _, _, _, _, _
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  constructor
  · repeat refine (readAt_skip _ _ _ _ _ _ (by decide)).trans ?_
    refine (readAt_hit _ _ _ _ _ _).trans ?_
    refine sI_of (n := (12 + 2 * k.val + 3)) (h := 0) ?_ ?_ ?_ ?_ ?_
    · exact Kb_of _ _ (12 + 2 * k.val + 3) 0 _ (by clear hF hk; revert k; decide +kernel)
    · exact Qb_of _ _ (12 + 2 * k.val + 3) 0 0 _ (by clear hF hk; revert k; decide +kernel)
    · exact Qb_of _ _ (12 + 2 * k.val + 3) 0 1 _ (by clear hF hk; revert k; decide +kernel)
    · exact Qb_of _ _ (12 + 2 * k.val + 3) 0 2 _ (by clear hF hk; revert k; decide +kernel)
    · exact Qb_of _ _ (12 + 2 * k.val + 3) 0 3 _ (by clear hF hk; revert k; decide +kernel)
  · repeat refine (readAt_skip _ _ _ _ _ _ (by decide)).trans ?_
    refine (readAt_hit _ _ _ _ _ _).trans ?_
    refine sI_of (n := (12 + 2 * k.val + 3)) (h := 1) ?_ ?_ ?_ ?_ ?_
    · exact Kb_of _ _ (12 + 2 * k.val + 3) 1 _ (by clear hF hk; revert k; decide +kernel)
    · exact Qb_of _ _ (12 + 2 * k.val + 3) 1 0 _ (by clear hF hk; revert k; decide +kernel)
    · exact Qb_of _ _ (12 + 2 * k.val + 3) 1 1 _ (by clear hF hk; revert k; decide +kernel)
    · exact Qb_of _ _ (12 + 2 * k.val + 3) 1 2 _ (by clear hF hk; revert k; decide +kernel)
    · exact Qb_of _ _ (12 + 2 * k.val + 3) 1 3 _ (by clear hF hk; revert k; decide +kernel)
  · repeat refine (readAt_skip _ _ _ _ _ _ (by decide)).trans ?_
    refine (readAt_hit _ _ _ _ _ _).trans ?_
    refine cmI_of (n := (12 + 2 * k.val + 3)) (h := 0) ?_ ?_ ?_ ?_ ?_
    · exact Kb_of _ _ (12 + 2 * k.val + 3) 0 _ (by clear hF hk; revert k; decide +kernel)
    · exact Qb_of _ _ (12 + 2 * k.val + 3) 0 0 _ (by clear hF hk; revert k; decide +kernel)
    · exact Qb_of _ _ (12 + 2 * k.val + 3) 0 1 _ (by clear hF hk; revert k; decide +kernel)
    · exact Qb_of _ _ (12 + 2 * k.val + 3) 0 2 _ (by clear hF hk; revert k; decide +kernel)
    · exact Qb_of _ _ (12 + 2 * k.val + 3) 0 3 _ (by clear hF hk; revert k; decide +kernel)
  · repeat refine (readAt_skip _ _ _ _ _ _ (by decide)).trans ?_
    refine (readAt_hit _ _ _ _ _ _).trans ?_
    refine cmI_of (n := (12 + 2 * k.val + 3)) (h := 1) ?_ ?_ ?_ ?_ ?_
    · exact Kb_of _ _ (12 + 2 * k.val + 3) 1 _ (by clear hF hk; revert k; decide +kernel)
    · exact Qb_of _ _ (12 + 2 * k.val + 3) 1 0 _ (by clear hF hk; revert k; decide +kernel)
    · exact Qb_of _ _ (12 + 2 * k.val + 3) 1 1 _ (by clear hF hk; revert k; decide +kernel)
    · exact Qb_of _ _ (12 + 2 * k.val + 3) 1 2 _ (by clear hF hk; revert k; decide +kernel)
    · exact Qb_of _ _ (12 + 2 * k.val + 3) 1 3 _ (by clear hF hk; revert k; decide +kernel)
  · repeat refine (readAt_skip _ _ _ _ _ _ (by decide)).trans ?_
    refine (readAt_hit _ _ _ _ _ _).trans ?_
    refine pI_of (n := (12 + 2 * k.val + 2)) (h := 0) ?_ ?_ ?_
    · refine mpI_on (n := (12 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (12 + 2 * k.val + 1)) (h := 0) ?_ ?_
        · refine mpI_on (n := (12 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (12 + 2 * k.val + 2)) (h := 0) ?_ ?_ ?_ ?_ ?_
      · exact Kb_of _ _ (12 + 2 * k.val + 2) 0 _ (by clear hF hk; revert k; decide +kernel)
      · exact Qb_of _ _ (12 + 2 * k.val + 2) 0 0 _ (by clear hF hk; revert k; decide +kernel)
      · exact Qb_of _ _ (12 + 2 * k.val + 2) 0 1 _ (by clear hF hk; revert k; decide +kernel)
      · exact Qb_of _ _ (12 + 2 * k.val + 2) 0 2 _ (by clear hF hk; revert k; decide +kernel)
      · exact Qb_of _ _ (12 + 2 * k.val + 2) 0 3 _ (by clear hF hk; revert k; decide +kernel)
    · repeat refine (readCov_skip' _ _ _ _ _ (by decide)).trans ?_
      refine (readCov_hit _ _ _ _ _).trans ?_
      refine sI_of (n := (12 + 2 * k.val + 2)) (h := 0) ?_ ?_ ?_ ?_ ?_
      · exact Kb_of _ _ (12 + 2 * k.val + 2) 0 _ (by clear hF hk; revert k; decide +kernel)
      · exact Qb_of _ _ (12 + 2 * k.val + 2) 0 0 _ (by clear hF hk; revert k; decide +kernel)
      · exact Qb_of _ _ (12 + 2 * k.val + 2) 0 1 _ (by clear hF hk; revert k; decide +kernel)
      · exact Qb_of _ _ (12 + 2 * k.val + 2) 0 2 _ (by clear hF hk; revert k; decide +kernel)
      · exact Qb_of _ _ (12 + 2 * k.val + 2) 0 3 _ (by clear hF hk; revert k; decide +kernel)
  · repeat refine (readAt_skip _ _ _ _ _ _ (by decide)).trans ?_
    refine (readAt_hit _ _ _ _ _ _).trans ?_
    refine pI_of (n := (12 + 2 * k.val + 2)) (h := 1) ?_ ?_ ?_
    · refine mpI_on (n := (12 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (12 + 2 * k.val + 1)) (h := 1) ?_ ?_
        · refine mpI_on (n := (12 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (12 + 2 * k.val + 2)) (h := 1) ?_ ?_ ?_ ?_ ?_
      · exact Kb_of _ _ (12 + 2 * k.val + 2) 1 _ (by clear hF hk; revert k; decide +kernel)
      · exact Qb_of _ _ (12 + 2 * k.val + 2) 1 0 _ (by clear hF hk; revert k; decide +kernel)
      · exact Qb_of _ _ (12 + 2 * k.val + 2) 1 1 _ (by clear hF hk; revert k; decide +kernel)
      · exact Qb_of _ _ (12 + 2 * k.val + 2) 1 2 _ (by clear hF hk; revert k; decide +kernel)
      · exact Qb_of _ _ (12 + 2 * k.val + 2) 1 3 _ (by clear hF hk; revert k; decide +kernel)
    · repeat refine (readCov_skip' _ _ _ _ _ (by decide)).trans ?_
      refine (readCov_hit _ _ _ _ _).trans ?_
      refine sI_of (n := (12 + 2 * k.val + 2)) (h := 1) ?_ ?_ ?_ ?_ ?_
      · exact Kb_of _ _ (12 + 2 * k.val + 2) 1 _ (by clear hF hk; revert k; decide +kernel)
      · exact Qb_of _ _ (12 + 2 * k.val + 2) 1 0 _ (by clear hF hk; revert k; decide +kernel)
      · exact Qb_of _ _ (12 + 2 * k.val + 2) 1 1 _ (by clear hF hk; revert k; decide +kernel)
      · exact Qb_of _ _ (12 + 2 * k.val + 2) 1 2 _ (by clear hF hk; revert k; decide +kernel)
      · exact Qb_of _ _ (12 + 2 * k.val + 2) 1 3 _ (by clear hF hk; revert k; decide +kernel)
  · repeat refine (readAt_skip _ _ _ _ _ _ (by decide)).trans ?_
    refine (readAt_hit _ _ _ _ _ _).trans ?_
    refine alI_of (n := (12 + 2 * k.val + 2)) (h := 0) ?_ ?_
    · refine mpI_on (n := (12 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (12 + 2 * k.val + 1)) (h := 0) ?_ ?_
        · refine mpI_on (n := (12 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (12 + 2 * k.val + 2)) (h := 0) ?_ ?_ ?_ ?_ ?_
      · exact Kb_of _ _ (12 + 2 * k.val + 2) 0 _ (by clear hF hk; revert k; decide +kernel)
      · exact Qb_of _ _ (12 + 2 * k.val + 2) 0 0 _ (by clear hF hk; revert k; decide +kernel)
      · exact Qb_of _ _ (12 + 2 * k.val + 2) 0 1 _ (by clear hF hk; revert k; decide +kernel)
      · exact Qb_of _ _ (12 + 2 * k.val + 2) 0 2 _ (by clear hF hk; revert k; decide +kernel)
      · exact Qb_of _ _ (12 + 2 * k.val + 2) 0 3 _ (by clear hF hk; revert k; decide +kernel)
  · repeat refine (readAt_skip _ _ _ _ _ _ (by decide)).trans ?_
    refine (readAt_hit _ _ _ _ _ _).trans ?_
    refine alI_of (n := (12 + 2 * k.val + 2)) (h := 1) ?_ ?_
    · refine mpI_on (n := (12 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (12 + 2 * k.val + 1)) (h := 1) ?_ ?_
        · refine mpI_on (n := (12 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (12 + 2 * k.val + 2)) (h := 1) ?_ ?_ ?_ ?_ ?_
      · exact Kb_of _ _ (12 + 2 * k.val + 2) 1 _ (by clear hF hk; revert k; decide +kernel)
      · exact Qb_of _ _ (12 + 2 * k.val + 2) 1 0 _ (by clear hF hk; revert k; decide +kernel)
      · exact Qb_of _ _ (12 + 2 * k.val + 2) 1 1 _ (by clear hF hk; revert k; decide +kernel)
      · exact Qb_of _ _ (12 + 2 * k.val + 2) 1 2 _ (by clear hF hk; revert k; decide +kernel)
      · exact Qb_of _ _ (12 + 2 * k.val + 2) 1 3 _ (by clear hF hk; revert k; decide +kernel)
  · repeat refine (readAt_skip _ _ _ _ _ _ (by decide)).trans ?_
    refine (readAt_hit _ _ _ _ _ _).trans ?_
    refine mI_of (n := (12 + 2 * k.val + 2)) (h := 0) ?_ ?_
    · refine mpI_on (n := (12 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (12 + 2 * k.val + 1)) (h := 0) ?_ ?_
        · refine mpI_on (n := (12 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (12 + 2 * k.val + 2)) (h := 0) ?_ ?_ ?_ ?_ ?_
      · exact Kb_of _ _ (12 + 2 * k.val + 2) 0 _ (by clear hF hk; revert k; decide +kernel)
      · exact Qb_of _ _ (12 + 2 * k.val + 2) 0 0 _ (by clear hF hk; revert k; decide +kernel)
      · exact Qb_of _ _ (12 + 2 * k.val + 2) 0 1 _ (by clear hF hk; revert k; decide +kernel)
      · exact Qb_of _ _ (12 + 2 * k.val + 2) 0 2 _ (by clear hF hk; revert k; decide +kernel)
      · exact Qb_of _ _ (12 + 2 * k.val + 2) 0 3 _ (by clear hF hk; revert k; decide +kernel)
  · repeat refine (readAt_skip _ _ _ _ _ _ (by decide)).trans ?_
    refine (readAt_hit _ _ _ _ _ _).trans ?_
    refine mI_of (n := (12 + 2 * k.val + 2)) (h := 1) ?_ ?_
    · refine mpI_on (n := (12 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (12 + 2 * k.val + 1)) (h := 1) ?_ ?_
        · refine mpI_on (n := (12 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (12 + 2 * k.val + 2)) (h := 1) ?_ ?_ ?_ ?_ ?_
      · exact Kb_of _ _ (12 + 2 * k.val + 2) 1 _ (by clear hF hk; revert k; decide +kernel)
      · exact Qb_of _ _ (12 + 2 * k.val + 2) 1 0 _ (by clear hF hk; revert k; decide +kernel)
      · exact Qb_of _ _ (12 + 2 * k.val + 2) 1 1 _ (by clear hF hk; revert k; decide +kernel)
      · exact Qb_of _ _ (12 + 2 * k.val + 2) 1 2 _ (by clear hF hk; revert k; decide +kernel)
      · exact Qb_of _ _ (12 + 2 * k.val + 2) 1 3 _ (by clear hF hk; revert k; decide +kernel)
  · repeat refine (readAt_skip _ _ _ _ _ _ (by decide)).trans ?_
    refine (readAt_hit _ _ _ _ _ _).trans ?_
    refine accI_of (n := (12 + 2 * k.val + 1)) (h := 0) ?_ ?_ ?_ ?_ ?_ ?_ ?_ ?_
    · exact Vb_of _ _ (12 + 2 * k.val + 1) 0 0 _ (by clear hF hk; revert k; decide +kernel)
    · exact Vb_of _ _ (12 + 2 * k.val + 1) 0 1 _ (by clear hF hk; revert k; decide +kernel)
    · exact Vb_of _ _ (12 + 2 * k.val + 1) 0 2 _ (by clear hF hk; revert k; decide +kernel)
    · repeat refine (readCov_skip' _ _ _ _ _ (by decide)).trans ?_
      refine ldP_cov _ 0 0 _ _ (x := pI _ _ (12 + 2 * k.val + 1) 0) ?_ _
      refine pI_of (n := (12 + 2 * k.val + 1)) (h := 0) ?_ ?_ ?_
      · refine mpI_on (n := (12 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 1 _ _ (x := pI _ _ (12 + 2 * k.val + 1) 0) ?_ _
      refine pI_of (n := (12 + 2 * k.val + 1)) (h := 0) ?_ ?_ ?_
      · refine mpI_on (n := (12 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 2 _ _ (x := pI _ _ (12 + 2 * k.val + 1) 0) ?_ _
      refine pI_of (n := (12 + 2 * k.val + 1)) (h := 0) ?_ ?_ ?_
      · refine mpI_on (n := (12 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine (readCov_hit _ _ _ _ _).trans ?_
      refine alI_of (n := (12 + 2 * k.val + 1)) (h := 0) ?_ ?_
      · refine mpI_on (n := (12 + 2 * k.val)) (h := 0) ?_ ?_ ?_
        · sl_unfold_run_names
          clear hF hk; revert k; decide +kernel
        · omega
        · exact hF.m0
      · exact hF.cm0
    · repeat refine (readCov_skip' _ _ _ _ _ (by decide)).trans ?_
      refine (readCov_hit _ _ _ _ _).trans ?_
      refine accI_of (n := (12 + 2 * k.val)) (h := 0) ?_ ?_ ?_ ?_ ?_ ?_ ?_ ?_
      · exact Vb_of _ _ (12 + 2 * k.val) 0 0 _ (by clear hF hk; revert k; decide +kernel)
      · exact Vb_of _ _ (12 + 2 * k.val) 0 1 _ (by clear hF hk; revert k; decide +kernel)
      · exact Vb_of _ _ (12 + 2 * k.val) 0 2 _ (by clear hF hk; revert k; decide +kernel)
      · exact readAt_sub _ _ _ _ _ hF.p0 ![0, 0, 0] (by decide) (by decide)
      · exact readAt_sub _ _ _ _ _ hF.p0 ![0, 256, 0] (by decide) (by decide)
      · exact readAt_sub _ _ _ _ _ hF.p0 ![0, 512, 0] (by decide) (by decide)
      · exact hF.al0
      · exact hF.acc0
  · repeat refine (readAt_skip _ _ _ _ _ _ (by decide)).trans ?_
    refine (readAt_hit _ _ _ _ _ _).trans ?_
    refine accI_of (n := (12 + 2 * k.val + 1)) (h := 1) ?_ ?_ ?_ ?_ ?_ ?_ ?_ ?_
    · exact Vb_of _ _ (12 + 2 * k.val + 1) 1 0 _ (by clear hF hk; revert k; decide +kernel)
    · exact Vb_of _ _ (12 + 2 * k.val + 1) 1 1 _ (by clear hF hk; revert k; decide +kernel)
    · exact Vb_of _ _ (12 + 2 * k.val + 1) 1 2 _ (by clear hF hk; revert k; decide +kernel)
    · repeat refine (readCov_skip' _ _ _ _ _ (by decide)).trans ?_
      refine ldP_cov _ 1 0 _ _ (x := pI _ _ (12 + 2 * k.val + 1) 1) ?_ _
      refine pI_of (n := (12 + 2 * k.val + 1)) (h := 1) ?_ ?_ ?_
      · refine mpI_on (n := (12 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 1 _ _ (x := pI _ _ (12 + 2 * k.val + 1) 1) ?_ _
      refine pI_of (n := (12 + 2 * k.val + 1)) (h := 1) ?_ ?_ ?_
      · refine mpI_on (n := (12 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 2 _ _ (x := pI _ _ (12 + 2 * k.val + 1) 1) ?_ _
      refine pI_of (n := (12 + 2 * k.val + 1)) (h := 1) ?_ ?_ ?_
      · refine mpI_on (n := (12 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine (readCov_hit _ _ _ _ _).trans ?_
      refine alI_of (n := (12 + 2 * k.val + 1)) (h := 1) ?_ ?_
      · refine mpI_on (n := (12 + 2 * k.val)) (h := 1) ?_ ?_ ?_
        · sl_unfold_run_names
          clear hF hk; revert k; decide +kernel
        · omega
        · exact hF.m1
      · exact hF.cm1
    · repeat refine (readCov_skip' _ _ _ _ _ (by decide)).trans ?_
      refine (readCov_hit _ _ _ _ _).trans ?_
      refine accI_of (n := (12 + 2 * k.val)) (h := 1) ?_ ?_ ?_ ?_ ?_ ?_ ?_ ?_
      · exact Vb_of _ _ (12 + 2 * k.val) 1 0 _ (by clear hF hk; revert k; decide +kernel)
      · exact Vb_of _ _ (12 + 2 * k.val) 1 1 _ (by clear hF hk; revert k; decide +kernel)
      · exact Vb_of _ _ (12 + 2 * k.val) 1 2 _ (by clear hF hk; revert k; decide +kernel)
      · exact readAt_sub _ _ _ _ _ hF.p1 ![0, 0, 0] (by decide) (by decide)
      · exact readAt_sub _ _ _ _ _ hF.p1 ![0, 256, 0] (by decide) (by decide)
      · exact readAt_sub _ _ _ _ _ hF.p1 ![0, 512, 0] (by decide) (by decide)
      · exact hF.al1
      · exact hF.acc1

end Cert.Proof.Attn

end
-- ==== Proof.Trip3.lean ====
module

public import proofs.«01_k».proof.Proof.Links

@[expose] public section

set_option maxHeartbeats 4000000
set_option maxRecDepth 8192

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

attribute [local irreducible] shapeCast broadcastTo concatenate

/-! One trip of loop 3: the steps of two items, from what the scratch buffers hold before it to what they hold after. -/

theorem trip3 (c : Dev nD) (i : grid0.Coords) (arg3 : Memref sig .tc .vmem S1x16x256x256 .bf16) (harg3 : arg3.IsWhole) (arg4 : Memref sig .tc .vmem S1x8448x256 .bf16) (harg4 : arg4.IsWhole) (arg5 : Memref sig .tc .vmem S1x33x160x256 .bf16) (harg5 : arg5.IsWhole) (arg6 : Memref sig .tc .vmem S1x4096x128 .bf16) (harg6 : arg6.IsWhole) (arg7 : Memref sig .tc .vmem S2x768x1024 .f32) (harg7 : arg7.IsWhole) (arg8 : Memref sig .tc .vmem S2x768x1024 .f32) (harg8 : arg8.IsWhole) (arg9 : Memref sig .tc .vmem S2x768x1024 .bf16) (harg9 : arg9.IsWhole) (arg10 : Memref sig .tc .vmem S2x768x1024 .bf16) (harg10 : arg10.IsWhole) (arg11 : Memref sig .tc .vmem S2x2x1x1024 .f32) (harg11 : arg11.IsWhole) (arg12 : Memref sig .tc .vmem S2x2x1x1024 .f32) (harg12 : arg12.IsWhole) (arg13 : Memref sig .tc .vmem S2x80x1024 .f32) (harg13 : arg13.IsWhole) (arg14 : Memref sig .tc .vmem S2x1x1024 .f32) (harg14 : arg14.IsWhole)  (f3 : Bf (F := F) c arg3) (f4 : Bf (F := F) c arg4) (f5 : Bf (F := F) c arg5)
  (k : Fin k0_t3_loop.trips) (acc : Unit) :
  iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (22 + 2 * k.val)⌝)
   ⊢ wp frame (wpE (defs₀ (F := F)) Variants.none c none) Set.univ
    (k0_t3_body i arg3 harg3 arg4 harg4 arg5 harg5 arg6 harg6 arg7 harg7 arg8 harg8 arg9 harg9 arg10 harg10 arg11 harg11 arg12 harg12 arg13 harg13 arg14 harg14  k acc)
    (fun _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (22 + 2 * k.val + 2)⌝)) := by
  have hk : k.val < 5 := lt_of_lt_of_eq k.isLt (by decide +kernel)
  unfold k0_t3_body
  iintro ⟨%f7, %f8, %f9, %f10, %f11, %f12, %f13, %f14, H3, H4, H5, H7, H8, H9, H10, H11, H12, H13, H14, %hF⟩
  sl_exec
  sl_step
  iexists _, _, _, _, _, _, _, _
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  constructor
  · repeat refine (readAt_skip _ _ _ _ _ _ (by decide)).trans ?_
    refine (readAt_hit _ _ _ _ _ _).trans ?_
    refine sI_of (n := (22 + 2 * k.val + 3)) (h := 0) ?_ ?_ ?_ ?_ ?_
    · exact Kb_of _ _ (22 + 2 * k.val + 3) 0 _ (by clear hF hk; revert k; decide +kernel)
    · exact Qb_of _ _ (22 + 2 * k.val + 3) 0 0 _ (by clear hF hk; revert k; decide +kernel)
    · exact Qb_of _ _ (22 + 2 * k.val + 3) 0 1 _ (by clear hF hk; revert k; decide +kernel)
    · exact Qb_of _ _ (22 + 2 * k.val + 3) 0 2 _ (by clear hF hk; revert k; decide +kernel)
    · exact Qb_of _ _ (22 + 2 * k.val + 3) 0 3 _ (by clear hF hk; revert k; decide +kernel)
  · repeat refine (readAt_skip _ _ _ _ _ _ (by decide)).trans ?_
    refine (readAt_hit _ _ _ _ _ _).trans ?_
    refine sI_of (n := (22 + 2 * k.val + 3)) (h := 1) ?_ ?_ ?_ ?_ ?_
    · exact Kb_of _ _ (22 + 2 * k.val + 3) 1 _ (by clear hF hk; revert k; decide +kernel)
    · exact Qb_of _ _ (22 + 2 * k.val + 3) 1 0 _ (by clear hF hk; revert k; decide +kernel)
    · exact Qb_of _ _ (22 + 2 * k.val + 3) 1 1 _ (by clear hF hk; revert k; decide +kernel)
    · exact Qb_of _ _ (22 + 2 * k.val + 3) 1 2 _ (by clear hF hk; revert k; decide +kernel)
    · exact Qb_of _ _ (22 + 2 * k.val + 3) 1 3 _ (by clear hF hk; revert k; decide +kernel)
  · repeat refine (readAt_skip _ _ _ _ _ _ (by decide)).trans ?_
    refine (readAt_hit _ _ _ _ _ _).trans ?_
    refine cmI_of (n := (22 + 2 * k.val + 3)) (h := 0) ?_ ?_ ?_ ?_ ?_
    · exact Kb_of _ _ (22 + 2 * k.val + 3) 0 _ (by clear hF hk; revert k; decide +kernel)
    · exact Qb_of _ _ (22 + 2 * k.val + 3) 0 0 _ (by clear hF hk; revert k; decide +kernel)
    · exact Qb_of _ _ (22 + 2 * k.val + 3) 0 1 _ (by clear hF hk; revert k; decide +kernel)
    · exact Qb_of _ _ (22 + 2 * k.val + 3) 0 2 _ (by clear hF hk; revert k; decide +kernel)
    · exact Qb_of _ _ (22 + 2 * k.val + 3) 0 3 _ (by clear hF hk; revert k; decide +kernel)
  · repeat refine (readAt_skip _ _ _ _ _ _ (by decide)).trans ?_
    refine (readAt_hit _ _ _ _ _ _).trans ?_
    refine cmI_of (n := (22 + 2 * k.val + 3)) (h := 1) ?_ ?_ ?_ ?_ ?_
    · exact Kb_of _ _ (22 + 2 * k.val + 3) 1 _ (by clear hF hk; revert k; decide +kernel)
    · exact Qb_of _ _ (22 + 2 * k.val + 3) 1 0 _ (by clear hF hk; revert k; decide +kernel)
    · exact Qb_of _ _ (22 + 2 * k.val + 3) 1 1 _ (by clear hF hk; revert k; decide +kernel)
    · exact Qb_of _ _ (22 + 2 * k.val + 3) 1 2 _ (by clear hF hk; revert k; decide +kernel)
    · exact Qb_of _ _ (22 + 2 * k.val + 3) 1 3 _ (by clear hF hk; revert k; decide +kernel)
  · repeat refine (readAt_skip _ _ _ _ _ _ (by decide)).trans ?_
    refine (readAt_hit _ _ _ _ _ _).trans ?_
    refine pI_of (n := (22 + 2 * k.val + 2)) (h := 0) ?_ ?_ ?_
    · refine mpI_on (n := (22 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (22 + 2 * k.val + 1)) (h := 0) ?_ ?_
        · refine mpI_on (n := (22 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (22 + 2 * k.val + 2)) (h := 0) ?_ ?_ ?_ ?_ ?_
      · exact Kb_of _ _ (22 + 2 * k.val + 2) 0 _ (by clear hF hk; revert k; decide +kernel)
      · exact Qb_of _ _ (22 + 2 * k.val + 2) 0 0 _ (by clear hF hk; revert k; decide +kernel)
      · exact Qb_of _ _ (22 + 2 * k.val + 2) 0 1 _ (by clear hF hk; revert k; decide +kernel)
      · exact Qb_of _ _ (22 + 2 * k.val + 2) 0 2 _ (by clear hF hk; revert k; decide +kernel)
      · exact Qb_of _ _ (22 + 2 * k.val + 2) 0 3 _ (by clear hF hk; revert k; decide +kernel)
    · repeat refine (readCov_skip' _ _ _ _ _ (by decide)).trans ?_
      refine (readCov_hit _ _ _ _ _).trans ?_
      refine sI_of (n := (22 + 2 * k.val + 2)) (h := 0) ?_ ?_ ?_ ?_ ?_
      · exact Kb_of _ _ (22 + 2 * k.val + 2) 0 _ (by clear hF hk; revert k; decide +kernel)
      · exact Qb_of _ _ (22 + 2 * k.val + 2) 0 0 _ (by clear hF hk; revert k; decide +kernel)
      · exact Qb_of _ _ (22 + 2 * k.val + 2) 0 1 _ (by clear hF hk; revert k; decide +kernel)
      · exact Qb_of _ _ (22 + 2 * k.val + 2) 0 2 _ (by clear hF hk; revert k; decide +kernel)
      · exact Qb_of _ _ (22 + 2 * k.val + 2) 0 3 _ (by clear hF hk; revert k; decide +kernel)
  · repeat refine (readAt_skip _ _ _ _ _ _ (by decide)).trans ?_
    refine (readAt_hit _ _ _ _ _ _).trans ?_
    refine pI_of (n := (22 + 2 * k.val + 2)) (h := 1) ?_ ?_ ?_
    · refine mpI_on (n := (22 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (22 + 2 * k.val + 1)) (h := 1) ?_ ?_
        · refine mpI_on (n := (22 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (22 + 2 * k.val + 2)) (h := 1) ?_ ?_ ?_ ?_ ?_
      · exact Kb_of _ _ (22 + 2 * k.val + 2) 1 _ (by clear hF hk; revert k; decide +kernel)
      · exact Qb_of _ _ (22 + 2 * k.val + 2) 1 0 _ (by clear hF hk; revert k; decide +kernel)
      · exact Qb_of _ _ (22 + 2 * k.val + 2) 1 1 _ (by clear hF hk; revert k; decide +kernel)
      · exact Qb_of _ _ (22 + 2 * k.val + 2) 1 2 _ (by clear hF hk; revert k; decide +kernel)
      · exact Qb_of _ _ (22 + 2 * k.val + 2) 1 3 _ (by clear hF hk; revert k; decide +kernel)
    · repeat refine (readCov_skip' _ _ _ _ _ (by decide)).trans ?_
      refine (readCov_hit _ _ _ _ _).trans ?_
      refine sI_of (n := (22 + 2 * k.val + 2)) (h := 1) ?_ ?_ ?_ ?_ ?_
      · exact Kb_of _ _ (22 + 2 * k.val + 2) 1 _ (by clear hF hk; revert k; decide +kernel)
      · exact Qb_of _ _ (22 + 2 * k.val + 2) 1 0 _ (by clear hF hk; revert k; decide +kernel)
      · exact Qb_of _ _ (22 + 2 * k.val + 2) 1 1 _ (by clear hF hk; revert k; decide +kernel)
      · exact Qb_of _ _ (22 + 2 * k.val + 2) 1 2 _ (by clear hF hk; revert k; decide +kernel)
      · exact Qb_of _ _ (22 + 2 * k.val + 2) 1 3 _ (by clear hF hk; revert k; decide +kernel)
  · repeat refine (readAt_skip _ _ _ _ _ _ (by decide)).trans ?_
    refine (readAt_hit _ _ _ _ _ _).trans ?_
    refine alI_of (n := (22 + 2 * k.val + 2)) (h := 0) ?_ ?_
    · refine mpI_on (n := (22 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (22 + 2 * k.val + 1)) (h := 0) ?_ ?_
        · refine mpI_on (n := (22 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (22 + 2 * k.val + 2)) (h := 0) ?_ ?_ ?_ ?_ ?_
      · exact Kb_of _ _ (22 + 2 * k.val + 2) 0 _ (by clear hF hk; revert k; decide +kernel)
      · exact Qb_of _ _ (22 + 2 * k.val + 2) 0 0 _ (by clear hF hk; revert k; decide +kernel)
      · exact Qb_of _ _ (22 + 2 * k.val + 2) 0 1 _ (by clear hF hk; revert k; decide +kernel)
      · exact Qb_of _ _ (22 + 2 * k.val + 2) 0 2 _ (by clear hF hk; revert k; decide +kernel)
      · exact Qb_of _ _ (22 + 2 * k.val + 2) 0 3 _ (by clear hF hk; revert k; decide +kernel)
  · repeat refine (readAt_skip _ _ _ _ _ _ (by decide)).trans ?_
    refine (readAt_hit _ _ _ _ _ _).trans ?_
    refine alI_of (n := (22 + 2 * k.val + 2)) (h := 1) ?_ ?_
    · refine mpI_on (n := (22 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (22 + 2 * k.val + 1)) (h := 1) ?_ ?_
        · refine mpI_on (n := (22 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (22 + 2 * k.val + 2)) (h := 1) ?_ ?_ ?_ ?_ ?_
      · exact Kb_of _ _ (22 + 2 * k.val + 2) 1 _ (by clear hF hk; revert k; decide +kernel)
      · exact Qb_of _ _ (22 + 2 * k.val + 2) 1 0 _ (by clear hF hk; revert k; decide +kernel)
      · exact Qb_of _ _ (22 + 2 * k.val + 2) 1 1 _ (by clear hF hk; revert k; decide +kernel)
      · exact Qb_of _ _ (22 + 2 * k.val + 2) 1 2 _ (by clear hF hk; revert k; decide +kernel)
      · exact Qb_of _ _ (22 + 2 * k.val + 2) 1 3 _ (by clear hF hk; revert k; decide +kernel)
  · repeat refine (readAt_skip _ _ _ _ _ _ (by decide)).trans ?_
    refine (readAt_hit _ _ _ _ _ _).trans ?_
    refine mI_of (n := (22 + 2 * k.val + 2)) (h := 0) ?_ ?_
    · refine mpI_on (n := (22 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (22 + 2 * k.val + 1)) (h := 0) ?_ ?_
        · refine mpI_on (n := (22 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (22 + 2 * k.val + 2)) (h := 0) ?_ ?_ ?_ ?_ ?_
      · exact Kb_of _ _ (22 + 2 * k.val + 2) 0 _ (by clear hF hk; revert k; decide +kernel)
      · exact Qb_of _ _ (22 + 2 * k.val + 2) 0 0 _ (by clear hF hk; revert k; decide +kernel)
      · exact Qb_of _ _ (22 + 2 * k.val + 2) 0 1 _ (by clear hF hk; revert k; decide +kernel)
      · exact Qb_of _ _ (22 + 2 * k.val + 2) 0 2 _ (by clear hF hk; revert k; decide +kernel)
      · exact Qb_of _ _ (22 + 2 * k.val + 2) 0 3 _ (by clear hF hk; revert k; decide +kernel)
  · repeat refine (readAt_skip _ _ _ _ _ _ (by decide)).trans ?_
    refine (readAt_hit _ _ _ _ _ _).trans ?_
    refine mI_of (n := (22 + 2 * k.val + 2)) (h := 1) ?_ ?_
    · refine mpI_on (n := (22 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (22 + 2 * k.val + 1)) (h := 1) ?_ ?_
        · refine mpI_on (n := (22 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (22 + 2 * k.val + 2)) (h := 1) ?_ ?_ ?_ ?_ ?_
      · exact Kb_of _ _ (22 + 2 * k.val + 2) 1 _ (by clear hF hk; revert k; decide +kernel)
      · exact Qb_of _ _ (22 + 2 * k.val + 2) 1 0 _ (by clear hF hk; revert k; decide +kernel)
      · exact Qb_of _ _ (22 + 2 * k.val + 2) 1 1 _ (by clear hF hk; revert k; decide +kernel)
      · exact Qb_of _ _ (22 + 2 * k.val + 2) 1 2 _ (by clear hF hk; revert k; decide +kernel)
      · exact Qb_of _ _ (22 + 2 * k.val + 2) 1 3 _ (by clear hF hk; revert k; decide +kernel)
  · repeat refine (readAt_skip _ _ _ _ _ _ (by decide)).trans ?_
    refine (readAt_hit _ _ _ _ _ _).trans ?_
    refine accI_of (n := (22 + 2 * k.val + 1)) (h := 0) ?_ ?_ ?_ ?_ ?_ ?_ ?_ ?_
    · exact Vb_of _ _ (22 + 2 * k.val + 1) 0 0 _ (by clear hF hk; revert k; decide +kernel)
    · exact Vb_of _ _ (22 + 2 * k.val + 1) 0 1 _ (by clear hF hk; revert k; decide +kernel)
    · exact Vb_of _ _ (22 + 2 * k.val + 1) 0 2 _ (by clear hF hk; revert k; decide +kernel)
    · repeat refine (readCov_skip' _ _ _ _ _ (by decide)).trans ?_
      refine ldP_cov _ 0 0 _ _ (x := pI _ _ (22 + 2 * k.val + 1) 0) ?_ _
      refine pI_of (n := (22 + 2 * k.val + 1)) (h := 0) ?_ ?_ ?_
      · refine mpI_on (n := (22 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 1 _ _ (x := pI _ _ (22 + 2 * k.val + 1) 0) ?_ _
      refine pI_of (n := (22 + 2 * k.val + 1)) (h := 0) ?_ ?_ ?_
      · refine mpI_on (n := (22 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 2 _ _ (x := pI _ _ (22 + 2 * k.val + 1) 0) ?_ _
      refine pI_of (n := (22 + 2 * k.val + 1)) (h := 0) ?_ ?_ ?_
      · refine mpI_on (n := (22 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine (readCov_hit _ _ _ _ _).trans ?_
      refine alI_of (n := (22 + 2 * k.val + 1)) (h := 0) ?_ ?_
      · refine mpI_on (n := (22 + 2 * k.val)) (h := 0) ?_ ?_ ?_
        · sl_unfold_run_names
          clear hF hk; revert k; decide +kernel
        · omega
        · exact hF.m0
      · exact hF.cm0
    · repeat refine (readCov_skip' _ _ _ _ _ (by decide)).trans ?_
      refine (readCov_hit _ _ _ _ _).trans ?_
      refine accI_of (n := (22 + 2 * k.val)) (h := 0) ?_ ?_ ?_ ?_ ?_ ?_ ?_ ?_
      · exact Vb_of _ _ (22 + 2 * k.val) 0 0 _ (by clear hF hk; revert k; decide +kernel)
      · exact Vb_of _ _ (22 + 2 * k.val) 0 1 _ (by clear hF hk; revert k; decide +kernel)
      · exact Vb_of _ _ (22 + 2 * k.val) 0 2 _ (by clear hF hk; revert k; decide +kernel)
      · exact readAt_sub _ _ _ _ _ hF.p0 ![0, 0, 0] (by decide) (by decide)
      · exact readAt_sub _ _ _ _ _ hF.p0 ![0, 256, 0] (by decide) (by decide)
      · exact readAt_sub _ _ _ _ _ hF.p0 ![0, 512, 0] (by decide) (by decide)
      · exact hF.al0
      · exact hF.acc0
  · repeat refine (readAt_skip _ _ _ _ _ _ (by decide)).trans ?_
    refine (readAt_hit _ _ _ _ _ _).trans ?_
    refine accI_of (n := (22 + 2 * k.val + 1)) (h := 1) ?_ ?_ ?_ ?_ ?_ ?_ ?_ ?_
    · exact Vb_of _ _ (22 + 2 * k.val + 1) 1 0 _ (by clear hF hk; revert k; decide +kernel)
    · exact Vb_of _ _ (22 + 2 * k.val + 1) 1 1 _ (by clear hF hk; revert k; decide +kernel)
    · exact Vb_of _ _ (22 + 2 * k.val + 1) 1 2 _ (by clear hF hk; revert k; decide +kernel)
    · repeat refine (readCov_skip' _ _ _ _ _ (by decide)).trans ?_
      refine ldP_cov _ 1 0 _ _ (x := pI _ _ (22 + 2 * k.val + 1) 1) ?_ _
      refine pI_of (n := (22 + 2 * k.val + 1)) (h := 1) ?_ ?_ ?_
      · refine mpI_on (n := (22 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 1 _ _ (x := pI _ _ (22 + 2 * k.val + 1) 1) ?_ _
      refine pI_of (n := (22 + 2 * k.val + 1)) (h := 1) ?_ ?_ ?_
      · refine mpI_on (n := (22 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 2 _ _ (x := pI _ _ (22 + 2 * k.val + 1) 1) ?_ _
      refine pI_of (n := (22 + 2 * k.val + 1)) (h := 1) ?_ ?_ ?_
      · refine mpI_on (n := (22 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine (readCov_hit _ _ _ _ _).trans ?_
      refine alI_of (n := (22 + 2 * k.val + 1)) (h := 1) ?_ ?_
      · refine mpI_on (n := (22 + 2 * k.val)) (h := 1) ?_ ?_ ?_
        · sl_unfold_run_names
          clear hF hk; revert k; decide +kernel
        · omega
        · exact hF.m1
      · exact hF.cm1
    · repeat refine (readCov_skip' _ _ _ _ _ (by decide)).trans ?_
      refine (readCov_hit _ _ _ _ _).trans ?_
      refine accI_of (n := (22 + 2 * k.val)) (h := 1) ?_ ?_ ?_ ?_ ?_ ?_ ?_ ?_
      · exact Vb_of _ _ (22 + 2 * k.val) 1 0 _ (by clear hF hk; revert k; decide +kernel)
      · exact Vb_of _ _ (22 + 2 * k.val) 1 1 _ (by clear hF hk; revert k; decide +kernel)
      · exact Vb_of _ _ (22 + 2 * k.val) 1 2 _ (by clear hF hk; revert k; decide +kernel)
      · exact readAt_sub _ _ _ _ _ hF.p1 ![0, 0, 0] (by decide) (by decide)
      · exact readAt_sub _ _ _ _ _ hF.p1 ![0, 256, 0] (by decide) (by decide)
      · exact readAt_sub _ _ _ _ _ hF.p1 ![0, 512, 0] (by decide) (by decide)
      · exact hF.al1
      · exact hF.acc1

end Cert.Proof.Attn

end
-- ==== Proof.Trip4.lean ====
module

public import proofs.«01_k».proof.Proof.Links

@[expose] public section

set_option maxHeartbeats 4000000
set_option maxRecDepth 8192

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

attribute [local irreducible] shapeCast broadcastTo concatenate

/-! One trip of loop 4: the steps of two items, from what the scratch buffers hold before it to what they hold after. -/

theorem trip4 (c : Dev nD) (i : grid0.Coords) (arg3 : Memref sig .tc .vmem S1x16x256x256 .bf16) (harg3 : arg3.IsWhole) (arg4 : Memref sig .tc .vmem S1x8448x256 .bf16) (harg4 : arg4.IsWhole) (arg5 : Memref sig .tc .vmem S1x33x160x256 .bf16) (harg5 : arg5.IsWhole) (arg6 : Memref sig .tc .vmem S1x4096x128 .bf16) (harg6 : arg6.IsWhole) (arg7 : Memref sig .tc .vmem S2x768x1024 .f32) (harg7 : arg7.IsWhole) (arg8 : Memref sig .tc .vmem S2x768x1024 .f32) (harg8 : arg8.IsWhole) (arg9 : Memref sig .tc .vmem S2x768x1024 .bf16) (harg9 : arg9.IsWhole) (arg10 : Memref sig .tc .vmem S2x768x1024 .bf16) (harg10 : arg10.IsWhole) (arg11 : Memref sig .tc .vmem S2x2x1x1024 .f32) (harg11 : arg11.IsWhole) (arg12 : Memref sig .tc .vmem S2x2x1x1024 .f32) (harg12 : arg12.IsWhole) (arg13 : Memref sig .tc .vmem S2x80x1024 .f32) (harg13 : arg13.IsWhole) (arg14 : Memref sig .tc .vmem S2x1x1024 .f32) (harg14 : arg14.IsWhole) (v1072 : FVec F S80x1024 .f32) (v1076 : FVec F S80x1024 .f32) (v1077 : FVec F S80x1024 .f32) (f3 : Bf (F := F) c arg3) (f4 : Bf (F := F) c arg4) (f5 : Bf (F := F) c arg5)
  (k : Fin k0_t4_loop.trips) (acc : Unit) :
  iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (34 + 2 * k.val)⌝)
   ⊢ wp frame (wpE (defs₀ (F := F)) Variants.none c none) Set.univ
    (k0_t4_body i arg3 harg3 arg4 harg4 arg5 harg5 arg6 harg6 arg7 harg7 arg8 harg8 arg9 harg9 arg10 harg10 arg11 harg11 arg12 harg12 arg13 harg13 arg14 harg14 v1072 v1076 v1077 k acc)
    (fun _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (34 + 2 * k.val + 2)⌝)) := by
  have hk : k.val < 4 := lt_of_lt_of_eq k.isLt (by decide +kernel)
  unfold k0_t4_body
  iintro ⟨%f7, %f8, %f9, %f10, %f11, %f12, %f13, %f14, H3, H4, H5, H7, H8, H9, H10, H11, H12, H13, H14, %hF⟩
  sl_exec
  sl_step
  iexists _, _, _, _, _, _, _, _
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  constructor
  · repeat refine (readAt_skip _ _ _ _ _ _ (by decide)).trans ?_
    refine (readAt_hit _ _ _ _ _ _).trans ?_
    refine sI_of (n := (34 + 2 * k.val + 3)) (h := 0) ?_ ?_ ?_ ?_ ?_
    · exact Kb_of _ _ (34 + 2 * k.val + 3) 0 _ (by clear hF hk; revert k; decide +kernel)
    · exact Qb_of _ _ (34 + 2 * k.val + 3) 0 0 _ (by clear hF hk; revert k; decide +kernel)
    · exact Qb_of _ _ (34 + 2 * k.val + 3) 0 1 _ (by clear hF hk; revert k; decide +kernel)
    · exact Qb_of _ _ (34 + 2 * k.val + 3) 0 2 _ (by clear hF hk; revert k; decide +kernel)
    · exact Qb_of _ _ (34 + 2 * k.val + 3) 0 3 _ (by clear hF hk; revert k; decide +kernel)
  · repeat refine (readAt_skip _ _ _ _ _ _ (by decide)).trans ?_
    refine (readAt_hit _ _ _ _ _ _).trans ?_
    refine sI_of (n := (34 + 2 * k.val + 3)) (h := 1) ?_ ?_ ?_ ?_ ?_
    · exact Kb_of _ _ (34 + 2 * k.val + 3) 1 _ (by clear hF hk; revert k; decide +kernel)
    · exact Qb_of _ _ (34 + 2 * k.val + 3) 1 0 _ (by clear hF hk; revert k; decide +kernel)
    · exact Qb_of _ _ (34 + 2 * k.val + 3) 1 1 _ (by clear hF hk; revert k; decide +kernel)
    · exact Qb_of _ _ (34 + 2 * k.val + 3) 1 2 _ (by clear hF hk; revert k; decide +kernel)
    · exact Qb_of _ _ (34 + 2 * k.val + 3) 1 3 _ (by clear hF hk; revert k; decide +kernel)
  · repeat refine (readAt_skip _ _ _ _ _ _ (by decide)).trans ?_
    refine (readAt_hit _ _ _ _ _ _).trans ?_
    refine cmI_of (n := (34 + 2 * k.val + 3)) (h := 0) ?_ ?_ ?_ ?_ ?_
    · exact Kb_of _ _ (34 + 2 * k.val + 3) 0 _ (by clear hF hk; revert k; decide +kernel)
    · exact Qb_of _ _ (34 + 2 * k.val + 3) 0 0 _ (by clear hF hk; revert k; decide +kernel)
    · exact Qb_of _ _ (34 + 2 * k.val + 3) 0 1 _ (by clear hF hk; revert k; decide +kernel)
    · exact Qb_of _ _ (34 + 2 * k.val + 3) 0 2 _ (by clear hF hk; revert k; decide +kernel)
    · exact Qb_of _ _ (34 + 2 * k.val + 3) 0 3 _ (by clear hF hk; revert k; decide +kernel)
  · repeat refine (readAt_skip _ _ _ _ _ _ (by decide)).trans ?_
    refine (readAt_hit _ _ _ _ _ _).trans ?_
    refine cmI_of (n := (34 + 2 * k.val + 3)) (h := 1) ?_ ?_ ?_ ?_ ?_
    · exact Kb_of _ _ (34 + 2 * k.val + 3) 1 _ (by clear hF hk; revert k; decide +kernel)
    · exact Qb_of _ _ (34 + 2 * k.val + 3) 1 0 _ (by clear hF hk; revert k; decide +kernel)
    · exact Qb_of _ _ (34 + 2 * k.val + 3) 1 1 _ (by clear hF hk; revert k; decide +kernel)
    · exact Qb_of _ _ (34 + 2 * k.val + 3) 1 2 _ (by clear hF hk; revert k; decide +kernel)
    · exact Qb_of _ _ (34 + 2 * k.val + 3) 1 3 _ (by clear hF hk; revert k; decide +kernel)
  · repeat refine (readAt_skip _ _ _ _ _ _ (by decide)).trans ?_
    refine (readAt_hit _ _ _ _ _ _).trans ?_
    refine pI_of (n := (34 + 2 * k.val + 2)) (h := 0) ?_ ?_ ?_
    · refine mpI_on (n := (34 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (34 + 2 * k.val + 1)) (h := 0) ?_ ?_
        · refine mpI_on (n := (34 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (34 + 2 * k.val + 2)) (h := 0) ?_ ?_ ?_ ?_ ?_
      · exact Kb_of _ _ (34 + 2 * k.val + 2) 0 _ (by clear hF hk; revert k; decide +kernel)
      · exact Qb_of _ _ (34 + 2 * k.val + 2) 0 0 _ (by clear hF hk; revert k; decide +kernel)
      · exact Qb_of _ _ (34 + 2 * k.val + 2) 0 1 _ (by clear hF hk; revert k; decide +kernel)
      · exact Qb_of _ _ (34 + 2 * k.val + 2) 0 2 _ (by clear hF hk; revert k; decide +kernel)
      · exact Qb_of _ _ (34 + 2 * k.val + 2) 0 3 _ (by clear hF hk; revert k; decide +kernel)
    · repeat refine (readCov_skip' _ _ _ _ _ (by decide)).trans ?_
      refine (readCov_hit _ _ _ _ _).trans ?_
      refine sI_of (n := (34 + 2 * k.val + 2)) (h := 0) ?_ ?_ ?_ ?_ ?_
      · exact Kb_of _ _ (34 + 2 * k.val + 2) 0 _ (by clear hF hk; revert k; decide +kernel)
      · exact Qb_of _ _ (34 + 2 * k.val + 2) 0 0 _ (by clear hF hk; revert k; decide +kernel)
      · exact Qb_of _ _ (34 + 2 * k.val + 2) 0 1 _ (by clear hF hk; revert k; decide +kernel)
      · exact Qb_of _ _ (34 + 2 * k.val + 2) 0 2 _ (by clear hF hk; revert k; decide +kernel)
      · exact Qb_of _ _ (34 + 2 * k.val + 2) 0 3 _ (by clear hF hk; revert k; decide +kernel)
  · repeat refine (readAt_skip _ _ _ _ _ _ (by decide)).trans ?_
    refine (readAt_hit _ _ _ _ _ _).trans ?_
    refine pI_of (n := (34 + 2 * k.val + 2)) (h := 1) ?_ ?_ ?_
    · refine mpI_on (n := (34 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (34 + 2 * k.val + 1)) (h := 1) ?_ ?_
        · refine mpI_on (n := (34 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (34 + 2 * k.val + 2)) (h := 1) ?_ ?_ ?_ ?_ ?_
      · exact Kb_of _ _ (34 + 2 * k.val + 2) 1 _ (by clear hF hk; revert k; decide +kernel)
      · exact Qb_of _ _ (34 + 2 * k.val + 2) 1 0 _ (by clear hF hk; revert k; decide +kernel)
      · exact Qb_of _ _ (34 + 2 * k.val + 2) 1 1 _ (by clear hF hk; revert k; decide +kernel)
      · exact Qb_of _ _ (34 + 2 * k.val + 2) 1 2 _ (by clear hF hk; revert k; decide +kernel)
      · exact Qb_of _ _ (34 + 2 * k.val + 2) 1 3 _ (by clear hF hk; revert k; decide +kernel)
    · repeat refine (readCov_skip' _ _ _ _ _ (by decide)).trans ?_
      refine (readCov_hit _ _ _ _ _).trans ?_
      refine sI_of (n := (34 + 2 * k.val + 2)) (h := 1) ?_ ?_ ?_ ?_ ?_
      · exact Kb_of _ _ (34 + 2 * k.val + 2) 1 _ (by clear hF hk; revert k; decide +kernel)
      · exact Qb_of _ _ (34 + 2 * k.val + 2) 1 0 _ (by clear hF hk; revert k; decide +kernel)
      · exact Qb_of _ _ (34 + 2 * k.val + 2) 1 1 _ (by clear hF hk; revert k; decide +kernel)
      · exact Qb_of _ _ (34 + 2 * k.val + 2) 1 2 _ (by clear hF hk; revert k; decide +kernel)
      · exact Qb_of _ _ (34 + 2 * k.val + 2) 1 3 _ (by clear hF hk; revert k; decide +kernel)
  · repeat refine (readAt_skip _ _ _ _ _ _ (by decide)).trans ?_
    refine (readAt_hit _ _ _ _ _ _).trans ?_
    refine alI_of (n := (34 + 2 * k.val + 2)) (h := 0) ?_ ?_
    · refine mpI_on (n := (34 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (34 + 2 * k.val + 1)) (h := 0) ?_ ?_
        · refine mpI_on (n := (34 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (34 + 2 * k.val + 2)) (h := 0) ?_ ?_ ?_ ?_ ?_
      · exact Kb_of _ _ (34 + 2 * k.val + 2) 0 _ (by clear hF hk; revert k; decide +kernel)
      · exact Qb_of _ _ (34 + 2 * k.val + 2) 0 0 _ (by clear hF hk; revert k; decide +kernel)
      · exact Qb_of _ _ (34 + 2 * k.val + 2) 0 1 _ (by clear hF hk; revert k; decide +kernel)
      · exact Qb_of _ _ (34 + 2 * k.val + 2) 0 2 _ (by clear hF hk; revert k; decide +kernel)
      · exact Qb_of _ _ (34 + 2 * k.val + 2) 0 3 _ (by clear hF hk; revert k; decide +kernel)
  · repeat refine (readAt_skip _ _ _ _ _ _ (by decide)).trans ?_
    refine (readAt_hit _ _ _ _ _ _).trans ?_
    refine alI_of (n := (34 + 2 * k.val + 2)) (h := 1) ?_ ?_
    · refine mpI_on (n := (34 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (34 + 2 * k.val + 1)) (h := 1) ?_ ?_
        · refine mpI_on (n := (34 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (34 + 2 * k.val + 2)) (h := 1) ?_ ?_ ?_ ?_ ?_
      · exact Kb_of _ _ (34 + 2 * k.val + 2) 1 _ (by clear hF hk; revert k; decide +kernel)
      · exact Qb_of _ _ (34 + 2 * k.val + 2) 1 0 _ (by clear hF hk; revert k; decide +kernel)
      · exact Qb_of _ _ (34 + 2 * k.val + 2) 1 1 _ (by clear hF hk; revert k; decide +kernel)
      · exact Qb_of _ _ (34 + 2 * k.val + 2) 1 2 _ (by clear hF hk; revert k; decide +kernel)
      · exact Qb_of _ _ (34 + 2 * k.val + 2) 1 3 _ (by clear hF hk; revert k; decide +kernel)
  · repeat refine (readAt_skip _ _ _ _ _ _ (by decide)).trans ?_
    refine (readAt_hit _ _ _ _ _ _).trans ?_
    refine mI_of (n := (34 + 2 * k.val + 2)) (h := 0) ?_ ?_
    · refine mpI_on (n := (34 + 2 * k.val + 1)) (h := 0) ?_ ?_ ?_
      · sl_unfold_run_names
        clear hF hk; revert k; decide +kernel
      · omega
      · repeat refine (readCov_skip' _ _ _ _ _ (by decide)).trans ?_
        refine (readCov_hit _ _ _ _ _).trans ?_
        refine mI_of (n := (34 + 2 * k.val + 1)) (h := 0) ?_ ?_
        · refine mpI_on (n := (34 + 2 * k.val)) (h := 0) ?_ ?_ ?_
          · sl_unfold_run_names
            clear hF hk; revert k; decide +kernel
          · omega
          · exact hF.m0
        · exact hF.cm0
    · repeat refine (readCov_skip' _ _ _ _ _ (by decide)).trans ?_
      refine (readCov_hit _ _ _ _ _).trans ?_
      refine cmI_of (n := (34 + 2 * k.val + 2)) (h := 0) ?_ ?_ ?_ ?_ ?_
      · exact Kb_of _ _ (34 + 2 * k.val + 2) 0 _ (by clear hF hk; revert k; decide +kernel)
      · exact Qb_of _ _ (34 + 2 * k.val + 2) 0 0 _ (by clear hF hk; revert k; decide +kernel)
      · exact Qb_of _ _ (34 + 2 * k.val + 2) 0 1 _ (by clear hF hk; revert k; decide +kernel)
      · exact Qb_of _ _ (34 + 2 * k.val + 2) 0 2 _ (by clear hF hk; revert k; decide +kernel)
      · exact Qb_of _ _ (34 + 2 * k.val + 2) 0 3 _ (by clear hF hk; revert k; decide +kernel)
  · repeat refine (readAt_skip _ _ _ _ _ _ (by decide)).trans ?_
    refine (readAt_hit _ _ _ _ _ _).trans ?_
    refine mI_of (n := (34 + 2 * k.val + 2)) (h := 1) ?_ ?_
    · refine mpI_on (n := (34 + 2 * k.val + 1)) (h := 1) ?_ ?_ ?_
      · sl_unfold_run_names
        clear hF hk; revert k; decide +kernel
      · omega
      · repeat refine (readCov_skip' _ _ _ _ _ (by decide)).trans ?_
        refine (readCov_hit _ _ _ _ _).trans ?_
        refine mI_of (n := (34 + 2 * k.val + 1)) (h := 1) ?_ ?_
        · refine mpI_on (n := (34 + 2 * k.val)) (h := 1) ?_ ?_ ?_
          · sl_unfold_run_names
            clear hF hk; revert k; decide +kernel
          · omega
          · exact hF.m1
        · exact hF.cm1
    · repeat refine (readCov_skip' _ _ _ _ _ (by decide)).trans ?_
      refine (readCov_hit _ _ _ _ _).trans ?_
      refine cmI_of (n := (34 + 2 * k.val + 2)) (h := 1) ?_ ?_ ?_ ?_ ?_
      · exact Kb_of _ _ (34 + 2 * k.val + 2) 1 _ (by clear hF hk; revert k; decide +kernel)
      · exact Qb_of _ _ (34 + 2 * k.val + 2) 1 0 _ (by clear hF hk; revert k; decide +kernel)
      · exact Qb_of _ _ (34 + 2 * k.val + 2) 1 1 _ (by clear hF hk; revert k; decide +kernel)
      · exact Qb_of _ _ (34 + 2 * k.val + 2) 1 2 _ (by clear hF hk; revert k; decide +kernel)
      · exact Qb_of _ _ (34 + 2 * k.val + 2) 1 3 _ (by clear hF hk; revert k; decide +kernel)
  · repeat refine (readAt_skip _ _ _ _ _ _ (by decide)).trans ?_
    refine (readAt_hit _ _ _ _ _ _).trans ?_
    refine accI_of (n := (34 + 2 * k.val + 1)) (h := 0) ?_ ?_ ?_ ?_ ?_ ?_ ?_ ?_
    · exact Vb_of _ _ (34 + 2 * k.val + 1) 0 0 _ (by clear hF hk; revert k; decide +kernel)
    · exact Vb_of _ _ (34 + 2 * k.val + 1) 0 1 _ (by clear hF hk; revert k; decide +kernel)
    · exact Vb_of _ _ (34 + 2 * k.val + 1) 0 2 _ (by clear hF hk; revert k; decide +kernel)
    · repeat refine (readCov_skip' _ _ _ _ _ (by decide)).trans ?_
      refine ldP_cov _ 0 0 _ _ (x := pI _ _ (34 + 2 * k.val + 1) 0) ?_ _
      refine pI_of (n := (34 + 2 * k.val + 1)) (h := 0) ?_ ?_ ?_
      · refine mpI_on (n := (34 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 1 _ _ (x := pI _ _ (34 + 2 * k.val + 1) 0) ?_ _
      refine pI_of (n := (34 + 2 * k.val + 1)) (h := 0) ?_ ?_ ?_
      · refine mpI_on (n := (34 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine ldP_cov _ 0 2 _ _ (x := pI _ _ (34 + 2 * k.val + 1) 0) ?_ _
      refine pI_of (n := (34 + 2 * k.val + 1)) (h := 0) ?_ ?_ ?_
      · refine mpI_on (n := (34 + 2 * k.val)) (h := 0) ?_ ?_ ?_
        · sl_unfold_run_names
          clear hF hk; revert k; decide +kernel
        · omega
        · exact hF.m0
      · exact hF.cm0
      · exact hF.s0
    · repeat refine (readCov_skip' _ _ _ _ _ (by decide)).trans ?_
      refine (readCov_hit _ _ _ _ _).trans ?_
      refine alI_of (n := (34 + 2 * k.val + 1)) (h := 0) ?_ ?_
      · refine mpI_on (n := (34 + 2 * k.val)) (h := 0) ?_ ?_ ?_
        · sl_unfold_run_names
          clear hF hk; revert k; decide +kernel
        · omega
        · exact hF.m0
      · exact hF.cm0
    · repeat refine (readCov_skip' _ _ _ _ _ (by decide)).trans ?_
      refine (readCov_hit _ _ _ _ _).trans ?_
      refine accI_of (n := (34 + 2 * k.val)) (h := 0) ?_ ?_ ?_ ?_ ?_ ?_ ?_ ?_
      · exact Vb_of _ _ (34 + 2 * k.val) 0 0 _ (by clear hF hk; revert k; decide +kernel)
      · exact Vb_of _ _ (34 + 2 * k.val) 0 1 _ (by clear hF hk; revert k; decide +kernel)
      · exact Vb_of _ _ (34 + 2 * k.val) 0 2 _ (by clear hF hk; revert k; decide +kernel)
      · exact readAt_sub _ _ _ _ _ hF.p0 ![0, 0, 0] (by decide) (by decide)
      · exact readAt_sub _ _ _ _ _ hF.p0 ![0, 256, 0] (by decide) (by decide)
      · exact readAt_sub _ _ _ _ _ hF.p0 ![0, 512, 0] (by decide) (by decide)
      · exact hF.al0
      · exact hF.acc0
  · repeat refine (readAt_skip _ _ _ _ _ _ (by decide)).trans ?_
    refine (readAt_hit _ _ _ _ _ _).trans ?_
    refine accI_of (n := (34 + 2 * k.val + 1)) (h := 1) ?_ ?_ ?_ ?_ ?_ ?_ ?_ ?_
    · exact Vb_of _ _ (34 + 2 * k.val + 1) 1 0 _ (by clear hF hk; revert k; decide +kernel)
    · exact Vb_of _ _ (34 + 2 * k.val + 1) 1 1 _ (by clear hF hk; revert k; decide +kernel)
    · exact Vb_of _ _ (34 + 2 * k.val + 1) 1 2 _ (by clear hF hk; revert k; decide +kernel)
    · repeat refine (readCov_skip' _ _ _ _ _ (by decide)).trans ?_
      refine ldP_cov _ 1 0 _ _ (x := pI _ _ (34 + 2 * k.val + 1) 1) ?_ _
      refine pI_of (n := (34 + 2 * k.val + 1)) (h := 1) ?_ ?_ ?_
      · refine mpI_on (n := (34 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 1 _ _ (x := pI _ _ (34 + 2 * k.val + 1) 1) ?_ _
      refine pI_of (n := (34 + 2 * k.val + 1)) (h := 1) ?_ ?_ ?_
      · refine mpI_on (n := (34 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine ldP_cov _ 1 2 _ _ (x := pI _ _ (34 + 2 * k.val + 1) 1) ?_ _
      refine pI_of (n := (34 + 2 * k.val + 1)) (h := 1) ?_ ?_ ?_
      · refine mpI_on (n := (34 + 2 * k.val)) (h := 1) ?_ ?_ ?_
        · sl_unfold_run_names
          clear hF hk; revert k; decide +kernel
        · omega
        · exact hF.m1
      · exact hF.cm1
      · exact hF.s1
    · repeat refine (readCov_skip' _ _ _ _ _ (by decide)).trans ?_
      refine (readCov_hit _ _ _ _ _).trans ?_
      refine alI_of (n := (34 + 2 * k.val + 1)) (h := 1) ?_ ?_
      · refine mpI_on (n := (34 + 2 * k.val)) (h := 1) ?_ ?_ ?_
        · sl_unfold_run_names
          clear hF hk; revert k; decide +kernel
        · omega
        · exact hF.m1
      · exact hF.cm1
    · repeat refine (readCov_skip' _ _ _ _ _ (by decide)).trans ?_
      refine (readCov_hit _ _ _ _ _).trans ?_
      refine accI_of (n := (34 + 2 * k.val)) (h := 1) ?_ ?_ ?_ ?_ ?_ ?_ ?_ ?_
      · exact Vb_of _ _ (34 + 2 * k.val) 1 0 _ (by clear hF hk; revert k; decide +kernel)
      · exact Vb_of _ _ (34 + 2 * k.val) 1 1 _ (by clear hF hk; revert k; decide +kernel)
      · exact Vb_of _ _ (34 + 2 * k.val) 1 2 _ (by clear hF hk; revert k; decide +kernel)
      · exact readAt_sub _ _ _ _ _ hF.p1 ![0, 0, 0] (by decide) (by decide)
      · exact readAt_sub _ _ _ _ _ hF.p1 ![0, 256, 0] (by decide) (by decide)
      · exact readAt_sub _ _ _ _ _ hF.p1 ![0, 512, 0] (by decide) (by decide)
      · exact hF.al1
      · exact hF.acc1

end Cert.Proof.Attn

end
-- ==== Proof.Body.lean ====
module

public import proofs.«01_k».proof.Proof.Trip1
public import proofs.«01_k».proof.Proof.Trip2
public import proofs.«01_k».proof.Proof.Trip3
public import proofs.«01_k».proof.Proof.Trip4

@[expose] public section

set_option maxHeartbeats 8000000
set_option maxRecDepth 8192

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

attribute [local irreducible] shapeCast broadcastTo concatenate Scalar.select

theorem body (c : Dev nD) (i : grid0.Coords) (arg3 : Memref sig .tc .vmem S1x16x256x256 .bf16) (harg3 : arg3.IsWhole) (arg4 : Memref sig .tc .vmem S1x8448x256 .bf16) (harg4 : arg4.IsWhole) (arg5 : Memref sig .tc .vmem S1x33x160x256 .bf16) (harg5 : arg5.IsWhole) (arg6 : Memref sig .tc .vmem S1x4096x128 .bf16) (harg6 : arg6.IsWhole) (arg7 : Memref sig .tc .vmem S2x768x1024 .f32) (harg7 : arg7.IsWhole) (arg8 : Memref sig .tc .vmem S2x768x1024 .f32) (harg8 : arg8.IsWhole) (arg9 : Memref sig .tc .vmem S2x768x1024 .bf16) (harg9 : arg9.IsWhole) (arg10 : Memref sig .tc .vmem S2x768x1024 .bf16) (harg10 : arg10.IsWhole) (arg11 : Memref sig .tc .vmem S2x2x1x1024 .f32) (harg11 : arg11.IsWhole) (arg12 : Memref sig .tc .vmem S2x2x1x1024 .f32) (harg12 : arg12.IsWhole) (arg13 : Memref sig .tc .vmem S2x80x1024 .f32) (harg13 : arg13.IsWhole) (arg14 : Memref sig .tc .vmem S2x1x1024 .f32) (harg14 : arg14.IsWhole) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10)
  (f11 : Bf (F := F) c arg11) (f12 : Bf (F := F) c arg12) (f13 : Bf (F := F) c arg13) (f14 : Bf (F := F) c arg14) :
  iprop(pt c arg6 f6 ∗ pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14)
   ⊢ wp frame (wpE (defs₀ (F := F)) Variants.none c none) Set.univ
    (cc0_attention i arg3 harg3 arg4 harg4 arg5 harg5 arg6 harg6 arg7 harg7 arg8 harg8 arg9 harg9 arg10 harg10 arg11 harg11 arg12 harg12 arg13 harg13 arg14 harg14)
    (fun _ => iprop(∃ f7, ∃ f8, ∃ f9, ∃ f10, ∃ f11, ∃ f12, ∃ f13, ∃ f14, ∃ f6, pt c arg6 f6 ∗ pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜arg6.view.read (Elt F) f6 = outB (arg3.view.read (Elt F) f3) (arg4.view.read (Elt F) f4) (arg5.view.read (Elt F) f5)⌝)) := by
  iintro ⟨H6, H3, H4, H5, H7, H8, H9, H10, H11, H12, H13, H14⟩
  sl_exec
  sl_for (fun k _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (2 * k)⌝)) $$ [H3 H4 H5 H7 H8 H9 H10 H11 H12 H13 H14]
  · intro k acc
    exact trip1 c i arg3 harg3 arg4 harg4 arg5 harg5 arg6 harg6 arg7 harg7 arg8 harg8 arg9 harg9 arg10 harg10 arg11 harg11 arg12 harg12 arg13 harg13 arg14 harg14 _ _ _ _ f3 f4 f5 k acc
  · iexists _, _, _, _, _, _, _, _
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    ipureintro
    constructor
    · repeat refine (readAt_skip _ _ _ _ _ _ (by decide)).trans ?_
      refine (readAt_hit _ _ _ _ _ _).trans ?_
      refine sI_of (n := 1) (h := 0) ?_ ?_ ?_ ?_ ?_
      · exact Kb_of _ _ 1 0 _ (by decide +kernel)
      · exact Qb_of _ _ 1 0 0 _ (by decide +kernel)
      · exact Qb_of _ _ 1 0 1 _ (by decide +kernel)
      · exact Qb_of _ _ 1 0 2 _ (by decide +kernel)
      · exact Qb_of _ _ 1 0 3 _ (by decide +kernel)
    · repeat refine (readAt_skip _ _ _ _ _ _ (by decide)).trans ?_
      refine (readAt_hit _ _ _ _ _ _).trans ?_
      refine sI_of (n := 1) (h := 1) ?_ ?_ ?_ ?_ ?_
      · exact Kb_of _ _ 1 1 _ (by decide +kernel)
      · exact Qb_of _ _ 1 1 0 _ (by decide +kernel)
      · exact Qb_of _ _ 1 1 1 _ (by decide +kernel)
      · exact Qb_of _ _ 1 1 2 _ (by decide +kernel)
      · exact Qb_of _ _ 1 1 3 _ (by decide +kernel)
    · repeat refine (readAt_skip _ _ _ _ _ _ (by decide)).trans ?_
      refine (readAt_hit _ _ _ _ _ _).trans ?_
      refine cmI_of (n := 1) (h := 0) ?_ ?_ ?_ ?_ ?_
      · exact Kb_of _ _ 1 0 _ (by decide +kernel)
      · exact Qb_of _ _ 1 0 0 _ (by decide +kernel)
      · exact Qb_of _ _ 1 0 1 _ (by decide +kernel)
      · exact Qb_of _ _ 1 0 2 _ (by decide +kernel)
      · exact Qb_of _ _ 1 0 3 _ (by decide +kernel)
    · repeat refine (readAt_skip _ _ _ _ _ _ (by decide)).trans ?_
      refine (readAt_hit _ _ _ _ _ _).trans ?_
      refine cmI_of (n := 1) (h := 1) ?_ ?_ ?_ ?_ ?_
      · exact Kb_of _ _ 1 1 _ (by decide +kernel)
      · exact Qb_of _ _ 1 1 0 _ (by decide +kernel)
      · exact Qb_of _ _ 1 1 1 _ (by decide +kernel)
      · exact Qb_of _ _ 1 1 2 _ (by decide +kernel)
      · exact Qb_of _ _ 1 1 3 _ (by decide +kernel)
    · repeat refine (readAt_skip _ _ _ _ _ _ (by decide)).trans ?_
      refine (readAt_hit _ _ _ _ _ _).trans ?_
      refine pI_of (n := 0) (h := 0) ?_ ?_ ?_
      · exact mpI_reset (n := 0) (h := 0) (by first | rfl | (sl_unfold_run_names; rfl)) (by decide)
      · repeat refine (readCov_skip' _ _ _ _ _ (by decide)).trans ?_
        refine (readCov_hit _ _ _ _ _).trans ?_
        refine cmI_of (n := 0) (h := 0) ?_ ?_ ?_ ?_ ?_
        · exact Kb_of _ _ 0 0 _ (by decide +kernel)
        · exact Qb_of _ _ 0 0 0 _ (by decide +kernel)
        · exact Qb_of _ _ 0 0 1 _ (by decide +kernel)
        · exact Qb_of _ _ 0 0 2 _ (by decide +kernel)
        · exact Qb_of _ _ 0 0 3 _ (by decide +kernel)
      · repeat refine (readCov_skip' _ _ _ _ _ (by decide)).trans ?_
        refine (readCov_hit _ _ _ _ _).trans ?_
        refine sI_of (n := 0) (h := 0) ?_ ?_ ?_ ?_ ?_
        · exact Kb_of _ _ 0 0 _ (by decide +kernel)
        · exact Qb_of _ _ 0 0 0 _ (by decide +kernel)
        · exact Qb_of _ _ 0 0 1 _ (by decide +kernel)
        · exact Qb_of _ _ 0 0 2 _ (by decide +kernel)
        · exact Qb_of _ _ 0 0 3 _ (by decide +kernel)
    · repeat refine (readAt_skip _ _ _ _ _ _ (by decide)).trans ?_
      refine (readAt_hit _ _ _ _ _ _).trans ?_
      refine pI_of (n := 0) (h := 1) ?_ ?_ ?_
      · exact mpI_reset (n := 0) (h := 1) (by first | rfl | (sl_unfold_run_names; rfl)) (by decide)
      · repeat refine (readCov_skip' _ _ _ _ _ (by decide)).trans ?_
        refine (readCov_hit _ _ _ _ _).trans ?_
        refine cmI_of (n := 0) (h := 1) ?_ ?_ ?_ ?_ ?_
        · exact Kb_of _ _ 0 1 _ (by decide +kernel)
        · exact Qb_of _ _ 0 1 0 _ (by decide +kernel)
        · exact Qb_of _ _ 0 1 1 _ (by decide +kernel)
        · exact Qb_of _ _ 0 1 2 _ (by decide +kernel)
        · exact Qb_of _ _ 0 1 3 _ (by decide +kernel)
      · repeat refine (readCov_skip' _ _ _ _ _ (by decide)).trans ?_
        refine (readCov_hit _ _ _ _ _).trans ?_
        refine sI_of (n := 0) (h := 1) ?_ ?_ ?_ ?_ ?_
        · exact Kb_of _ _ 0 1 _ (by decide +kernel)
        · exact Qb_of _ _ 0 1 0 _ (by decide +kernel)
        · exact Qb_of _ _ 0 1 1 _ (by decide +kernel)
        · exact Qb_of _ _ 0 1 2 _ (by decide +kernel)
        · exact Qb_of _ _ 0 1 3 _ (by decide +kernel)
    · repeat refine (readAt_skip _ _ _ _ _ _ (by decide)).trans ?_
      refine (readAt_hit _ _ _ _ _ _).trans ?_
      refine alI_of (n := 0) (h := 0) ?_ ?_
      · exact mpI_reset (n := 0) (h := 0) (by first | rfl | (sl_unfold_run_names; rfl)) (by decide)
      · repeat refine (readCov_skip' _ _ _ _ _ (by decide)).trans ?_
        refine (readCov_hit _ _ _ _ _).trans ?_
        refine cmI_of (n := 0) (h := 0) ?_ ?_ ?_ ?_ ?_
        · exact Kb_of _ _ 0 0 _ (by decide +kernel)
        · exact Qb_of _ _ 0 0 0 _ (by decide +kernel)
        · exact Qb_of _ _ 0 0 1 _ (by decide +kernel)
        · exact Qb_of _ _ 0 0 2 _ (by decide +kernel)
        · exact Qb_of _ _ 0 0 3 _ (by decide +kernel)
    · repeat refine (readAt_skip _ _ _ _ _ _ (by decide)).trans ?_
      refine (readAt_hit _ _ _ _ _ _).trans ?_
      refine alI_of (n := 0) (h := 1) ?_ ?_
      · exact mpI_reset (n := 0) (h := 1) (by first | rfl | (sl_unfold_run_names; rfl)) (by decide)
      · repeat refine (readCov_skip' _ _ _ _ _ (by decide)).trans ?_
        refine (readCov_hit _ _ _ _ _).trans ?_
        refine cmI_of (n := 0) (h := 1) ?_ ?_ ?_ ?_ ?_
        · exact Kb_of _ _ 0 1 _ (by decide +kernel)
        · exact Qb_of _ _ 0 1 0 _ (by decide +kernel)
        · exact Qb_of _ _ 0 1 1 _ (by decide +kernel)
        · exact Qb_of _ _ 0 1 2 _ (by decide +kernel)
        · exact Qb_of _ _ 0 1 3 _ (by decide +kernel)
    · repeat refine (readAt_skip _ _ _ _ _ _ (by decide)).trans ?_
      refine (readAt_hit _ _ _ _ _ _).trans ?_
      refine mI_of (n := 0) (h := 0) ?_ ?_
      · exact mpI_reset (n := 0) (h := 0) (by first | rfl | (sl_unfold_run_names; rfl)) (by decide)
      · repeat refine (readCov_skip' _ _ _ _ _ (by decide)).trans ?_
        refine (readCov_hit _ _ _ _ _).trans ?_
        refine cmI_of (n := 0) (h := 0) ?_ ?_ ?_ ?_ ?_
        · exact Kb_of _ _ 0 0 _ (by decide +kernel)
        · exact Qb_of _ _ 0 0 0 _ (by decide +kernel)
        · exact Qb_of _ _ 0 0 1 _ (by decide +kernel)
        · exact Qb_of _ _ 0 0 2 _ (by decide +kernel)
        · exact Qb_of _ _ 0 0 3 _ (by decide +kernel)
    · repeat refine (readAt_skip _ _ _ _ _ _ (by decide)).trans ?_
      refine (readAt_hit _ _ _ _ _ _).trans ?_
      refine mI_of (n := 0) (h := 1) ?_ ?_
      · exact mpI_reset (n := 0) (h := 1) (by first | rfl | (sl_unfold_run_names; rfl)) (by decide)
      · repeat refine (readCov_skip' _ _ _ _ _ (by decide)).trans ?_
        refine (readCov_hit _ _ _ _ _).trans ?_
        refine cmI_of (n := 0) (h := 1) ?_ ?_ ?_ ?_ ?_
        · exact Kb_of _ _ 0 1 _ (by decide +kernel)
        · exact Qb_of _ _ 0 1 0 _ (by decide +kernel)
        · exact Qb_of _ _ 0 1 1 _ (by decide +kernel)
        · exact Qb_of _ _ 0 1 2 _ (by decide +kernel)
        · exact Qb_of _ _ 0 1 3 _ (by decide +kernel)
    · exact acc0_of (c := c) _ _ 0 _ _
    · exact acc0_of (c := c) _ _ 1 _ _
  iintro %acc1 HI
  icases HI with ⟨%f71, %f81, %f91, %f101, %f111, %f121, %f131, %f141, H3, H4, H5, H7, H8, H9, H10, H11, H12, H13, H14, %hF1⟩
  sl_exec
  sl_for (fun k _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (12 + 2 * k)⌝)) $$ [H3 H4 H5 H7 H8 H9 H10 H11 H12 H13 H14]
  · intro k acc
    exact trip2 c i arg3 harg3 arg4 harg4 arg5 harg5 arg6 harg6 arg7 harg7 arg8 harg8 arg9 harg9 arg10 harg10 arg11 harg11 arg12 harg12 arg13 harg13 arg14 harg14 _ f3 f4 f5 k acc
  · iexists _, _, _, _, _, _, _, _
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    ipureintro
    constructor
    · repeat refine (readAt_skip _ _ _ _ _ _ (by decide)).trans ?_
      refine (readAt_hit _ _ _ _ _ _).trans ?_
      refine sI_of (n := 13) (h := 0) ?_ ?_ ?_ ?_ ?_
      · exact Kb_of _ _ 13 0 _ (by decide +kernel)
      · exact Qb_of _ _ 13 0 0 _ (by decide +kernel)
      · exact Qb_of _ _ 13 0 1 _ (by decide +kernel)
      · exact Qb_of _ _ 13 0 2 _ (by decide +kernel)
      · exact Qb_of _ _ 13 0 3 _ (by decide +kernel)
    · repeat refine (readAt_skip _ _ _ _ _ _ (by decide)).trans ?_
      refine (readAt_hit _ _ _ _ _ _).trans ?_
      refine sI_of (n := 13) (h := 1) ?_ ?_ ?_ ?_ ?_
      · exact Kb_of _ _ 13 1 _ (by decide +kernel)
      · exact Qb_of _ _ 13 1 0 _ (by decide +kernel)
      · exact Qb_of _ _ 13 1 1 _ (by decide +kernel)
      · exact Qb_of _ _ 13 1 2 _ (by decide +kernel)
      · exact Qb_of _ _ 13 1 3 _ (by decide +kernel)
    · repeat refine (readAt_skip _ _ _ _ _ _ (by decide)).trans ?_
      refine (readAt_hit _ _ _ _ _ _).trans ?_
      refine cmI_of (n := 13) (h := 0) ?_ ?_ ?_ ?_ ?_
      · exact Kb_of _ _ 13 0 _ (by decide +kernel)
      · exact Qb_of _ _ 13 0 0 _ (by decide +kernel)
      · exact Qb_of _ _ 13 0 1 _ (by decide +kernel)
      · exact Qb_of _ _ 13 0 2 _ (by decide +kernel)
      · exact Qb_of _ _ 13 0 3 _ (by decide +kernel)
    · repeat refine (readAt_skip _ _ _ _ _ _ (by decide)).trans ?_
      refine (readAt_hit _ _ _ _ _ _).trans ?_
      refine cmI_of (n := 13) (h := 1) ?_ ?_ ?_ ?_ ?_
      · exact Kb_of _ _ 13 1 _ (by decide +kernel)
      · exact Qb_of _ _ 13 1 0 _ (by decide +kernel)
      · exact Qb_of _ _ 13 1 1 _ (by decide +kernel)
      · exact Qb_of _ _ 13 1 2 _ (by decide +kernel)
      · exact Qb_of _ _ 13 1 3 _ (by decide +kernel)
    · repeat refine (readAt_skip _ _ _ _ _ _ (by decide)).trans ?_
      refine (readAt_hit _ _ _ _ _ _).trans ?_
      refine pI_of (n := 12) (h := 0) ?_ ?_ ?_
      · refine mpI_on (n := 11) (h := 0) ?_ ?_ ?_
        · sl_unfold_run_names
          decide +kernel
        · decide
        · repeat refine (readCov_skip' _ _ _ _ _ (by decide)).trans ?_
          refine (readCov_hit _ _ _ _ _).trans ?_
          refine mI_of (n := 11) (h := 0) ?_ ?_
          · exact mpI_reset (n := 11) (h := 0) (by first | rfl | (sl_unfold_run_names; rfl)) (by decide)
          · exact hF1.cm0
      · repeat refine (readCov_skip' _ _ _ _ _ (by decide)).trans ?_
        refine (readCov_hit _ _ _ _ _).trans ?_
        refine cmI_of (n := 12) (h := 0) ?_ ?_ ?_ ?_ ?_
        · exact Kb_of _ _ 12 0 _ (by decide +kernel)
        · exact Qb_of _ _ 12 0 0 _ (by decide +kernel)
        · exact Qb_of _ _ 12 0 1 _ (by decide +kernel)
        · exact Qb_of _ _ 12 0 2 _ (by decide +kernel)
        · exact Qb_of _ _ 12 0 3 _ (by decide +kernel)
      · repeat refine (readCov_skip' _ _ _ _ _ (by decide)).trans ?_
        refine (readCov_hit _ _ _ _ _).trans ?_
        refine sI_of (n := 12) (h := 0) ?_ ?_ ?_ ?_ ?_
        · exact Kb_of _ _ 12 0 _ (by decide +kernel)
        · exact Qb_of _ _ 12 0 0 _ (by decide +kernel)
        · exact Qb_of _ _ 12 0 1 _ (by decide +kernel)
        · exact Qb_of _ _ 12 0 2 _ (by decide +kernel)
        · exact Qb_of _ _ 12 0 3 _ (by decide +kernel)
    · repeat refine (readAt_skip _ _ _ _ _ _ (by decide)).trans ?_
      refine (readAt_hit _ _ _ _ _ _).trans ?_
      refine pI_of (n := 12) (h := 1) ?_ ?_ ?_
      · refine mpI_on (n := 11) (h := 1) ?_ ?_ ?_
        · sl_unfold_run_names
          decide +kernel
        · decide
        · repeat refine (readCov_skip' _ _ _ _ _ (by decide)).trans ?_
          refine (readCov_hit _ _ _ _ _).trans ?_
          refine mI_of (n := 11) (h := 1) ?_ ?_
          · exact mpI_reset (n := 11) (h := 1) (by first | rfl | (sl_unfold_run_names; rfl)) (by decide)
          · exact hF1.cm1
      · repeat refine (readCov_skip' _ _ _ _ _ (by decide)).trans ?_
        refine (readCov_hit _ _ _ _ _).trans ?_
        refine cmI_of (n := 12) (h := 1) ?_ ?_ ?_ ?_ ?_
        · exact Kb_of _ _ 12 1 _ (by decide +kernel)
        · exact Qb_of _ _ 12 1 0 _ (by decide +kernel)
        · exact Qb_of _ _ 12 1 1 _ (by decide +kernel)
        · exact Qb_of _ _ 12 1 2 _ (by decide +kernel)
        · exact Qb_of _ _ 12 1 3 _ (by decide +kernel)
      · repeat refine (readCov_skip' _ _ _ _ _ (by decide)).trans ?_
        refine (readCov_hit _ _ _ _ _).trans ?_
        refine sI_of (n := 12) (h := 1) ?_ ?_ ?_ ?_ ?_
        · exact Kb_of _ _ 12 1 _ (by decide +kernel)
        · exact Qb_of _ _ 12 1 0 _ (by decide +kernel)
        · exact Qb_of _ _ 12 1 1 _ (by decide +kernel)
        · exact Qb_of _ _ 12 1 2 _ (by decide +kernel)
        · exact Qb_of _ _ 12 1 3 _ (by decide +kernel)
    · repeat refine (readAt_skip _ _ _ _ _ _ (by decide)).trans ?_
      refine (readAt_hit _ _ _ _ _ _).trans ?_
      refine alI_of (n := 12) (h := 0) ?_ ?_
      · refine mpI_on (n := 11) (h := 0) ?_ ?_ ?_
        · sl_unfold_run_names
          decide +kernel
        · decide
        · repeat refine (readCov_skip' _ _ _ _ _ (by decide)).trans ?_
          refine (readCov_hit _ _ _ _ _).trans ?_
          refine mI_of (n := 11) (h := 0) ?_ ?_
          · exact mpI_reset (n := 11) (h := 0) (by first | rfl | (sl_unfold_run_names; rfl)) (by decide)
          · exact hF1.cm0
      · repeat refine (readCov_skip' _ _ _ _ _ (by decide)).trans ?_
        refine (readCov_hit _ _ _ _ _).trans ?_
        refine cmI_of (n := 12) (h := 0) ?_ ?_ ?_ ?_ ?_
        · exact Kb_of _ _ 12 0 _ (by decide +kernel)
        · exact Qb_of _ _ 12 0 0 _ (by decide +kernel)
        · exact Qb_of _ _ 12 0 1 _ (by decide +kernel)
        · exact Qb_of _ _ 12 0 2 _ (by decide +kernel)
        · exact Qb_of _ _ 12 0 3 _ (by decide +kernel)
    · repeat refine (readAt_skip _ _ _ _ _ _ (by decide)).trans ?_
      refine (readAt_hit _ _ _ _ _ _).trans ?_
      refine alI_of (n := 12) (h := 1) ?_ ?_
      · refine mpI_on (n := 11) (h := 1) ?_ ?_ ?_
        · sl_unfold_run_names
          decide +kernel
        · decide
        · repeat refine (readCov_skip' _ _ _ _ _ (by decide)).trans ?_
          refine (readCov_hit _ _ _ _ _).trans ?_
          refine mI_of (n := 11) (h := 1) ?_ ?_
          · exact mpI_reset (n := 11) (h := 1) (by first | rfl | (sl_unfold_run_names; rfl)) (by decide)
          · exact hF1.cm1
      · repeat refine (readCov_skip' _ _ _ _ _ (by decide)).trans ?_
        refine (readCov_hit _ _ _ _ _).trans ?_
        refine cmI_of (n := 12) (h := 1) ?_ ?_ ?_ ?_ ?_
        · exact Kb_of _ _ 12 1 _ (by decide +kernel)
        · exact Qb_of _ _ 12 1 0 _ (by decide +kernel)
        · exact Qb_of _ _ 12 1 1 _ (by decide +kernel)
        · exact Qb_of _ _ 12 1 2 _ (by decide +kernel)
        · exact Qb_of _ _ 12 1 3 _ (by decide +kernel)
    · repeat refine (readAt_skip _ _ _ _ _ _ (by decide)).trans ?_
      refine (readAt_hit _ _ _ _ _ _).trans ?_
      refine mI_of (n := 12) (h := 0) ?_ ?_
      · refine mpI_on (n := 11) (h := 0) ?_ ?_ ?_
        · sl_unfold_run_names
          decide +kernel
        · decide
        · repeat refine (readCov_skip' _ _ _ _ _ (by decide)).trans ?_
          refine (readCov_hit _ _ _ _ _).trans ?_
          refine mI_of (n := 11) (h := 0) ?_ ?_
          · exact mpI_reset (n := 11) (h := 0) (by first | rfl | (sl_unfold_run_names; rfl)) (by decide)
          · exact hF1.cm0
      · repeat refine (readCov_skip' _ _ _ _ _ (by decide)).trans ?_
        refine (readCov_hit _ _ _ _ _).trans ?_
        refine cmI_of (n := 12) (h := 0) ?_ ?_ ?_ ?_ ?_
        · exact Kb_of _ _ 12 0 _ (by decide +kernel)
        · exact Qb_of _ _ 12 0 0 _ (by decide +kernel)
        · exact Qb_of _ _ 12 0 1 _ (by decide +kernel)
        · exact Qb_of _ _ 12 0 2 _ (by decide +kernel)
        · exact Qb_of _ _ 12 0 3 _ (by decide +kernel)
    · repeat refine (readAt_skip _ _ _ _ _ _ (by decide)).trans ?_
      refine (readAt_hit _ _ _ _ _ _).trans ?_
      refine mI_of (n := 12) (h := 1) ?_ ?_
      · refine mpI_on (n := 11) (h := 1) ?_ ?_ ?_
        · sl_unfold_run_names
          decide +kernel
        · decide
        · repeat refine (readCov_skip' _ _ _ _ _ (by decide)).trans ?_
          refine (readCov_hit _ _ _ _ _).trans ?_
          refine mI_of (n := 11) (h := 1) ?_ ?_
          · exact mpI_reset (n := 11) (h := 1) (by first | rfl | (sl_unfold_run_names; rfl)) (by decide)
          · exact hF1.cm1
      · repeat refine (readCov_skip' _ _ _ _ _ (by decide)).trans ?_
        refine (readCov_hit _ _ _ _ _).trans ?_
        refine cmI_of (n := 12) (h := 1) ?_ ?_ ?_ ?_ ?_
        · exact Kb_of _ _ 12 1 _ (by decide +kernel)
        · exact Qb_of _ _ 12 1 0 _ (by decide +kernel)
        · exact Qb_of _ _ 12 1 1 _ (by decide +kernel)
        · exact Qb_of _ _ 12 1 2 _ (by decide +kernel)
        · exact Qb_of _ _ 12 1 3 _ (by decide +kernel)
    · repeat refine (readAt_skip _ _ _ _ _ _ (by decide)).trans ?_
      refine (readAt_hit _ _ _ _ _ _).trans ?_
      refine accI_of (n := 11) (h := 0) ?_ ?_ ?_ ?_ ?_ ?_ ?_ ?_
      · exact Vb_of _ _ 11 0 0 _ (by decide +kernel)
      · exact Vb_of _ _ 11 0 1 _ (by decide +kernel)
      · exact Vb_of _ _ 11 0 2 _ (by decide +kernel)
      · repeat refine (readCov_skip' _ _ _ _ _ (by decide)).trans ?_
        refine ldP_cov _ 0 0 _ _ (x := pI _ _ 11 0) ?_ _
        refine pI_of (n := 11) (h := 0) ?_ ?_ ?_
        · exact mpI_reset (n := 11) (h := 0) (by first | rfl | (sl_unfold_run_names; rfl)) (by decide)
        · exact hF1.cm0
        · exact hF1.s0
      · repeat refine (readCov_skip' _ _ _ _ _ (by decide)).trans ?_
        refine ldP_cov _ 0 1 _ _ (x := pI _ _ 11 0) ?_ _
        refine pI_of (n := 11) (h := 0) ?_ ?_ ?_
        · exact mpI_reset (n := 11) (h := 0) (by first | rfl | (sl_unfold_run_names; rfl)) (by decide)
        · exact hF1.cm0
        · exact hF1.s0
      · repeat refine (readCov_skip' _ _ _ _ _ (by decide)).trans ?_
        refine ldP_cov _ 0 2 _ _ (x := pI _ _ 11 0) ?_ _
        refine pI_of (n := 11) (h := 0) ?_ ?_ ?_
        · exact mpI_reset (n := 11) (h := 0) (by first | rfl | (sl_unfold_run_names; rfl)) (by decide)
        · exact hF1.cm0
        · exact hF1.s0
      · repeat refine (readCov_skip' _ _ _ _ _ (by decide)).trans ?_
        refine (readCov_hit _ _ _ _ _).trans ?_
        refine alI_of (n := 11) (h := 0) ?_ ?_
        · exact mpI_reset (n := 11) (h := 0) (by first | rfl | (sl_unfold_run_names; rfl)) (by decide)
        · exact hF1.cm0
      · repeat refine (readCov_skip' _ _ _ _ _ (by decide)).trans ?_
        refine (readCov_hit _ _ _ _ _).trans ?_
        refine accI_of (n := 10) (h := 0) ?_ ?_ ?_ ?_ ?_ ?_ ?_ ?_
        · exact Vb_of _ _ 10 0 0 _ (by decide +kernel)
        · exact Vb_of _ _ 10 0 1 _ (by decide +kernel)
        · exact Vb_of _ _ 10 0 2 _ (by decide +kernel)
        · exact readAt_sub _ _ _ _ _ hF1.p0 ![0, 0, 0] (by decide) (by decide)
        · exact readAt_sub _ _ _ _ _ hF1.p0 ![0, 256, 0] (by decide) (by decide)
        · exact readAt_sub _ _ _ _ _ hF1.p0 ![0, 512, 0] (by decide) (by decide)
        · exact hF1.al0
        · exact hF1.acc0
    · repeat refine (readAt_skip _ _ _ _ _ _ (by decide)).trans ?_
      refine (readAt_hit _ _ _ _ _ _).trans ?_
      refine accI_of (n := 11) (h := 1) ?_ ?_ ?_ ?_ ?_ ?_ ?_ ?_
      · exact Vb_of _ _ 11 1 0 _ (by decide +kernel)
      · exact Vb_of _ _ 11 1 1 _ (by decide +kernel)
      · exact Vb_of _ _ 11 1 2 _ (by decide +kernel)
      · repeat refine (readCov_skip' _ _ _ _ _ (by decide)).trans ?_
        refine ldP_cov _ 1 0 _ _ (x := pI _ _ 11 1) ?_ _
        refine pI_of (n := 11) (h := 1) ?_ ?_ ?_
        · exact mpI_reset (n := 11) (h := 1) (by first | rfl | (sl_unfold_run_names; rfl)) (by decide)
        · exact hF1.cm1
        · exact hF1.s1
      · repeat refine (readCov_skip' _ _ _ _ _ (by decide)).trans ?_
        refine ldP_cov _ 1 1 _ _ (x := pI _ _ 11 1) ?_ _
        refine pI_of (n := 11) (h := 1) ?_ ?_ ?_
        · exact mpI_reset (n := 11) (h := 1) (by first | rfl | (sl_unfold_run_names; rfl)) (by decide)
        · exact hF1.cm1
        · exact hF1.s1
      · repeat refine (readCov_skip' _ _ _ _ _ (by decide)).trans ?_
        refine ldP_cov _ 1 2 _ _ (x := pI _ _ 11 1) ?_ _
        refine pI_of (n := 11) (h := 1) ?_ ?_ ?_
        · exact mpI_reset (n := 11) (h := 1) (by first | rfl | (sl_unfold_run_names; rfl)) (by decide)
        · exact hF1.cm1
        · exact hF1.s1
      · repeat refine (readCov_skip' _ _ _ _ _ (by decide)).trans ?_
        refine (readCov_hit _ _ _ _ _).trans ?_
        refine alI_of (n := 11) (h := 1) ?_ ?_
        · exact mpI_reset (n := 11) (h := 1) (by first | rfl | (sl_unfold_run_names; rfl)) (by decide)
        · exact hF1.cm1
      · repeat refine (readCov_skip' _ _ _ _ _ (by decide)).trans ?_
        refine (readCov_hit _ _ _ _ _).trans ?_
        refine accI_of (n := 10) (h := 1) ?_ ?_ ?_ ?_ ?_ ?_ ?_ ?_
        · exact Vb_of _ _ 10 1 0 _ (by decide +kernel)
        · exact Vb_of _ _ 10 1 1 _ (by decide +kernel)
        · exact Vb_of _ _ 10 1 2 _ (by decide +kernel)
        · exact readAt_sub _ _ _ _ _ hF1.p1 ![0, 0, 0] (by decide) (by decide)
        · exact readAt_sub _ _ _ _ _ hF1.p1 ![0, 256, 0] (by decide) (by decide)
        · exact readAt_sub _ _ _ _ _ hF1.p1 ![0, 512, 0] (by decide) (by decide)
        · exact hF1.al1
        · exact hF1.acc1
  iintro %acc2 HI
  icases HI with ⟨%f72, %f82, %f92, %f102, %f112, %f122, %f132, %f142, H3, H4, H5, H7, H8, H9, H10, H11, H12, H13, H14, %hF2⟩
  sl_exec
  sl_for (fun k _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (22 + 2 * k)⌝)) $$ [H3 H4 H5 H7 H8 H9 H10 H11 H12 H13 H14]
  · intro k acc
    exact trip3 c i arg3 harg3 arg4 harg4 arg5 harg5 arg6 harg6 arg7 harg7 arg8 harg8 arg9 harg9 arg10 harg10 arg11 harg11 arg12 harg12 arg13 harg13 arg14 harg14  f3 f4 f5 k acc
  · iexists _, _, _, _, _, _, _, _
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    ipureintro
    constructor
    · repeat refine (readAt_skip _ _ _ _ _ _ (by decide)).trans ?_
      refine (readAt_hit _ _ _ _ _ _).trans ?_
      refine sI_of (n := 23) (h := 0) ?_ ?_ ?_ ?_ ?_
      · exact Kb_of _ _ 23 0 _ (by decide +kernel)
      · exact Qb_of _ _ 23 0 0 _ (by decide +kernel)
      · exact Qb_of _ _ 23 0 1 _ (by decide +kernel)
      · exact Qb_of _ _ 23 0 2 _ (by decide +kernel)
      · exact Qb_of _ _ 23 0 3 _ (by decide +kernel)
    · repeat refine (readAt_skip _ _ _ _ _ _ (by decide)).trans ?_
      refine (readAt_hit _ _ _ _ _ _).trans ?_
      refine sI_of (n := 23) (h := 1) ?_ ?_ ?_ ?_ ?_
      · exact Kb_of _ _ 23 1 _ (by decide +kernel)
      · exact Qb_of _ _ 23 1 0 _ (by decide +kernel)
      · exact Qb_of _ _ 23 1 1 _ (by decide +kernel)
      · exact Qb_of _ _ 23 1 2 _ (by decide +kernel)
      · exact Qb_of _ _ 23 1 3 _ (by decide +kernel)
    · repeat refine (readAt_skip _ _ _ _ _ _ (by decide)).trans ?_
      refine (readAt_hit _ _ _ _ _ _).trans ?_
      refine cmI_of (n := 23) (h := 0) ?_ ?_ ?_ ?_ ?_
      · exact Kb_of _ _ 23 0 _ (by decide +kernel)
      · exact Qb_of _ _ 23 0 0 _ (by decide +kernel)
      · exact Qb_of _ _ 23 0 1 _ (by decide +kernel)
      · exact Qb_of _ _ 23 0 2 _ (by decide +kernel)
      · exact Qb_of _ _ 23 0 3 _ (by decide +kernel)
    · repeat refine (readAt_skip _ _ _ _ _ _ (by decide)).trans ?_
      refine (readAt_hit _ _ _ _ _ _).trans ?_
      refine cmI_of (n := 23) (h := 1) ?_ ?_ ?_ ?_ ?_
      · exact Kb_of _ _ 23 1 _ (by decide +kernel)
      · exact Qb_of _ _ 23 1 0 _ (by decide +kernel)
      · exact Qb_of _ _ 23 1 1 _ (by decide +kernel)
      · exact Qb_of _ _ 23 1 2 _ (by decide +kernel)
      · exact Qb_of _ _ 23 1 3 _ (by decide +kernel)
    · repeat refine (readAt_skip _ _ _ _ _ _ (by decide)).trans ?_
      refine (readAt_hit _ _ _ _ _ _).trans ?_
      refine pI_of (n := 22) (h := 0) ?_ ?_ ?_
      · exact mpI_reset (n := 22) (h := 0) (by first | rfl | (sl_unfold_run_names; rfl)) (by decide)
      · repeat refine (readCov_skip' _ _ _ _ _ (by decide)).trans ?_
        refine (readCov_hit _ _ _ _ _).trans ?_
        refine cmI_of (n := 22) (h := 0) ?_ ?_ ?_ ?_ ?_
        · exact Kb_of _ _ 22 0 _ (by decide +kernel)
        · exact Qb_of _ _ 22 0 0 _ (by decide +kernel)
        · exact Qb_of _ _ 22 0 1 _ (by decide +kernel)
        · exact Qb_of _ _ 22 0 2 _ (by decide +kernel)
        · exact Qb_of _ _ 22 0 3 _ (by decide +kernel)
      · repeat refine (readCov_skip' _ _ _ _ _ (by decide)).trans ?_
        refine (readCov_hit _ _ _ _ _).trans ?_
        refine sI_of (n := 22) (h := 0) ?_ ?_ ?_ ?_ ?_
        · exact Kb_of _ _ 22 0 _ (by decide +kernel)
        · exact Qb_of _ _ 22 0 0 _ (by decide +kernel)
        · exact Qb_of _ _ 22 0 1 _ (by decide +kernel)
        · exact Qb_of _ _ 22 0 2 _ (by decide +kernel)
        · exact Qb_of _ _ 22 0 3 _ (by decide +kernel)
    · repeat refine (readAt_skip _ _ _ _ _ _ (by decide)).trans ?_
      refine (readAt_hit _ _ _ _ _ _).trans ?_
      refine pI_of (n := 22) (h := 1) ?_ ?_ ?_
      · exact mpI_reset (n := 22) (h := 1) (by first | rfl | (sl_unfold_run_names; rfl)) (by decide)
      · repeat refine (readCov_skip' _ _ _ _ _ (by decide)).trans ?_
        refine (readCov_hit _ _ _ _ _).trans ?_
        refine cmI_of (n := 22) (h := 1) ?_ ?_ ?_ ?_ ?_
        · exact Kb_of _ _ 22 1 _ (by decide +kernel)
        · exact Qb_of _ _ 22 1 0 _ (by decide +kernel)
        · exact Qb_of _ _ 22 1 1 _ (by decide +kernel)
        · exact Qb_of _ _ 22 1 2 _ (by decide +kernel)
        · exact Qb_of _ _ 22 1 3 _ (by decide +kernel)
      · repeat refine (readCov_skip' _ _ _ _ _ (by decide)).trans ?_
        refine (readCov_hit _ _ _ _ _).trans ?_
        refine sI_of (n := 22) (h := 1) ?_ ?_ ?_ ?_ ?_
        · exact Kb_of _ _ 22 1 _ (by decide +kernel)
        · exact Qb_of _ _ 22 1 0 _ (by decide +kernel)
        · exact Qb_of _ _ 22 1 1 _ (by decide +kernel)
        · exact Qb_of _ _ 22 1 2 _ (by decide +kernel)
        · exact Qb_of _ _ 22 1 3 _ (by decide +kernel)
    · repeat refine (readAt_skip _ _ _ _ _ _ (by decide)).trans ?_
      refine (readAt_hit _ _ _ _ _ _).trans ?_
      refine alI_of (n := 22) (h := 0) ?_ ?_
      · exact mpI_reset (n := 22) (h := 0) (by first | rfl | (sl_unfold_run_names; rfl)) (by decide)
      · repeat refine (readCov_skip' _ _ _ _ _ (by decide)).trans ?_
        refine (readCov_hit _ _ _ _ _).trans ?_
        refine cmI_of (n := 22) (h := 0) ?_ ?_ ?_ ?_ ?_
        · exact Kb_of _ _ 22 0 _ (by decide +kernel)
        · exact Qb_of _ _ 22 0 0 _ (by decide +kernel)
        · exact Qb_of _ _ 22 0 1 _ (by decide +kernel)
        · exact Qb_of _ _ 22 0 2 _ (by decide +kernel)
        · exact Qb_of _ _ 22 0 3 _ (by decide +kernel)
    · repeat refine (readAt_skip _ _ _ _ _ _ (by decide)).trans ?_
      refine (readAt_hit _ _ _ _ _ _).trans ?_
      refine alI_of (n := 22) (h := 1) ?_ ?_
      · exact mpI_reset (n := 22) (h := 1) (by first | rfl | (sl_unfold_run_names; rfl)) (by decide)
      · repeat refine (readCov_skip' _ _ _ _ _ (by decide)).trans ?_
        refine (readCov_hit _ _ _ _ _).trans ?_
        refine cmI_of (n := 22) (h := 1) ?_ ?_ ?_ ?_ ?_
        · exact Kb_of _ _ 22 1 _ (by decide +kernel)
        · exact Qb_of _ _ 22 1 0 _ (by decide +kernel)
        · exact Qb_of _ _ 22 1 1 _ (by decide +kernel)
        · exact Qb_of _ _ 22 1 2 _ (by decide +kernel)
        · exact Qb_of _ _ 22 1 3 _ (by decide +kernel)
    · repeat refine (readAt_skip _ _ _ _ _ _ (by decide)).trans ?_
      refine (readAt_hit _ _ _ _ _ _).trans ?_
      refine mI_of (n := 22) (h := 0) ?_ ?_
      · exact mpI_reset (n := 22) (h := 0) (by first | rfl | (sl_unfold_run_names; rfl)) (by decide)
      · repeat refine (readCov_skip' _ _ _ _ _ (by decide)).trans ?_
        refine (readCov_hit _ _ _ _ _).trans ?_
        refine cmI_of (n := 22) (h := 0) ?_ ?_ ?_ ?_ ?_
        · exact Kb_of _ _ 22 0 _ (by decide +kernel)
        · exact Qb_of _ _ 22 0 0 _ (by decide +kernel)
        · exact Qb_of _ _ 22 0 1 _ (by decide +kernel)
        · exact Qb_of _ _ 22 0 2 _ (by decide +kernel)
        · exact Qb_of _ _ 22 0 3 _ (by decide +kernel)
    · repeat refine (readAt_skip _ _ _ _ _ _ (by decide)).trans ?_
      refine (readAt_hit _ _ _ _ _ _).trans ?_
      refine mI_of (n := 22) (h := 1) ?_ ?_
      · exact mpI_reset (n := 22) (h := 1) (by first | rfl | (sl_unfold_run_names; rfl)) (by decide)
      · repeat refine (readCov_skip' _ _ _ _ _ (by decide)).trans ?_
        refine (readCov_hit _ _ _ _ _).trans ?_
        refine cmI_of (n := 22) (h := 1) ?_ ?_ ?_ ?_ ?_
        · exact Kb_of _ _ 22 1 _ (by decide +kernel)
        · exact Qb_of _ _ 22 1 0 _ (by decide +kernel)
        · exact Qb_of _ _ 22 1 1 _ (by decide +kernel)
        · exact Qb_of _ _ 22 1 2 _ (by decide +kernel)
        · exact Qb_of _ _ 22 1 3 _ (by decide +kernel)
    · repeat refine (readAt_skip _ _ _ _ _ _ (by decide)).trans ?_
      refine (readAt_hit _ _ _ _ _ _).trans ?_
      refine accI_of (n := 21) (h := 0) ?_ ?_ ?_ ?_ ?_ ?_ ?_ ?_
      · exact Vb_of _ _ 21 0 0 _ (by decide +kernel)
      · exact Vb_of _ _ 21 0 1 _ (by decide +kernel)
      · exact Vb_of _ _ 21 0 2 _ (by decide +kernel)
      · repeat refine (readCov_skip' _ _ _ _ _ (by decide)).trans ?_
        refine ldP_cov _ 0 0 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine ldP_cov _ 0 1 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine ldP_cov _ 0 2 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine (readCov_hit _ _ _ _ _).trans ?_
        refine alI_of (n := 21) (h := 0) ?_ ?_
        · refine mpI_on (n := 20) (h := 0) ?_ ?_ ?_
          · sl_unfold_run_names
            decide +kernel
          · decide
          · exact hF2.m0
        · exact hF2.cm0
      · repeat refine (readCov_skip' _ _ _ _ _ (by decide)).trans ?_
        refine (readCov_hit _ _ _ _ _).trans ?_
        refine accI_of (n := 20) (h := 0) ?_ ?_ ?_ ?_ ?_ ?_ ?_ ?_
        · exact Vb_of _ _ 20 0 0 _ (by decide +kernel)
        · exact Vb_of _ _ 20 0 1 _ (by decide +kernel)
        · exact Vb_of _ _ 20 0 2 _ (by decide +kernel)
        · exact readAt_sub _ _ _ _ _ hF2.p0 ![0, 0, 0] (by decide) (by decide)
        · exact readAt_sub _ _ _ _ _ hF2.p0 ![0, 256, 0] (by decide) (by decide)
        · exact readAt_sub _ _ _ _ _ hF2.p0 ![0, 512, 0] (by decide) (by decide)
        · exact hF2.al0
        · exact hF2.acc0
    · repeat refine (readAt_skip _ _ _ _ _ _ (by decide)).trans ?_
      refine (readAt_hit _ _ _ _ _ _).trans ?_
      refine accI_of (n := 21) (h := 1) ?_ ?_ ?_ ?_ ?_ ?_ ?_ ?_
      · exact Vb_of _ _ 21 1 0 _ (by decide +kernel)
      · exact Vb_of _ _ 21 1 1 _ (by decide +kernel)
      · exact Vb_of _ _ 21 1 2 _ (by decide +kernel)
      · repeat refine (readCov_skip' _ _ _ _ _ (by decide)).trans ?_
        refine ldP_cov _ 1 0 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine ldP_cov _ 1 1 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine ldP_cov _ 1 2 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine (readCov_hit _ _ _ _ _).trans ?_
        refine alI_of (n := 21) (h := 1) ?_ ?_
        · refine mpI_on (n := 20) (h := 1) ?_ ?_ ?_
          · sl_unfold_run_names
            decide +kernel
          · decide
          · exact hF2.m1
        · exact hF2.cm1
      · repeat refine (readCov_skip' _ _ _ _ _ (by decide)).trans ?_
        refine (readCov_hit _ _ _ _ _).trans ?_
        refine accI_of (n := 20) (h := 1) ?_ ?_ ?_ ?_ ?_ ?_ ?_ ?_
        · exact Vb_of _ _ 20 1 0 _ (by decide +kernel)
        · exact Vb_of _ _ 20 1 1 _ (by decide +kernel)
        · exact Vb_of _ _ 20 1 2 _ (by decide +kernel)
        · exact readAt_sub _ _ _ _ _ hF2.p1 ![0, 0, 0] (by decide) (by decide)
        · exact readAt_sub _ _ _ _ _ hF2.p1 ![0, 256, 0] (by decide) (by decide)
        · exact readAt_sub _ _ _ _ _ hF2.p1 ![0, 512, 0] (by decide) (by decide)
        · exact hF2.al1
        · exact hF2.acc1
  iintro %acc3 HI
  icases HI with ⟨%f73, %f83, %f93, %f103, %f113, %f123, %f133, %f143, H3, H4, H5, H7, H8, H9, H10, H11, H12, H13, H14, %hF3⟩
  sl_exec
  sl_for (fun k _ => iprop(∃ f7, ∃ f8, ∃ f9, ∃ f10, ∃ f11, ∃ f12, ∃ f13, ∃ f14, pt c arg3 f3 ∗ pt c arg4 f4 ∗ pt c arg5 f5 ∗ pt c arg7 f7 ∗ pt c arg8 f8 ∗ pt c arg9 f9 ∗ pt c arg10 f10 ∗ pt c arg11 f11 ∗ pt c arg12 f12 ∗ pt c arg13 f13 ∗ pt c arg14 f14 ∗ ⌜Facts (arg3.view.read (Elt F) f3) (arg4.view.read (Elt F) f4) (arg5.view.read (Elt F) f5) c arg8 arg9 arg11 arg12 arg13 arg14 f8 f9 f11 f12 f13 f14 (34 + 2 * k)⌝)) $$ [H3 H4 H5 H7 H8 H9 H10 H11 H12 H13 H14]
  · intro k acc
    exact trip4 c i arg3 harg3 arg4 harg4 arg5 harg5 arg6 harg6 arg7 harg7 arg8 harg8 arg9 harg9 arg10 harg10 arg11 harg11 arg12 harg12 arg13 harg13 arg14 harg14 _ _ _ f3 f4 f5 k acc
  · iexists _, _, _, _, _, _, _, _
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    ipureintro
    constructor
    · repeat refine (readAt_skip _ _ _ _ _ _ (by decide)).trans ?_
      refine (readAt_hit _ _ _ _ _ _).trans ?_
      refine sI_of (n := 35) (h := 0) ?_ ?_ ?_ ?_ ?_
      · exact Kb_of _ _ 35 0 _ (by decide +kernel)
      · exact Qb_of _ _ 35 0 0 _ (by decide +kernel)
      · exact Qb_of _ _ 35 0 1 _ (by decide +kernel)
      · exact Qb_of _ _ 35 0 2 _ (by decide +kernel)
      · exact Qb_of _ _ 35 0 3 _ (by decide +kernel)
    · repeat refine (readAt_skip _ _ _ _ _ _ (by decide)).trans ?_
      refine (readAt_hit _ _ _ _ _ _).trans ?_
      refine sI_of (n := 35) (h := 1) ?_ ?_ ?_ ?_ ?_
      · exact Kb_of _ _ 35 1 _ (by decide +kernel)
      · exact Qb_of _ _ 35 1 0 _ (by decide +kernel)
      · exact Qb_of _ _ 35 1 1 _ (by decide +kernel)
      · exact Qb_of _ _ 35 1 2 _ (by decide +kernel)
      · exact Qb_of _ _ 35 1 3 _ (by decide +kernel)
    · repeat refine (readAt_skip _ _ _ _ _ _ (by decide)).trans ?_
      refine (readAt_hit _ _ _ _ _ _).trans ?_
      refine cmI_of (n := 35) (h := 0) ?_ ?_ ?_ ?_ ?_
      · exact Kb_of _ _ 35 0 _ (by decide +kernel)
      · exact Qb_of _ _ 35 0 0 _ (by decide +kernel)
      · exact Qb_of _ _ 35 0 1 _ (by decide +kernel)
      · exact Qb_of _ _ 35 0 2 _ (by decide +kernel)
      · exact Qb_of _ _ 35 0 3 _ (by decide +kernel)
    · repeat refine (readAt_skip _ _ _ _ _ _ (by decide)).trans ?_
      refine (readAt_hit _ _ _ _ _ _).trans ?_
      refine cmI_of (n := 35) (h := 1) ?_ ?_ ?_ ?_ ?_
      · exact Kb_of _ _ 35 1 _ (by decide +kernel)
      · exact Qb_of _ _ 35 1 0 _ (by decide +kernel)
      · exact Qb_of _ _ 35 1 1 _ (by decide +kernel)
      · exact Qb_of _ _ 35 1 2 _ (by decide +kernel)
      · exact Qb_of _ _ 35 1 3 _ (by decide +kernel)
    · repeat refine (readAt_skip _ _ _ _ _ _ (by decide)).trans ?_
      refine (readAt_hit _ _ _ _ _ _).trans ?_
      refine pI_of (n := 34) (h := 0) ?_ ?_ ?_
      · refine mpI_on (n := 33) (h := 0) ?_ ?_ ?_
        · sl_unfold_run_names
          decide +kernel
        · decide
        · repeat refine (readCov_skip' _ _ _ _ _ (by decide)).trans ?_
          refine (readCov_hit _ _ _ _ _).trans ?_
          refine mI_of (n := 33) (h := 0) ?_ ?_
          · exact mpI_reset (n := 33) (h := 0) (by first | rfl | (sl_unfold_run_names; rfl)) (by decide)
          · exact hF3.cm0
      · repeat refine (readCov_skip' _ _ _ _ _ (by decide)).trans ?_
        refine (readCov_hit _ _ _ _ _).trans ?_
        refine cmI_of (n := 34) (h := 0) ?_ ?_ ?_ ?_ ?_
        · exact Kb_of _ _ 34 0 _ (by decide +kernel)
        · exact Qb_of _ _ 34 0 0 _ (by decide +kernel)
        · exact Qb_of _ _ 34 0 1 _ (by decide +kernel)
        · exact Qb_of _ _ 34 0 2 _ (by decide +kernel)
        · exact Qb_of _ _ 34 0 3 _ (by decide +kernel)
      · repeat refine (readCov_skip' _ _ _ _ _ (by decide)).trans ?_
        refine (readCov_hit _ _ _ _ _).trans ?_
        refine sI_of (n := 34) (h := 0) ?_ ?_ ?_ ?_ ?_
        · exact Kb_of _ _ 34 0 _ (by decide +kernel)
        · exact Qb_of _ _ 34 0 0 _ (by decide +kernel)
        · exact Qb_of _ _ 34 0 1 _ (by decide +kernel)
        · exact Qb_of _ _ 34 0 2 _ (by decide +kernel)
        · exact Qb_of _ _ 34 0 3 _ (by decide +kernel)
    · repeat refine (readAt_skip _ _ _ _ _ _ (by decide)).trans ?_
      refine (readAt_hit _ _ _ _ _ _).trans ?_
      refine pI_of (n := 34) (h := 1) ?_ ?_ ?_
      · refine mpI_on (n := 33) (h := 1) ?_ ?_ ?_
        · sl_unfold_run_names
          decide +kernel
        · decide
        · repeat refine (readCov_skip' _ _ _ _ _ (by decide)).trans ?_
          refine (readCov_hit _ _ _ _ _).trans ?_
          refine mI_of (n := 33) (h := 1) ?_ ?_
          · exact mpI_reset (n := 33) (h := 1) (by first | rfl | (sl_unfold_run_names; rfl)) (by decide)
          · exact hF3.cm1
      · repeat refine (readCov_skip' _ _ _ _ _ (by decide)).trans ?_
        refine (readCov_hit _ _ _ _ _).trans ?_
        refine cmI_of (n := 34) (h := 1) ?_ ?_ ?_ ?_ ?_
        · exact Kb_of _ _ 34 1 _ (by decide +kernel)
        · exact Qb_of _ _ 34 1 0 _ (by decide +kernel)
        · exact Qb_of _ _ 34 1 1 _ (by decide +kernel)
        · exact Qb_of _ _ 34 1 2 _ (by decide +kernel)
        · exact Qb_of _ _ 34 1 3 _ (by decide +kernel)
      · repeat refine (readCov_skip' _ _ _ _ _ (by decide)).trans ?_
        refine (readCov_hit _ _ _ _ _).trans ?_
        refine sI_of (n := 34) (h := 1) ?_ ?_ ?_ ?_ ?_
        · exact Kb_of _ _ 34 1 _ (by decide +kernel)
        · exact Qb_of _ _ 34 1 0 _ (by decide +kernel)
        · exact Qb_of _ _ 34 1 1 _ (by decide +kernel)
        · exact Qb_of _ _ 34 1 2 _ (by decide +kernel)
        · exact Qb_of _ _ 34 1 3 _ (by decide +kernel)
    · repeat refine (readAt_skip _ _ _ _ _ _ (by decide)).trans ?_
      refine (readAt_hit _ _ _ _ _ _).trans ?_
      refine alI_of (n := 34) (h := 0) ?_ ?_
      · refine mpI_on (n := 33) (h := 0) ?_ ?_ ?_
        · sl_unfold_run_names
          decide +kernel
        · decide
        · repeat refine (readCov_skip' _ _ _ _ _ (by decide)).trans ?_
          refine (readCov_hit _ _ _ _ _).trans ?_
          refine mI_of (n := 33) (h := 0) ?_ ?_
          · exact mpI_reset (n := 33) (h := 0) (by first | rfl | (sl_unfold_run_names; rfl)) (by decide)
          · exact hF3.cm0
      · repeat refine (readCov_skip' _ _ _ _ _ (by decide)).trans ?_
        refine (readCov_hit _ _ _ _ _).trans ?_
        refine cmI_of (n := 34) (h := 0) ?_ ?_ ?_ ?_ ?_
        · exact Kb_of _ _ 34 0 _ (by decide +kernel)
        · exact Qb_of _ _ 34 0 0 _ (by decide +kernel)
        · exact Qb_of _ _ 34 0 1 _ (by decide +kernel)
        · exact Qb_of _ _ 34 0 2 _ (by decide +kernel)
        · exact Qb_of _ _ 34 0 3 _ (by decide +kernel)
    · repeat refine (readAt_skip _ _ _ _ _ _ (by decide)).trans ?_
      refine (readAt_hit _ _ _ _ _ _).trans ?_
      refine alI_of (n := 34) (h := 1) ?_ ?_
      · refine mpI_on (n := 33) (h := 1) ?_ ?_ ?_
        · sl_unfold_run_names
          decide +kernel
        · decide
        · repeat refine (readCov_skip' _ _ _ _ _ (by decide)).trans ?_
          refine (readCov_hit _ _ _ _ _).trans ?_
          refine mI_of (n := 33) (h := 1) ?_ ?_
          · exact mpI_reset (n := 33) (h := 1) (by first | rfl | (sl_unfold_run_names; rfl)) (by decide)
          · exact hF3.cm1
      · repeat refine (readCov_skip' _ _ _ _ _ (by decide)).trans ?_
        refine (readCov_hit _ _ _ _ _).trans ?_
        refine cmI_of (n := 34) (h := 1) ?_ ?_ ?_ ?_ ?_
        · exact Kb_of _ _ 34 1 _ (by decide +kernel)
        · exact Qb_of _ _ 34 1 0 _ (by decide +kernel)
        · exact Qb_of _ _ 34 1 1 _ (by decide +kernel)
        · exact Qb_of _ _ 34 1 2 _ (by decide +kernel)
        · exact Qb_of _ _ 34 1 3 _ (by decide +kernel)
    · repeat refine (readAt_skip _ _ _ _ _ _ (by decide)).trans ?_
      refine (readAt_hit _ _ _ _ _ _).trans ?_
      refine mI_of (n := 34) (h := 0) ?_ ?_
      · refine mpI_on (n := 33) (h := 0) ?_ ?_ ?_
        · sl_unfold_run_names
          decide +kernel
        · decide
        · repeat refine (readCov_skip' _ _ _ _ _ (by decide)).trans ?_
          refine (readCov_hit _ _ _ _ _).trans ?_
          refine mI_of (n := 33) (h := 0) ?_ ?_
          · exact mpI_reset (n := 33) (h := 0) (by first | rfl | (sl_unfold_run_names; rfl)) (by decide)
          · exact hF3.cm0
      · repeat refine (readCov_skip' _ _ _ _ _ (by decide)).trans ?_
        refine (readCov_hit _ _ _ _ _).trans ?_
        refine cmI_of (n := 34) (h := 0) ?_ ?_ ?_ ?_ ?_
        · exact Kb_of _ _ 34 0 _ (by decide +kernel)
        · exact Qb_of _ _ 34 0 0 _ (by decide +kernel)
        · exact Qb_of _ _ 34 0 1 _ (by decide +kernel)
        · exact Qb_of _ _ 34 0 2 _ (by decide +kernel)
        · exact Qb_of _ _ 34 0 3 _ (by decide +kernel)
    · repeat refine (readAt_skip _ _ _ _ _ _ (by decide)).trans ?_
      refine (readAt_hit _ _ _ _ _ _).trans ?_
      refine mI_of (n := 34) (h := 1) ?_ ?_
      · refine mpI_on (n := 33) (h := 1) ?_ ?_ ?_
        · sl_unfold_run_names
          decide +kernel
        · decide
        · repeat refine (readCov_skip' _ _ _ _ _ (by decide)).trans ?_
          refine (readCov_hit _ _ _ _ _).trans ?_
          refine mI_of (n := 33) (h := 1) ?_ ?_
          · exact mpI_reset (n := 33) (h := 1) (by first | rfl | (sl_unfold_run_names; rfl)) (by decide)
          · exact hF3.cm1
      · repeat refine (readCov_skip' _ _ _ _ _ (by decide)).trans ?_
        refine (readCov_hit _ _ _ _ _).trans ?_
        refine cmI_of (n := 34) (h := 1) ?_ ?_ ?_ ?_ ?_
        · exact Kb_of _ _ 34 1 _ (by decide +kernel)
        · exact Qb_of _ _ 34 1 0 _ (by decide +kernel)
        · exact Qb_of _ _ 34 1 1 _ (by decide +kernel)
        · exact Qb_of _ _ 34 1 2 _ (by decide +kernel)
        · exact Qb_of _ _ 34 1 3 _ (by decide +kernel)
    · repeat refine (readAt_skip _ _ _ _ _ _ (by decide)).trans ?_
      refine (readAt_hit _ _ _ _ _ _).trans ?_
      refine accI_of (n := 33) (h := 0) ?_ ?_ ?_ ?_ ?_ ?_ ?_ ?_
      · exact Vb_of _ _ 33 0 0 _ (by decide +kernel)
      · exact Vb_of _ _ 33 0 1 _ (by decide +kernel)
      · exact Vb_of _ _ 33 0 2 _ (by decide +kernel)
      · repeat refine (readCov_skip' _ _ _ _ _ (by decide)).trans ?_
        refine ldP_cov _ 0 0 _ _ (x := pI _ _ 33 0) ?_ _
        refine pI_of (n := 33) (h := 0) ?_ ?_ ?_
        · exact mpI_reset (n := 33) (h := 0) (by first | rfl | (sl_unfold_run_names; rfl)) (by decide)
        · exact hF3.cm0
        · exact hF3.s0
      · repeat refine (readCov_skip' _ _ _ _ _ (by decide)).trans ?_
        refine ldP_cov _ 0 1 _ _ (x := pI _ _ 33 0) ?_ _
        refine pI_of (n := 33) (h := 0) ?_ ?_ ?_
        · exact mpI_reset (n := 33) (h := 0) (by first | rfl | (sl_unfold_run_names; rfl)) (by decide)
        · exact hF3.cm0
        · exact hF3.s0
      · repeat refine (readCov_skip' _ _ _ _ _ (by decide)).trans ?_
        refine ldP_cov _ 0 2 _ _ (x := pI _ _ 33 0) ?_ _
        refine pI_of (n := 33) (h := 0) ?_ ?_ ?_
        · exact mpI_reset (n := 33) (h := 0) (by first | rfl | (sl_unfold_run_names; rfl)) (by decide)
        · exact hF3.cm0
        · exact hF3.s0
      · repeat refine (readCov_skip' _ _ _ _ _ (by decide)).trans ?_
        refine (readCov_hit _ _ _ _ _).trans ?_
        refine alI_of (n := 33) (h := 0) ?_ ?_
        · exact mpI_reset (n := 33) (h := 0) (by first | rfl | (sl_unfold_run_names; rfl)) (by decide)
        · exact hF3.cm0
      · repeat refine (readCov_skip' _ _ _ _ _ (by decide)).trans ?_
        refine (readCov_hit _ _ _ _ _).trans ?_
        refine accI_of (n := 32) (h := 0) ?_ ?_ ?_ ?_ ?_ ?_ ?_ ?_
        · exact Vb_of _ _ 32 0 0 _ (by decide +kernel)
        · exact Vb_of _ _ 32 0 1 _ (by decide +kernel)
        · exact Vb_of _ _ 32 0 2 _ (by decide +kernel)
        · exact readAt_sub _ _ _ _ _ hF3.p0 ![0, 0, 0] (by decide) (by decide)
        · exact readAt_sub _ _ _ _ _ hF3.p0 ![0, 256, 0] (by decide) (by decide)
        · exact readAt_sub _ _ _ _ _ hF3.p0 ![0, 512, 0] (by decide) (by decide)
        · exact hF3.al0
        · exact hF3.acc0
    · repeat refine (readAt_skip _ _ _ _ _ _ (by decide)).trans ?_
      refine (readAt_hit _ _ _ _ _ _).trans ?_
      refine accI_of (n := 33) (h := 1) ?_ ?_ ?_ ?_ ?_ ?_ ?_ ?_
      · exact Vb_of _ _ 33 1 0 _ (by decide +kernel)
      · exact Vb_of _ _ 33 1 1 _ (by decide +kernel)
      · exact Vb_of _ _ 33 1 2 _ (by decide +kernel)
      · repeat refine (readCov_skip' _ _ _ _ _ (by decide)).trans ?_
        refine ldP_cov _ 1 0 _ _ (x := pI _ _ 33 1) ?_ _
        refine pI_of (n := 33) (h := 1) ?_ ?_ ?_
        · exact mpI_reset (n := 33) (h := 1) (by first | rfl | (sl_unfold_run_names; rfl)) (by decide)
        · exact hF3.cm1
        · exact hF3.s1
      · repeat refine (readCov_skip' _ _ _ _ _ (by decide)).trans ?_
        refine ldP_cov _ 1 1 _ _ (x := pI _ _ 33 1) ?_ _
        refine pI_of (n := 33) (h := 1) ?_ ?_ ?_
        · exact mpI_reset (n := 33) (h := 1) (by first | rfl | (sl_unfold_run_names; rfl)) (by decide)
        · exact hF3.cm1
        · exact hF3.s1
      · repeat refine (readCov_skip' _ _ _ _ _ (by decide)).trans ?_
        refine ldP_cov _ 1 2 _ _ (x := pI _ _ 33 1) ?_ _
        refine pI_of (n := 33) (h := 1) ?_ ?_ ?_
        · exact mpI_reset (n := 33) (h := 1) (by first | rfl | (sl_unfold_run_names; rfl)) (by decide)
        · exact hF3.cm1
        · exact hF3.s1
      · repeat refine (readCov_skip' _ _ _ _ _ (by decide)).trans ?_
        refine (readCov_hit _ _ _ _ _).trans ?_
        refine alI_of (n := 33) (h := 1) ?_ ?_
        · exact mpI_reset (n := 33) (h := 1) (by first | rfl | (sl_unfold_run_names; rfl)) (by decide)
        · exact hF3.cm1
      · repeat refine (readCov_skip' _ _ _ _ _ (by decide)).trans ?_
        refine (readCov_hit _ _ _ _ _).trans ?_
        refine accI_of (n := 32) (h := 1) ?_ ?_ ?_ ?_ ?_ ?_ ?_ ?_
        · exact Vb_of _ _ 32 1 0 _ (by decide +kernel)
        · exact Vb_of _ _ 32 1 1 _ (by decide +kernel)
        · exact Vb_of _ _ 32 1 2 _ (by decide +kernel)
        · exact readAt_sub _ _ _ _ _ hF3.p1 ![0, 0, 0] (by decide) (by decide)
        · exact readAt_sub _ _ _ _ _ hF3.p1 ![0, 256, 0] (by decide) (by decide)
        · exact readAt_sub _ _ _ _ _ hF3.p1 ![0, 512, 0] (by decide) (by decide)
        · exact hF3.al1
        · exact hF3.acc1
  iintro %acc4 HI
  icases HI with ⟨%f74, %f84, %f94, %f104, %f114, %f124, %f134, %f144, H3, H4, H5, H7, H8, H9, H10, H11, H12, H13, H14, %hF4⟩
  sl_exec
  sl_step
  iexists _, _, _, _, _, _, _, _, _
  isplitl [H6]; · iexact H6
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  ipureintro
  refine outB_of _ _ _ _ _ _ ?_ ?_ ?_ ?_
  · refine fin_of (n := 11) ?_ ?_ ?_ ?_
    · repeat refine (readCov_skip' _ _ _ _ _ (by decide)).trans ?_
      refine ldA_cov _ 0 _ _ (x := accI _ _ _ 11 0) ?_ _
      refine accI_of (n := 10) (h := 0) ?_ ?_ ?_ ?_ ?_ ?_ ?_ ?_
      · exact Vb_of _ _ 10 0 0 _ (by decide +kernel)
      · exact Vb_of _ _ 10 0 1 _ (by decide +kernel)
      · exact Vb_of _ _ 10 0 2 _ (by decide +kernel)
      · exact readAt_sub _ _ _ _ _ hF1.p0 ![0, 0, 0] (by decide) (by decide)
      · exact readAt_sub _ _ _ _ _ hF1.p0 ![0, 256, 0] (by decide) (by decide)
      · exact readAt_sub _ _ _ _ _ hF1.p0 ![0, 512, 0] (by decide) (by decide)
      · exact hF1.al0
      · exact hF1.acc0
    · repeat refine (readCov_skip' _ _ _ _ _ (by decide)).trans ?_
      refine ldD_cov _ 0 _ _ (x := accI _ _ _ 11 0) ?_ _
      refine accI_of (n := 10) (h := 0) ?_ ?_ ?_ ?_ ?_ ?_ ?_ ?_
      · exact Vb_of _ _ 10 0 0 _ (by decide +kernel)
      · exact Vb_of _ _ 10 0 1 _ (by decide +kernel)
      · exact Vb_of _ _ 10 0 2 _ (by decide +kernel)
      · exact readAt_sub _ _ _ _ _ hF1.p0 ![0, 0, 0] (by decide) (by decide)
      · exact readAt_sub _ _ _ _ _ hF1.p0 ![0, 256, 0] (by decide) (by decide)
      · exact readAt_sub _ _ _ _ _ hF1.p0 ![0, 512, 0] (by decide) (by decide)
      · exact hF1.al0
      · exact hF1.acc0
    · repeat refine (readCov_skip' _ _ _ _ _ (by decide)).trans ?_
      refine ldA_cov _ 1 _ _ (x := accI _ _ _ 11 1) ?_ _
      refine accI_of (n := 10) (h := 1) ?_ ?_ ?_ ?_ ?_ ?_ ?_ ?_
      · exact Vb_of _ _ 10 1 0 _ (by decide +kernel)
      · exact Vb_of _ _ 10 1 1 _ (by decide +kernel)
      · exact Vb_of _ _ 10 1 2 _ (by decide +kernel)
      · exact readAt_sub _ _ _ _ _ hF1.p1 ![0, 0, 0] (by decide) (by decide)
      · exact readAt_sub _ _ _ _ _ hF1.p1 ![0, 256, 0] (by decide) (by decide)
      · exact readAt_sub _ _ _ _ _ hF1.p1 ![0, 512, 0] (by decide) (by decide)
      · exact hF1.al1
      · exact hF1.acc1
    · repeat refine (readCov_skip' _ _ _ _ _ (by decide)).trans ?_
      refine ldD_cov _ 1 _ _ (x := accI _ _ _ 11 1) ?_ _
      refine accI_of (n := 10) (h := 1) ?_ ?_ ?_ ?_ ?_ ?_ ?_ ?_
      · exact Vb_of _ _ 10 1 0 _ (by decide +kernel)
      · exact Vb_of _ _ 10 1 1 _ (by decide +kernel)
      · exact Vb_of _ _ 10 1 2 _ (by decide +kernel)
      · exact readAt_sub _ _ _ _ _ hF1.p1 ![0, 0, 0] (by decide) (by decide)
      · exact readAt_sub _ _ _ _ _ hF1.p1 ![0, 256, 0] (by decide) (by decide)
      · exact readAt_sub _ _ _ _ _ hF1.p1 ![0, 512, 0] (by decide) (by decide)
      · exact hF1.al1
      · exact hF1.acc1
  · refine fin_of (n := 22) ?_ ?_ ?_ ?_
    · repeat refine (readCov_skip' _ _ _ _ _ (by decide)).trans ?_
      refine ldA_cov _ 0 _ _ (x := accI _ _ _ 22 0) ?_ _
      refine accI_of (n := 21) (h := 0) ?_ ?_ ?_ ?_ ?_ ?_ ?_ ?_
      · exact Vb_of _ _ 21 0 0 _ (by decide +kernel)
      · exact Vb_of _ _ 21 0 1 _ (by decide +kernel)
      · exact Vb_of _ _ 21 0 2 _ (by decide +kernel)
      · repeat refine (readCov_skip' _ _ _ _ _ (by decide)).trans ?_
        refine ldP_cov _ 0 0 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine ldP_cov _ 0 1 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine ldP_cov _ 0 2 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine (readCov_hit _ _ _ _ _).trans ?_
        refine alI_of (n := 21) (h := 0) ?_ ?_
        · refine mpI_on (n := 20) (h := 0) ?_ ?_ ?_
          · sl_unfold_run_names
            decide +kernel
          · decide
          · exact hF2.m0
        · exact hF2.cm0
      · repeat refine (readCov_skip' _ _ _ _ _ (by decide)).trans ?_
        refine (readCov_hit _ _ _ _ _).trans ?_
        refine accI_of (n := 20) (h := 0) ?_ ?_ ?_ ?_ ?_ ?_ ?_ ?_
        · exact Vb_of _ _ 20 0 0 _ (by decide +kernel)
        · exact Vb_of _ _ 20 0 1 _ (by decide +kernel)
        · exact Vb_of _ _ 20 0 2 _ (by decide +kernel)
        · exact readAt_sub _ _ _ _ _ hF2.p0 ![0, 0, 0] (by decide) (by decide)
        · exact readAt_sub _ _ _ _ _ hF2.p0 ![0, 256, 0] (by decide) (by decide)
        · exact readAt_sub _ _ _ _ _ hF2.p0 ![0, 512, 0] (by decide) (by decide)
        · exact hF2.al0
        · exact hF2.acc0
    · repeat refine (readCov_skip' _ _ _ _ _ (by decide)).trans ?_
      refine ldD_cov _ 0 _ _ (x := accI _ _ _ 22 0) ?_ _
      refine accI_of (n := 21) (h := 0) ?_ ?_ ?_ ?_ ?_ ?_ ?_ ?_
      · exact Vb_of _ _ 21 0 0 _ (by decide +kernel)
      · exact Vb_of _ _ 21 0 1 _ (by decide +kernel)
      · exact Vb_of _ _ 21 0 2 _ (by decide +kernel)
      · repeat refine (readCov_skip' _ _ _ _ _ (by decide)).trans ?_
        refine ldP_cov _ 0 0 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine ldP_cov _ 0 1 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine ldP_cov _ 0 2 _ _ (x := pI _ _ 21 0) ?_ _
        refine pI_of (n := 21) (h := 0) ?_ ?_ ?_
        · refine mpI_on (n := 20) (h := 0) ?_ ?_ ?_
          · sl_unfold_run_names
            decide +kernel
          · decide
          · exact hF2.m0
        · exact hF2.cm0
        · exact hF2.s0
      · repeat refine (readCov_skip' _ _ _ _ _ (by decide)).trans ?_
        refine (readCov_hit _ _ _ _ _).trans ?_
        refine alI_of (n := 21) (h := 0) ?_ ?_
        · refine mpI_on (n := 20) (h := 0) ?_ ?_ ?_
          · sl_unfold_run_names
            decide +kernel
          · decide
          · exact hF2.m0
        · exact hF2.cm0
      · repeat refine (readCov_skip' _ _ _ _ _ (by decide)).trans ?_
        refine (readCov_hit _ _ _ _ _).trans ?_
        refine accI_of (n := 20) (h := 0) ?_ ?_ ?_ ?_ ?_ ?_ ?_ ?_
        · exact Vb_of _ _ 20 0 0 _ (by decide +kernel)
        · exact Vb_of _ _ 20 0 1 _ (by decide +kernel)
        · exact Vb_of _ _ 20 0 2 _ (by decide +kernel)
        · exact readAt_sub _ _ _ _ _ hF2.p0 ![0, 0, 0] (by decide) (by decide)
        · exact readAt_sub _ _ _ _ _ hF2.p0 ![0, 256, 0] (by decide) (by decide)
        · exact readAt_sub _ _ _ _ _ hF2.p0 ![0, 512, 0] (by decide) (by decide)
        · exact hF2.al0
        · exact hF2.acc0
    · repeat refine (readCov_skip' _ _ _ _ _ (by decide)).trans ?_
      refine ldA_cov _ 1 _ _ (x := accI _ _ _ 22 1) ?_ _
      refine accI_of (n := 21) (h := 1) ?_ ?_ ?_ ?_ ?_ ?_ ?_ ?_
      · exact Vb_of _ _ 21 1 0 _ (by decide +kernel)
      · exact Vb_of _ _ 21 1 1 _ (by decide +kernel)
      · exact Vb_of _ _ 21 1 2 _ (by decide +kernel)
      · repeat refine (readCov_skip' _ _ _ _ _ (by decide)).trans ?_
        refine ldP_cov _ 1 0 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine ldP_cov _ 1 1 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine ldP_cov _ 1 2 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine (readCov_hit _ _ _ _ _).trans ?_
        refine alI_of (n := 21) (h := 1) ?_ ?_
        · refine mpI_on (n := 20) (h := 1) ?_ ?_ ?_
          · sl_unfold_run_names
            decide +kernel
          · decide
          · exact hF2.m1
        · exact hF2.cm1
      · repeat refine (readCov_skip' _ _ _ _ _ (by decide)).trans ?_
        refine (readCov_hit _ _ _ _ _).trans ?_
        refine accI_of (n := 20) (h := 1) ?_ ?_ ?_ ?_ ?_ ?_ ?_ ?_
        · exact Vb_of _ _ 20 1 0 _ (by decide +kernel)
        · exact Vb_of _ _ 20 1 1 _ (by decide +kernel)
        · exact Vb_of _ _ 20 1 2 _ (by decide +kernel)
        · exact readAt_sub _ _ _ _ _ hF2.p1 ![0, 0, 0] (by decide) (by decide)
        · exact readAt_sub _ _ _ _ _ hF2.p1 ![0, 256, 0] (by decide) (by decide)
        · exact readAt_sub _ _ _ _ _ hF2.p1 ![0, 512, 0] (by decide) (by decide)
        · exact hF2.al1
        · exact hF2.acc1
    · repeat refine (readCov_skip' _ _ _ _ _ (by decide)).trans ?_
      refine ldD_cov _ 1 _ _ (x := accI _ _ _ 22 1) ?_ _
      refine accI_of (n := 21) (h := 1) ?_ ?_ ?_ ?_ ?_ ?_ ?_ ?_
      · exact Vb_of _ _ 21 1 0 _ (by decide +kernel)
      · exact Vb_of _ _ 21 1 1 _ (by decide +kernel)
      · exact Vb_of _ _ 21 1 2 _ (by decide +kernel)
      · repeat refine (readCov_skip' _ _ _ _ _ (by decide)).trans ?_
        refine ldP_cov _ 1 0 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine ldP_cov _ 1 1 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine ldP_cov _ 1 2 _ _ (x := pI _ _ 21 1) ?_ _
        refine pI_of (n := 21) (h := 1) ?_ ?_ ?_
        · refine mpI_on (n := 20) (h := 1) ?_ ?_ ?_
          · sl_unfold_run_names
            decide +kernel
          · decide
          · exact hF2.m1
        · exact hF2.cm1
        · exact hF2.s1
      · repeat refine (readCov_skip' _ _ _ _ _ (by decide)).trans ?_
        refine (readCov_hit _ _ _ _ _).trans ?_
        refine alI_of (n := 21) (h := 1) ?_ ?_
        · refine mpI_on (n := 20) (h := 1) ?_ ?_ ?_
          · sl_unfold_run_names
            decide +kernel
          · decide
          · exact hF2.m1
        · exact hF2.cm1
      · repeat refine (readCov_skip' _ _ _ _ _ (by decide)).trans ?_
        refine (readCov_hit _ _ _ _ _).trans ?_
        refine accI_of (n := 20) (h := 1) ?_ ?_ ?_ ?_ ?_ ?_ ?_ ?_
        · exact Vb_of _ _ 20 1 0 _ (by decide +kernel)
        · exact Vb_of _ _ 20 1 1 _ (by decide +kernel)
        · exact Vb_of _ _ 20 1 2 _ (by decide +kernel)
        · exact readAt_sub _ _ _ _ _ hF2.p1 ![0, 0, 0] (by decide) (by decide)
        · exact readAt_sub _ _ _ _ _ hF2.p1 ![0, 256, 0] (by decide) (by decide)
        · exact readAt_sub _ _ _ _ _ hF2.p1 ![0, 512, 0] (by decide) (by decide)
        · exact hF2.al1
        · exact hF2.acc1
  · refine fin_of (n := 33) ?_ ?_ ?_ ?_
    · repeat refine (readCov_skip' _ _ _ _ _ (by decide)).trans ?_
      refine ldA_cov _ 0 _ _ (x := accI _ _ _ 33 0) ?_ _
      refine accI_of (n := 32) (h := 0) ?_ ?_ ?_ ?_ ?_ ?_ ?_ ?_
      · exact Vb_of _ _ 32 0 0 _ (by decide +kernel)
      · exact Vb_of _ _ 32 0 1 _ (by decide +kernel)
      · exact Vb_of _ _ 32 0 2 _ (by decide +kernel)
      · exact readAt_sub _ _ _ _ _ hF3.p0 ![0, 0, 0] (by decide) (by decide)
      · exact readAt_sub _ _ _ _ _ hF3.p0 ![0, 256, 0] (by decide) (by decide)
      · exact readAt_sub _ _ _ _ _ hF3.p0 ![0, 512, 0] (by decide) (by decide)
      · exact hF3.al0
      · exact hF3.acc0
    · repeat refine (readCov_skip' _ _ _ _ _ (by decide)).trans ?_
      refine ldD_cov _ 0 _ _ (x := accI _ _ _ 33 0) ?_ _
      refine accI_of (n := 32) (h := 0) ?_ ?_ ?_ ?_ ?_ ?_ ?_ ?_
      · exact Vb_of _ _ 32 0 0 _ (by decide +kernel)
      · exact Vb_of _ _ 32 0 1 _ (by decide +kernel)
      · exact Vb_of _ _ 32 0 2 _ (by decide +kernel)
      · exact readAt_sub _ _ _ _ _ hF3.p0 ![0, 0, 0] (by decide) (by decide)
      · exact readAt_sub _ _ _ _ _ hF3.p0 ![0, 256, 0] (by decide) (by decide)
      · exact readAt_sub _ _ _ _ _ hF3.p0 ![0, 512, 0] (by decide) (by decide)
      · exact hF3.al0
      · exact hF3.acc0
    · repeat refine (readCov_skip' _ _ _ _ _ (by decide)).trans ?_
      refine ldA_cov _ 1 _ _ (x := accI _ _ _ 33 1) ?_ _
      refine accI_of (n := 32) (h := 1) ?_ ?_ ?_ ?_ ?_ ?_ ?_ ?_
      · exact Vb_of _ _ 32 1 0 _ (by decide +kernel)
      · exact Vb_of _ _ 32 1 1 _ (by decide +kernel)
      · exact Vb_of _ _ 32 1 2 _ (by decide +kernel)
      · exact readAt_sub _ _ _ _ _ hF3.p1 ![0, 0, 0] (by decide) (by decide)
      · exact readAt_sub _ _ _ _ _ hF3.p1 ![0, 256, 0] (by decide) (by decide)
      · exact readAt_sub _ _ _ _ _ hF3.p1 ![0, 512, 0] (by decide) (by decide)
      · exact hF3.al1
      · exact hF3.acc1
    · repeat refine (readCov_skip' _ _ _ _ _ (by decide)).trans ?_
      refine ldD_cov _ 1 _ _ (x := accI _ _ _ 33 1) ?_ _
      refine accI_of (n := 32) (h := 1) ?_ ?_ ?_ ?_ ?_ ?_ ?_ ?_
      · exact Vb_of _ _ 32 1 0 _ (by decide +kernel)
      · exact Vb_of _ _ 32 1 1 _ (by decide +kernel)
      · exact Vb_of _ _ 32 1 2 _ (by decide +kernel)
      · exact readAt_sub _ _ _ _ _ hF3.p1 ![0, 0, 0] (by decide) (by decide)
      · exact readAt_sub _ _ _ _ _ hF3.p1 ![0, 256, 0] (by decide) (by decide)
      · exact readAt_sub _ _ _ _ _ hF3.p1 ![0, 512, 0] (by decide) (by decide)
      · exact hF3.al1
      · exact hF3.acc1
  · refine fin_of (n := 44) ?_ ?_ ?_ ?_
    · repeat refine (readCov_skip' _ _ _ _ _ (by decide)).trans ?_
      refine ldA_cov _ 0 _ _ (x := accI _ _ _ 44 0) ?_ _
      refine accI_of (n := 43) (h := 0) ?_ ?_ ?_ ?_ ?_ ?_ ?_ ?_
      · exact Vb_of _ _ 43 0 0 _ (by decide +kernel)
      · exact Vb_of _ _ 43 0 1 _ (by decide +kernel)
      · exact Vb_of _ _ 43 0 2 _ (by decide +kernel)
      · repeat refine (readCov_skip' _ _ _ _ _ (by decide)).trans ?_
        refine ldP_cov _ 0 0 _ _ (x := pI _ _ 43 0) ?_ _
        refine pI_of (n := 43) (h := 0) ?_ ?_ ?_
        · refine mpI_on (n := 42) (h := 0) ?_ ?_ ?_
          · sl_unfold_run_names
            decide +kernel
          · decide
          · exact hF4.m0
        · exact hF4.cm0
        · exact hF4.s0
      · repeat refine (readCov_skip' _ _ _ _ _ (by decide)).trans ?_
        refine ldP_cov _ 0 1 _ _ (x := pI _ _ 43 0) ?_ _
        refine pI_of (n := 43) (h := 0) ?_ ?_ ?_
        · refine mpI_on (n := 42) (h := 0) ?_ ?_ ?_
          · sl_unfold_run_names
            decide +kernel
          · decide
          · exact hF4.m0
        · exact hF4.cm0
        · exact hF4.s0
      · repeat refine (readCov_skip' _ _ _ _ _ (by decide)).trans ?_
        refine ldP_cov _ 0 2 _ _ (x := pI _ _ 43 0) ?_ _
        refine pI_of (n := 43) (h := 0) ?_ ?_ ?_
        · refine mpI_on (n := 42) (h := 0) ?_ ?_ ?_
          · sl_unfold_run_names
            decide +kernel
          · decide
          · exact hF4.m0
        · exact hF4.cm0
        · exact hF4.s0
      · repeat refine (readCov_skip' _ _ _ _ _ (by decide)).trans ?_
        refine (readCov_hit _ _ _ _ _).trans ?_
        refine alI_of (n := 43) (h := 0) ?_ ?_
        · refine mpI_on (n := 42) (h := 0) ?_ ?_ ?_
          · sl_unfold_run_names
            decide +kernel
          · decide
          · exact hF4.m0
        · exact hF4.cm0
      · repeat refine (readCov_skip' _ _ _ _ _ (by decide)).trans ?_
        refine (readCov_hit _ _ _ _ _).trans ?_
        refine accI_of (n := 42) (h := 0) ?_ ?_ ?_ ?_ ?_ ?_ ?_ ?_
        · exact Vb_of _ _ 42 0 0 _ (by decide +kernel)
        · exact Vb_of _ _ 42 0 1 _ (by decide +kernel)
        · exact Vb_of _ _ 42 0 2 _ (by decide +kernel)
        · exact readAt_sub _ _ _ _ _ hF4.p0 ![0, 0, 0] (by decide) (by decide)
        · exact readAt_sub _ _ _ _ _ hF4.p0 ![0, 256, 0] (by decide) (by decide)
        · exact readAt_sub _ _ _ _ _ hF4.p0 ![0, 512, 0] (by decide) (by decide)
        · exact hF4.al0
        · exact hF4.acc0
    · repeat refine (readCov_skip' _ _ _ _ _ (by decide)).trans ?_
      refine ldD_cov _ 0 _ _ (x := accI _ _ _ 44 0) ?_ _
      refine accI_of (n := 43) (h := 0) ?_ ?_ ?_ ?_ ?_ ?_ ?_ ?_
      · exact Vb_of _ _ 43 0 0 _ (by decide +kernel)
      · exact Vb_of _ _ 43 0 1 _ (by decide +kernel)
      · exact Vb_of _ _ 43 0 2 _ (by decide +kernel)
      · repeat refine (readCov_skip' _ _ _ _ _ (by decide)).trans ?_
        refine ldP_cov _ 0 0 _ _ (x := pI _ _ 43 0) ?_ _
        refine pI_of (n := 43) (h := 0) ?_ ?_ ?_
        · refine mpI_on (n := 42) (h := 0) ?_ ?_ ?_
          · sl_unfold_run_names
            decide +kernel
          · decide
          · exact hF4.m0
        · exact hF4.cm0
        · exact hF4.s0
      · repeat refine (readCov_skip' _ _ _ _ _ (by decide)).trans ?_
        refine ldP_cov _ 0 1 _ _ (x := pI _ _ 43 0) ?_ _
        refine pI_of (n := 43) (h := 0) ?_ ?_ ?_
        · refine mpI_on (n := 42) (h := 0) ?_ ?_ ?_
          · sl_unfold_run_names
            decide +kernel
          · decide
          · exact hF4.m0
        · exact hF4.cm0
        · exact hF4.s0
      · repeat refine (readCov_skip' _ _ _ _ _ (by decide)).trans ?_
        refine ldP_cov _ 0 2 _ _ (x := pI _ _ 43 0) ?_ _
        refine pI_of (n := 43) (h := 0) ?_ ?_ ?_
        · refine mpI_on (n := 42) (h := 0) ?_ ?_ ?_
          · sl_unfold_run_names
            decide +kernel
          · decide
          · exact hF4.m0
        · exact hF4.cm0
        · exact hF4.s0
      · repeat refine (readCov_skip' _ _ _ _ _ (by decide)).trans ?_
        refine (readCov_hit _ _ _ _ _).trans ?_
        refine alI_of (n := 43) (h := 0) ?_ ?_
        · refine mpI_on (n := 42) (h := 0) ?_ ?_ ?_
          · sl_unfold_run_names
            decide +kernel
          · decide
          · exact hF4.m0
        · exact hF4.cm0
      · repeat refine (readCov_skip' _ _ _ _ _ (by decide)).trans ?_
        refine (readCov_hit _ _ _ _ _).trans ?_
        refine accI_of (n := 42) (h := 0) ?_ ?_ ?_ ?_ ?_ ?_ ?_ ?_
        · exact Vb_of _ _ 42 0 0 _ (by decide +kernel)
        · exact Vb_of _ _ 42 0 1 _ (by decide +kernel)
        · exact Vb_of _ _ 42 0 2 _ (by decide +kernel)
        · exact readAt_sub _ _ _ _ _ hF4.p0 ![0, 0, 0] (by decide) (by decide)
        · exact readAt_sub _ _ _ _ _ hF4.p0 ![0, 256, 0] (by decide) (by decide)
        · exact readAt_sub _ _ _ _ _ hF4.p0 ![0, 512, 0] (by decide) (by decide)
        · exact hF4.al0
        · exact hF4.acc0
    · repeat refine (readCov_skip' _ _ _ _ _ (by decide)).trans ?_
      refine ldA_cov _ 1 _ _ (x := accI _ _ _ 44 1) ?_ _
      refine accI_of (n := 43) (h := 1) ?_ ?_ ?_ ?_ ?_ ?_ ?_ ?_
      · exact Vb_of _ _ 43 1 0 _ (by decide +kernel)
      · exact Vb_of _ _ 43 1 1 _ (by decide +kernel)
      · exact Vb_of _ _ 43 1 2 _ (by decide +kernel)
      · repeat refine (readCov_skip' _ _ _ _ _ (by decide)).trans ?_
        refine ldP_cov _ 1 0 _ _ (x := pI _ _ 43 1) ?_ _
        refine pI_of (n := 43) (h := 1) ?_ ?_ ?_
        · refine mpI_on (n := 42) (h := 1) ?_ ?_ ?_
          · sl_unfold_run_names
            decide +kernel
          · decide
          · exact hF4.m1
        · exact hF4.cm1
        · exact hF4.s1
      · repeat refine (readCov_skip' _ _ _ _ _ (by decide)).trans ?_
        refine ldP_cov _ 1 1 _ _ (x := pI _ _ 43 1) ?_ _
        refine pI_of (n := 43) (h := 1) ?_ ?_ ?_
        · refine mpI_on (n := 42) (h := 1) ?_ ?_ ?_
          · sl_unfold_run_names
            decide +kernel
          · decide
          · exact hF4.m1
        · exact hF4.cm1
        · exact hF4.s1
      · repeat refine (readCov_skip' _ _ _ _ _ (by decide)).trans ?_
        refine ldP_cov _ 1 2 _ _ (x := pI _ _ 43 1) ?_ _
        refine pI_of (n := 43) (h := 1) ?_ ?_ ?_
        · refine mpI_on (n := 42) (h := 1) ?_ ?_ ?_
          · sl_unfold_run_names
            decide +kernel
          · decide
          · exact hF4.m1
        · exact hF4.cm1
        · exact hF4.s1
      · repeat refine (readCov_skip' _ _ _ _ _ (by decide)).trans ?_
        refine (readCov_hit _ _ _ _ _).trans ?_
        refine alI_of (n := 43) (h := 1) ?_ ?_
        · refine mpI_on (n := 42) (h := 1) ?_ ?_ ?_
          · sl_unfold_run_names
            decide +kernel
          · decide
          · exact hF4.m1
        · exact hF4.cm1
      · repeat refine (readCov_skip' _ _ _ _ _ (by decide)).trans ?_
        refine (readCov_hit _ _ _ _ _).trans ?_
        refine accI_of (n := 42) (h := 1) ?_ ?_ ?_ ?_ ?_ ?_ ?_ ?_
        · exact Vb_of _ _ 42 1 0 _ (by decide +kernel)
        · exact Vb_of _ _ 42 1 1 _ (by decide +kernel)
        · exact Vb_of _ _ 42 1 2 _ (by decide +kernel)
        · exact readAt_sub _ _ _ _ _ hF4.p1 ![0, 0, 0] (by decide) (by decide)
        · exact readAt_sub _ _ _ _ _ hF4.p1 ![0, 256, 0] (by decide) (by decide)
        · exact readAt_sub _ _ _ _ _ hF4.p1 ![0, 512, 0] (by decide) (by decide)
        · exact hF4.al1
        · exact hF4.acc1
    · repeat refine (readCov_skip' _ _ _ _ _ (by decide)).trans ?_
      refine ldD_cov _ 1 _ _ (x := accI _ _ _ 44 1) ?_ _
      refine accI_of (n := 43) (h := 1) ?_ ?_ ?_ ?_ ?_ ?_ ?_ ?_
      · exact Vb_of _ _ 43 1 0 _ (by decide +kernel)
      · exact Vb_of _ _ 43 1 1 _ (by decide +kernel)
      · exact Vb_of _ _ 43 1 2 _ (by decide +kernel)
      · repeat refine (readCov_skip' _ _ _ _ _ (by decide)).trans ?_
        refine ldP_cov _ 1 0 _ _ (x := pI _ _ 43 1) ?_ _
        refine pI_of (n := 43) (h := 1) ?_ ?_ ?_
        · refine mpI_on (n := 42) (h := 1) ?_ ?_ ?_
          · sl_unfold_run_names
            decide +kernel
          · decide
          · exact hF4.m1
        · exact hF4.cm1
        · exact hF4.s1
      · repeat refine (readCov_skip' _ _ _ _ _ (by decide)).trans ?_
        refine ldP_cov _ 1 1 _ _ (x := pI _ _ 43 1) ?_ _
        refine pI_of (n := 43) (h := 1) ?_ ?_ ?_
        · refine mpI_on (n := 42) (h := 1) ?_ ?_ ?_
          · sl_unfold_run_names
            decide +kernel
          · decide
          · exact hF4.m1
        · exact hF4.cm1
        · exact hF4.s1
      · repeat refine (readCov_skip' _ _ _ _ _ (by decide)).trans ?_
        refine ldP_cov _ 1 2 _ _ (x := pI _ _ 43 1) ?_ _
        refine pI_of (n := 43) (h := 1) ?_ ?_ ?_
        · refine mpI_on (n := 42) (h := 1) ?_ ?_ ?_
          · sl_unfold_run_names
            decide +kernel
          · decide
          · exact hF4.m1
        · exact hF4.cm1
        · exact hF4.s1
      · repeat refine (readCov_skip' _ _ _ _ _ (by decide)).trans ?_
        refine (readCov_hit _ _ _ _ _).trans ?_
        refine alI_of (n := 43) (h := 1) ?_ ?_
        · refine mpI_on (n := 42) (h := 1) ?_ ?_ ?_
          · sl_unfold_run_names
            decide +kernel
          · decide
          · exact hF4.m1
        · exact hF4.cm1
      · repeat refine (readCov_skip' _ _ _ _ _ (by decide)).trans ?_
        refine (readCov_hit _ _ _ _ _).trans ?_
        refine accI_of (n := 42) (h := 1) ?_ ?_ ?_ ?_ ?_ ?_ ?_ ?_
        · exact Vb_of _ _ 42 1 0 _ (by decide +kernel)
        · exact Vb_of _ _ 42 1 1 _ (by decide +kernel)
        · exact Vb_of _ _ 42 1 2 _ (by decide +kernel)
        · exact readAt_sub _ _ _ _ _ hF4.p1 ![0, 0, 0] (by decide) (by decide)
        · exact readAt_sub _ _ _ _ _ hF4.p1 ![0, 256, 0] (by decide) (by decide)
        · exact readAt_sub _ _ _ _ _ hF4.p1 ![0, 512, 0] (by decide) (by decide)
        · exact hF4.al1
        · exact hF4.acc1

end Cert.Proof.Attn

end
-- ==== Proof.Run.lean ====
/-
  The attention call from launch to end: at each grid point the body takes its three staged blocks to `outB` of them
  (`body`), so the pipeline's output array ends assembled from those blocks. Stated over any values, and so once for the
  kernel and for its ideal reading.
-/
module

public import proofs.«01_k».proof.Proof.Body
public import Idealize.ShloMosaic.Lib.Claim

@[expose] public section

set_option maxRecDepth 8192

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig Unit (Elt F) ℕ (UU nD τ) ℕ

variable (m : (ℓ : Loc nD τ sig) → Buf (Elt F) ℓ) (ρ : Dev nD → PrngReg)

/-- What the call's pipeline is claimed to do: each array as the call finds it; every input's staging buffer left as it
    was; the output's staging buffer left at the attention of the three staged blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outB (iblk m c 0 t) (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- Owning a memref that is all of its buffer is holding that buffer whole. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

/-- The body's triple on staged blocks: three inputs read, the output left at their attention, scratch returned. -/
theorem body_owns (c : Dev nD) (i : grid0.Coords)
    (arg3 : Memref sig .tc .vmem S1x16x256x256 .bf16) (harg3 : arg3.IsWhole) (arg4 : Memref sig .tc .vmem S1x8448x256 .bf16) (harg4 : arg4.IsWhole)
    (arg5 : Memref sig .tc .vmem S1x33x160x256 .bf16) (harg5 : arg5.IsWhole) (arg6 : Memref sig .tc .vmem S1x4096x128 .bf16) (harg6 : arg6.IsWhole)
    (x3 : S1x16x256x256.Idx → Elt F .bf16) (x4 : S1x8448x256.Idx → Elt F .bf16) (x5 : S1x33x160x256.Idx → Elt F .bf16) :
    iprop((Pipeline.ΦA spec0 c : sProp 𝕄) ∗ owns (c : Thread nD τ) arg3 fullShare x3 ∗ owns (c : Thread nD τ) arg4 fullShare x4
        ∗ owns (c : Thread nD τ) arg5 fullShare x5 ∗ (∃ x6, owns (c : Thread nD τ) arg6 fullShare x6))
    ⊢ wp frame (wpE (defs₀ (F := F)) Variants.none c none) Set.univ
      (cc0_attention i arg3 harg3 arg4 harg4 arg5 harg5 arg6 harg6 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _) (Memref.whole cc0_scratch6) (Memref.isWhole_whole _)
        (Memref.whole cc0_scratch7) (Memref.isWhole_whole _))
      (fun _ => iprop((Pipeline.ΦA spec0 c : sProp 𝕄) ∗ owns (c : Thread nD τ) arg3 fullShare x3 ∗ owns (c : Thread nD τ) arg4 fullShare x4
        ∗ owns (c : Thread nD τ) arg5 fullShare x5 ∗ owns (c : Thread nD τ) arg6 fullShare (outB x3 x4 x5))) := by
  unfold Pipeline.ΦA
  rw [scopedRest0_eq, owns_pt c arg3 harg3, owns_pt c arg4 harg4, owns_pt c arg5 harg5, owns_pt c arg6 harg6]
  simp only [owns_pt c arg6 harg6]
  iintro ⟨⟨⟨⟨%f7, H7⟩, ⟨%f8, H8⟩, ⟨%f9, H9⟩, ⟨%f10, H10⟩, ⟨%f11, H11⟩, ⟨%f12, H12⟩, ⟨%f13, H13⟩, ⟨%f14, H14⟩⟩, Hr⟩, ⟨%f3, %h3, H3⟩, ⟨%f4, %h4, H4⟩, ⟨%f5, %h5, H5⟩, ⟨%x6, %f6, %h6, H6⟩⟩
  iapply (wp_wand_r frame (wpE (defs₀ (F := F)) Variants.none (c : Thread nD τ) none) Set.univ)
  isplitl [H3 H4 H5 H6 H7 H8 H9 H10 H11 H12 H13 H14]
  · iapply (body c i arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f3 f4 f5 f6 f7 f8 f9 f10 f11 f12 f13 f14)
    isplitl [H6]; · iexact H6
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨%g7, %g8, %g9, %g10, %g11, %g12, %g13, %g14, %g6, H6, H3, H4, H5, H7, H8, H9, H10, H11, H12, H13, H14, %hout⟩
    isplitl [H7 H8 H9 H10 H11 H12 H13 H14 Hr]
    · isplitr [Hr]
      · isplitl [H7]; · iexists g7; iexact H7
        isplitl [H8]; · iexists g8; iexact H8
        isplitl [H9]; · iexists g9; iexact H9
        isplitl [H10]; · iexists g10; iexact H10
        isplitl [H11]; · iexists g11; iexact H11
        isplitl [H12]; · iexists g12; iexact H12
        isplitl [H13]; · iexists g13; iexact H13
        iexists g14; iexact H14
      iexact Hr
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    iexists g6
    isplitr
    · ipureintro; rw [hout, h3, h4, h5]
    iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0, after1, after2, after3]
  iintro ⟨HΦ, Ho, ⟨%d0, H0⟩, ⟨%d1, H1⟩, ⟨%d2, H2⟩, ⟨%d3, H3⟩⟩
  iapply (wp_wand_r frame (wpE (defs₀ (F := F)) Variants.none (c : Thread nD τ) none) Set.univ)
  isplitl [HΦ H0 H1 H2 H3]
  · iapply (body_owns c (grid0.coords t) _ _ _ _ _ _ _ _ (iblk m c 0 t) (iblk m c 1 t) (iblk m c 2 t))
    isplitl [HΦ]; · iexact HΦ
    isplitl [H0]; · iexact H0
    isplitl [H1]; · iexact H1
    isplitl [H2]; · iexact H2
    iexists _; iexact H3
  · iintro %_ ⟨HΦ, H0, H1, H2, H3⟩
    isplitl [HΦ]; · iexact HΦ
    isplitl [Ho]; · iexact Ho
    isplitl [H0]; · iexact H0
    isplitl [H1]; · iexact H1
    isplitl [H2]; · iexact H2
    iexact H3

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

/-- What the library asks of the body, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The launch: every weakly fair execution of the program ends, with every array of the call's pipeline at what the
    proof data say, every other array as the call found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as it began, and every semaphore counter at zero. -/
theorem frame_any : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Attn

end
-- ==== Proof.Host.lean ====
module

public import proofs.«01_k».proof.Proof.Gen.KernelIdeal.Frame
public import Idealize.ShloMosaic.Lib.StableHlo.ReadAt

/-! What the kernel's host operations leave in the three arrays the call reads. -/

@[expose] public section

noncomputable section

namespace Cert.Proof.Attn

open Cert.KernelIdeal Cert.KernelIdeal.Gen
open Idealize.ShloMosaic Idealize.ShloMosaic.TcCoe

variable {F : FTy → Type} [FloatOps F]

/-- The queries: heads padded to 128 features, transposed by token tile, scaled. -/
def hostQ (a0 : FVec F S8x8192x8x96 .f32) : FVec F S8x32x1024x256 .bf16 :=
  truncf .bf16 (mulf (transpose S8x32x1024x256 [0, 1, 3, 2] (shapeCast S8x32x256x1024
    (pad S8x8192x8x128 ![0, 0, 0, 0] ![0, 0, 0, 32] ![0, 0, 0, 0] a0 (sitofp .f32 (constantI S_ 32 0#32) : FVec F S_ .f32)
      pads_S8x8192x8x96_S8x8192x8x128_000_000_000_0320 h_S_) shapeCasts_S8x8192x8x128_S8x32x256x1024) transposes_S8x32x256x1024_S8x32x1024x256_0_1_3_2)
    (broadcastInDim S8x32x1024x256 ![] bcast_S_S8x32x1024x256 (Host.divf (constant S_ .f32 0x3DD105EC#32) (Host.log (constant S_ .f32 0x40000000#32))))
    : FVec F S8x32x1024x256 .f32) bitsLt_bf16_f32

/-- The keys: context first, heads padded to 128 features. -/
def hostK (a3 : FVec F S8x256x8x96 .f32) (a1 : FVec F S8x8192x8x96 .f32) : FVec F S8x8448x1024 .bf16 :=
  truncf .bf16 (shapeCast S8x8448x1024 (pad S8x8448x8x128 ![0, 0, 0, 0] ![0, 0, 0, 32] ![0, 0, 0, 0]
    (concatenate S8x8448x8x96 1 [⟨S8x256x8x96, a3⟩, ⟨S8x8192x8x96, a1⟩] concatenates_S8x256x8x96_S8x8192x8x96_S8x8448x8x96_d1 : FVec F S8x8448x8x96 .f32)
    (sitofp .f32 (constantI S_ 32 0#32) : FVec F S_ .f32)
    pads_S8x8448x8x96_S8x8448x8x128_000_000_000_0320 h_S_) shapeCasts_S8x8448x8x128_S8x8448x1024 : FVec F S8x8448x1024 .f32) bitsLt_bf16_f32

/-- The values: context first, a row of ones and fifteen of zeros after each head's 64, transposed by token tile. -/
def hostV (a4 : FVec F S8x256x8x64 .f32) (a2 : FVec F S8x8192x8x64 .f32) : FVec F S8x33x640x256 .bf16 :=
  truncf .bf16 (transpose S8x33x640x256 [0, 1, 3, 2] (shapeCast S8x33x256x640 (concatenate S8x8448x8x80 3
    [⟨S8x8448x8x64, (concatenate S8x8448x8x64 1 [⟨S8x256x8x64, a4⟩, ⟨S8x8192x8x64, a2⟩] concatenates_S8x256x8x64_S8x8192x8x64_S8x8448x8x64_d1 : FVec F S8x8448x8x64 .f32)⟩,
      ⟨S8x8448x8x1, (broadcastInDim S8x8448x8x1 ![] bcast_S_S8x8448x8x1 (constant S_ .f32 0x3F800000#32) : FVec F S8x8448x8x1 .f32)⟩,
      ⟨S8x8448x8x15, (broadcastInDim S8x8448x8x15 ![] bcast_S_S8x8448x8x15 (constant S_ .f32 0x00000000#32) : FVec F S8x8448x8x15 .f32)⟩]
    concatenates_S8x8448x8x64_S8x8448x8x1_S8x8448x8x15_S8x8448x8x80_d3) shapeCasts_S8x8448x8x80_S8x33x256x640)
    transposes_S8x33x256x640_S8x33x640x256_0_1_3_2 : FVec F S8x33x640x256 .f32) bitsLt_bf16_f32

variable (m : (ℓ : Loc nD τ sig) → Buf (Elt F) ℓ)

theorem V_v7 (c : Dev nD) : V m c main_v7 = hostQ (m ((c : Thread nD τ).loc main_arg0)) := by
  unfold V
  simp only [List.flatten_cons, List.flatten_nil, List.append_nil, List.cons_append, List.nil_append]
  after_results
  all_goals simp -implicitDefEqProofs only [StableHlo.TRef.toBuf, StableHlo.TRef.ofBuf, cast_cast, cast_eq]
  all_goals clean_types
  all_goals unfold hostQ
  all_goals rfl

theorem V_v11 (c : Dev nD) : V m c main_v11 = hostK (m ((c : Thread nD τ).loc main_arg3)) (m ((c : Thread nD τ).loc main_arg1)) := by
  unfold V
  simp only [List.flatten_cons, List.flatten_nil, List.append_nil, List.cons_append, List.nil_append]
  after_results
  all_goals simp -implicitDefEqProofs only [StableHlo.TRef.toBuf, StableHlo.TRef.ofBuf, cast_cast, cast_eq]
  all_goals clean_types
  all_goals unfold hostK
  all_goals rfl

theorem V_v18 (c : Dev nD) : V m c main_v18 = hostV (m ((c : Thread nD τ).loc main_arg4)) (m ((c : Thread nD τ).loc main_arg2)) := by
  unfold V
  simp only [List.flatten_cons, List.flatten_nil, List.append_nil, List.cons_append, List.nil_append]
  after_results
  all_goals simp -implicitDefEqProofs only [StableHlo.TRef.toBuf, StableHlo.TRef.ofBuf, cast_cast, cast_eq]
  all_goals clean_types
  all_goals unfold hostV
  all_goals rfl

end Cert.Proof.Attn

end
-- ==== Proof.HostVal.lean ====
module

public import proofs.«01_k».proof.Proof.Host
public import Idealize.ShloMosaic.Lib.Pointwise

/-! The kernel's host arrays read at an index, over the extended reals. -/

@[expose] public section

noncomputable section

namespace Cert.Proof.Attn

open Cert.KernelIdeal Cert.KernelIdeal.Gen
open Idealize.ShloMosaic

/-- Feature `d` of head `hd` of token `T` of an array of tokens; zero outside it. -/
def tok {N D : ℕ} (a : (⟨4, ![8, N, 8, D]⟩ : Shape).Idx → EReal) (b hd : Fin 8) (T d : ℕ) : EReal :=
  if h : T < N ∧ d < D then a (ix4 b ⟨T, h.1⟩ hd ⟨d, h.2⟩) else 0

/-- The query scale, over `log 2`. -/
def kap : EReal := Ideal.div (Ideal.ofBits .f32 0x3DD105EC#32) (Ideal.log (Ideal.ofBits .f32 0x40000000#32))

/-- Two stretches of tokens one after the other. -/
def cat (n : ℕ) (f g : ℕ → ℕ → EReal) (j d : ℕ) : EReal := if j < n then f j d else g (j - n) d

theorem tok_pos {N D : ℕ} (a : (⟨4, ![8, N, 8, D]⟩ : Shape).Idx → EReal) (b hd : Fin 8) (T d : ℕ) (h1 : T < N) (h2 : d < D) :
    tok a b hd T d = a (ix4 b ⟨T, h1⟩ hd ⟨d, h2⟩) := by
  unfold tok
  exact dif_pos ⟨h1, h2⟩

theorem tok_neg {N D : ℕ} (a : (⟨4, ![8, N, 8, D]⟩ : Shape).Idx → EReal) (b hd : Fin 8) (T d : ℕ) (h2 : ¬ d < D) :
    tok a b hd T d = 0 := by
  unfold tok
  exact dif_neg fun h => h2 h.2

theorem cat_lt (n : ℕ) (f g : ℕ → ℕ → EReal) (j d : ℕ) (h : j < n) : cat n f g j d = f j d := if_pos h

theorem cat_ge (n : ℕ) (f g : ℕ → ℕ → EReal) (j d : ℕ) (h : ¬ j < n) : cat n f g j d = g (j - n) d := if_neg h

theorem sitofp_zero : (FloatOps.sitofp FTy.f32 (0#32) : Ideal .f32) = (0 : EReal) := by
  show (((0#32 : BitVec 32).toInt : ℝ) : EReal) = 0
  simp

theorem trunc_at {s : Shape} (x : FVec Ideal s .f32) (h : FTy.bits .bf16 < FTy.bits .f32) (j : s.Idx) : (truncf .bf16 x h : FVec Ideal s .bf16) j = x j := rfl

theorem resh_q (x : FVec Ideal S8x8192x8x128 .f32) (h1) (h2) (b : Fin 8) (i : Fin 32) (e : Fin 1024) (l : Fin 256) :
    transpose S8x32x1024x256 [0, 1, 3, 2] (shapeCast S8x32x256x1024 x h1) h2 (ix4 b i e l)
      = x (ix4 b ⟨256 * i.val + l.val, by omega⟩ ⟨e.val / 128, by omega⟩ ⟨e.val % 128, by omega⟩) := by
  rw [transpose_apply _ _ _ _ (ix4 b i l e) (by intro a; fin_cases a <;> rfl)]
  refine shapeCast_apply _ _ _ _ ?_
  rw [Shape.rowMajor_val_four, Shape.rowMajor_val_four]
  simp
  omega

theorem scale_q (x : FVec Ideal S8x32x1024x256 .f32) (j : S8x32x1024x256.Idx) :
    (truncf .bf16 (mulf x (broadcastInDim S8x32x1024x256 ![] bcast_S_S8x32x1024x256 (Host.divf (constant S_ .f32 0x3DD105EC#32) (Host.log (constant S_ .f32 0x40000000#32))))
    : FVec Ideal S8x32x1024x256 .f32) bitsLt_bf16_f32 : FVec Ideal S8x32x1024x256 .bf16) j = x j * kap := by
  pointwise
  rfl

theorem pad_q (a0 : FVec Ideal S8x8192x8x96 .f32) (b : Fin 8) (T : Fin 8192) (h : Fin 8) (d : Fin 128) :
   pad S8x8192x8x128 ![0, 0, 0, 0] ![0, 0, 0, 32] ![0, 0, 0, 0] a0 (sitofp .f32 (constantI S_ 32 0#32) : FVec Ideal S_ .f32)
      pads_S8x8192x8x96_S8x8192x8x128_000_000_000_0320 h_S_ (ix4 b T h d) = tok a0 b h T.val d.val := by
  pointwise
  by_cases h2 : d.val < 96
  · rw [dif_pos h2, tok_pos a0 b h T.val d.val T.isLt h2]
  · rw [dif_neg h2, tok_neg a0 b h T.val d.val h2]
    exact sitofp_zero

theorem hostQ_apply (a0 : FVec Ideal S8x8192x8x96 .f32) (b : Fin 8) (i : Fin 32) (e : Fin 1024) (l : Fin 256) :
    hostQ a0 (ix4 b i e l) = tok a0 b ⟨e.val / 128, by omega⟩ (256 * i.val + l.val) (e.val % 128) * kap := by
  unfold hostQ
  rw [scale_q, resh_q, pad_q]

theorem resh_k (x : FVec Ideal S8x8448x8x128 .f32) (h1) (b : Fin 8) (j : Fin 8448) (e : Fin 1024) :
    shapeCast S8x8448x1024 x h1 (ix3 b j e) = x (ix4 b j ⟨e.val / 128, by omega⟩ ⟨e.val % 128, by omega⟩) := by
  refine shapeCast_apply _ _ _ _ ?_
  rw [Shape.rowMajor_val_three, Shape.rowMajor_val_four]
  simp
  omega

theorem rows_k (a3 : FVec Ideal S8x256x8x96 .f32) (a1 : FVec Ideal S8x8192x8x96 .f32) (b : Fin 8) (j : Fin 8448) (h : Fin 8) (d : Fin 96) :
    (concatenate S8x8448x8x96 1 [⟨S8x256x8x96, a3⟩, ⟨S8x8192x8x96, a1⟩] concatenates_S8x256x8x96_S8x8192x8x96_S8x8448x8x96_d1 : FVec Ideal S8x8448x8x96 .f32) (ix4 b j h d)
      = cat 256 (tok a3 b h) (tok a1 b h) j.val d.val := by
  have hj := j.isLt
  pointwise
  by_cases h2 : j.val < 256
  · rw [dif_pos h2, cat_lt _ _ _ _ _ h2, tok_pos a3 b h _ _ h2 d.isLt]
  · have h3 : j.val - 256 < 8192 := by omega
    rw [dif_neg h2, cat_ge _ _ _ _ _ h2, tok_pos a1 b h _ _ h3 d.isLt]

theorem pad_k (x : FVec Ideal S8x8448x8x96 .f32) (b : Fin 8) (j : Fin 8448) (h : Fin 8) (d : Fin 128) :
   pad S8x8448x8x128 ![0, 0, 0, 0] ![0, 0, 0, 32] ![0, 0, 0, 0] x (sitofp .f32 (constantI S_ 32 0#32) : FVec Ideal S_ .f32)
      pads_S8x8448x8x96_S8x8448x8x128_000_000_000_0320 h_S_ (ix4 b j h d) = if h2 : d.val < 96 then x (ix4 b j h ⟨d.val, h2⟩) else 0 := by
  pointwise
  by_cases h2 : d.val < 96
  · rw [dif_pos h2, dif_pos h2]
  · rw [dif_neg h2, dif_neg h2]
    exact sitofp_zero

theorem cat_tok_neg {N M : ℕ} (a : (⟨4, ![8, N, 8, 96]⟩ : Shape).Idx → EReal) (c : (⟨4, ![8, M, 8, 96]⟩ : Shape).Idx → EReal) (b hd : Fin 8) (n j d : ℕ) (h : ¬ d < 96) :
    cat n (tok a b hd) (tok c b hd) j d = 0 := by
  unfold cat
  rw [tok_neg _ _ _ _ _ h, tok_neg _ _ _ _ _ h, ite_self]

theorem hostK_apply (a3 : FVec Ideal S8x256x8x96 .f32) (a1 : FVec Ideal S8x8192x8x96 .f32) (b : Fin 8) (j : Fin 8448) (e : Fin 1024) :
    hostK a3 a1 (ix3 b j e) = cat 256 (tok a3 b ⟨e.val / 128, by omega⟩) (tok a1 b ⟨e.val / 128, by omega⟩) j.val (e.val % 128) := by
  unfold hostK
  rw [trunc_at, resh_k, pad_k]
  by_cases h2 : e.val % 128 < 96
  · rw [dif_pos h2, rows_k]
  · rw [dif_neg h2, cat_tok_neg _ _ _ _ _ _ _ h2]

theorem resh_v (x : FVec Ideal S8x8448x8x80 .f32) (h1) (h2) (b : Fin 8) (i : Fin 33) (d : Fin 640) (l : Fin 256) :
    transpose S8x33x640x256 [0, 1, 3, 2] (shapeCast S8x33x256x640 x h1) h2 (ix4 b i d l)
      = x (ix4 b ⟨256 * i.val + l.val, by omega⟩ ⟨d.val / 80, by omega⟩ ⟨d.val % 80, by omega⟩) := by
  rw [transpose_apply _ _ _ _ (ix4 b i l d) (by intro a; fin_cases a <;> rfl)]
  refine shapeCast_apply _ _ _ _ ?_
  rw [Shape.rowMajor_val_four, Shape.rowMajor_val_four]
  simp
  omega

theorem rows_v (a4 : FVec Ideal S8x256x8x64 .f32) (a2 : FVec Ideal S8x8192x8x64 .f32) (b : Fin 8) (j : Fin 8448) (h : Fin 8) (r : Fin 80) :
    (concatenate S8x8448x8x80 3
    [⟨S8x8448x8x64, (concatenate S8x8448x8x64 1 [⟨S8x256x8x64, a4⟩, ⟨S8x8192x8x64, a2⟩] concatenates_S8x256x8x64_S8x8192x8x64_S8x8448x8x64_d1 : FVec Ideal S8x8448x8x64 .f32)⟩,
      ⟨S8x8448x8x1, (broadcastInDim S8x8448x8x1 ![] bcast_S_S8x8448x8x1 (constant S_ .f32 0x3F800000#32) : FVec Ideal S8x8448x8x1 .f32)⟩,
      ⟨S8x8448x8x15, (broadcastInDim S8x8448x8x15 ![] bcast_S_S8x8448x8x15 (constant S_ .f32 0x00000000#32) : FVec Ideal S8x8448x8x15 .f32)⟩]
    concatenates_S8x8448x8x64_S8x8448x8x1_S8x8448x8x15_S8x8448x8x80_d3 : FVec Ideal S8x8448x8x80 .f32) (ix4 b j h r)
     = if r.val < 64 then cat 256 (tok a4 b h) (tok a2 b h) j.val r.val else if r.val = 64 then 1 else 0 := by
  have hj := j.isLt
  pointwise
  by_cases h1 : r.val < 64
  · rw [dif_pos h1, if_pos h1]
    by_cases h2 : j.val < 256
    · rw [dif_pos h2, cat_lt _ _ _ _ _ h2, tok_pos a4 b h _ _ h2 h1]
    · have h3 : j.val - 256 < 8192 := by omega
      rw [dif_neg h2, cat_ge _ _ _ _ _ h2, tok_pos a2 b h _ _ h3 h1]
  · rw [dif_neg h1, if_neg h1]
    by_cases h2 : r.val = 64
    · rw [dif_pos (by omega), if_pos h2]
    · rw [dif_neg (by omega), if_neg h2]

theorem hostV_apply (a4 : FVec Ideal S8x256x8x64 .f32) (a2 : FVec Ideal S8x8192x8x64 .f32) (b : Fin 8) (i : Fin 33) (d : Fin 640) (l : Fin 256) :
    hostV a4 a2 (ix4 b i d l) = if d.val % 80 < 64 then cat 256 (tok a4 b ⟨d.val / 80, by omega⟩) (tok a2 b ⟨d.val / 80, by omega⟩) (256 * i.val + l.val) (d.val % 80)
      else if d.val % 80 = 64 then 1 else 0 := by
  unfold hostV
  refine Eq.trans ?_ (rows_v a4 a2 b ⟨256 * i.val + l.val, by omega⟩ ⟨d.val / 80, by omega⟩ ⟨d.val % 80, by omega⟩)
  exact (trunc_at _ _ _).trans (resh_v _ _ _ b i d l)

end Cert.Proof.Attn

end
-- ==== Proof.Flash.lean ====
module

public import Idealize.ShloMosaic.PureOps.Ideal
public import Idealize.ShloMosaic.PureOps.Ideal.Laws
public import Mathlib.Analysis.SpecialFunctions.Pow.Real

/-! The online softmax over the extended reals: a running maximum, a running sum rescaled when the maximum moves, and one division at the end
    compute the softmax-weighted sum, for real scores and any values. -/

@[expose] public section

noncomputable section

namespace Cert.Proof.Flash

open Idealize.ShloMosaic

/-- The largest of the first `n` scores, `⊥` of none. -/
def mx (s : ℕ → EReal) (n : ℕ) : EReal := (Finset.range n).sup s

theorem mx_zero (s : ℕ → EReal) : mx s 0 = ⊥ := rfl

theorem mx_add (s : ℕ → EReal) (n k : ℕ) : mx s (n + k) = max (mx s n) (mx (fun r => s (n + r)) k) := by
  apply le_antisymm
  · refine Finset.sup_le fun j hj => ?_
    by_cases h : j < n
    · exact le_trans (Finset.le_sup (f := s) (Finset.mem_range.2 h)) (le_max_left _ _)
    · refine le_trans ?_ (le_max_right _ _)
      have := Finset.le_sup (f := fun r => s (n + r)) (Finset.mem_range.2 (show j - n < k by have := Finset.mem_range.1 hj; omega))
      rwa [show n + (j - n) = j by omega] at this
  · refine max_le (Finset.sup_mono (Finset.range_mono (by omega))) (Finset.sup_le fun j hj => ?_)
    exact Finset.le_sup (f := s) (Finset.mem_range.2 (by have := Finset.mem_range.1 hj; omega))

theorem mx_fold (s : ℕ → EReal) (n : ℕ) : (Finset.univ : Finset (Fin n)).fold max ⊥ (fun r => s r.val) = mx s n := by
  change (Finset.univ : Finset (Fin n)).sup (fun r => s r.val) = _
  apply le_antisymm
  · exact Finset.sup_le fun r _ => Finset.le_sup (f := s) (Finset.mem_range.2 r.isLt)
  · exact Finset.sup_le fun j hj => Finset.le_sup (f := fun r : Fin n => s r.val) (Finset.mem_univ ⟨j, Finset.mem_range.1 hj⟩)

/-- The largest of some real scores is one of them. -/
theorem mx_attained (s : ℕ → ℝ) (n : ℕ) (hn : 0 < n) :
    ∃ j < n, mx (fun i => (s i : EReal)) n = (s j : EReal) ∧ ∀ i < n, s i ≤ s j := by
  obtain ⟨j, hj, e⟩ := Finset.exists_mem_eq_sup (Finset.range n) ⟨0, Finset.mem_range.2 hn⟩ (fun i => (s i : EReal))
  refine ⟨j, Finset.mem_range.1 hj, e, fun i hi => ?_⟩
  have := Finset.le_sup (f := fun i => (s i : EReal)) (Finset.mem_range.2 hi)
  rw [e] at this
  exact EReal.coe_le_coe_iff.1 this

/-- A finite nonnegative factor distributes over any sum. -/
theorem mul_sum (a : ℝ) (ha : 0 ≤ a) (S : Finset ℕ) (f : ℕ → EReal) : (a : EReal) * ∑ j ∈ S, f j = ∑ j ∈ S, (a : EReal) * f j := by
  classical
  induction S using Finset.induction_on with
  | empty => simp
  | insert i S hi ih =>
    rw [Finset.sum_insert hi, Finset.sum_insert hi, ← ih,
      EReal.left_distrib_of_nonneg_of_ne_top (EReal.coe_nonneg.2 ha) (EReal.coe_ne_top a)]

theorem exp2_real (r : ℝ) : Ideal.exp2 (r : EReal) = (((2 : ℝ) ^ r : ℝ) : EReal) := Ideal.exp2_coe r

/-- The weighted sum of the first `n` values, relative to the largest score so far. -/
def wsum (s v : ℕ → EReal) (n : ℕ) : EReal := ∑ j ∈ Finset.range n, v j * Ideal.exp2 (s j - mx s n)

/-- One more chunk. -/
theorem wsum_add (s : ℕ → ℝ) (v : ℕ → EReal) (n k : ℕ) (hk : 0 < k) :
    Ideal.exp2 (mx (fun i => (s i : EReal)) n - mx (fun i => (s i : EReal)) (n + k)) * wsum (fun i => (s i : EReal)) v n
        + ∑ r ∈ Finset.range k, v (n + r) * Ideal.exp2 ((s (n + r) : EReal) - mx (fun i => (s i : EReal)) (n + k))
      = wsum (fun i => (s i : EReal)) v (n + k) := by
  obtain ⟨j, _, ej, _⟩ := mx_attained s (n + k) (by omega)
  have split : wsum (fun i => (s i : EReal)) v (n + k)
      = (∑ i ∈ Finset.range n, v i * Ideal.exp2 ((s i : EReal) - mx (fun i => (s i : EReal)) (n + k)))
        + ∑ r ∈ Finset.range k, v (n + r) * Ideal.exp2 ((s (n + r) : EReal) - mx (fun i => (s i : EReal)) (n + k)) := by
    unfold wsum; rw [Finset.sum_range_add]
  rw [split]; congr 1
  rcases Nat.eq_zero_or_pos n with rfl | hn
  · simp [wsum]
  · obtain ⟨i, _, ei, _⟩ := mx_attained s n hn
    unfold wsum
    rw [ej, ei, ← EReal.coe_sub, exp2_real, mul_sum _ (by positivity)]
    refine Finset.sum_congr rfl fun l _ => ?_
    rw [← EReal.coe_sub, ← EReal.coe_sub, exp2_real, exp2_real, mul_left_comm, ← EReal.coe_mul, ← Real.rpow_add (by norm_num),
      show s i - s j + (s l - s i) = s l - s j by ring]

/-- The first chunk does not see what the accumulator held. -/
theorem wsum_first (s : ℕ → ℝ) (v : ℕ → EReal) (a : EReal) (k : ℕ) (hk : 0 < k) :
    Ideal.exp2 (⊥ - mx (fun i => (s i : EReal)) k) * a
        + ∑ r ∈ Finset.range k, v r * Ideal.exp2 ((s r : EReal) - mx (fun i => (s i : EReal)) k)
      = wsum (fun i => (s i : EReal)) v k := by
  obtain ⟨j, _, ej, _⟩ := mx_attained s k hk
  rw [ej, EReal.bot_sub, show Ideal.exp2 ⊥ = 0 from rfl, zero_mul, zero_add]
  unfold wsum; rw [ej]

/-- A real sum, as an extended real. -/
theorem coe_sum (S : Finset ℕ) (f : ℕ → ℝ) : ((∑ j ∈ S, f j : ℝ) : EReal) = ∑ j ∈ S, (f j : EReal) := by
  classical
  induction S using Finset.induction_on with
  | empty => simp
  | insert i S hi ih => rw [Finset.sum_insert hi, Finset.sum_insert hi, EReal.coe_add, ih]

/-- What the softmax weighs: the values against the normalised exponentials. -/
def soft (x v : ℕ → EReal) (n : ℕ) : EReal :=
  ∑ j ∈ Finset.range n, v j * Ideal.div (Ideal.exp (x j - mx x n)) (∑ i ∈ Finset.range n, Ideal.exp (x i - mx x n))

/-- A sum over two stretches of keys in either order. -/
theorem sum_swap (a b : ℕ) (f g : ℕ → EReal) (h1 : ∀ j < a, f j = g (b + j)) (h2 : ∀ j < b, f (a + j) = g j) :
    ∑ j ∈ Finset.range (a + b), f j = ∑ j ∈ Finset.range (b + a), g j := by
  rw [Finset.sum_range_add, Finset.sum_range_add, add_comm]
  congr 1
  · exact Finset.sum_congr rfl fun j hj => h2 j (Finset.mem_range.1 hj)
  · exact Finset.sum_congr rfl fun j hj => h1 j (Finset.mem_range.1 hj)

/-- The kernel's quotient is the softmax-weighted sum: base-2 scores that are the natural ones over `log 2`, in the other order of the two stretches,
    and a row of ones for the denominator. -/
theorem quo_eq_soft (a b : ℕ) (hab : 0 < a + b) (s x : ℕ → ℝ) (v w one : ℕ → EReal)
    (s1 : ∀ j < a, s j = x (b + j) / Real.log 2) (s2 : ∀ j < b, s (a + j) = x j / Real.log 2)
    (v1 : ∀ j < a, v j = w (b + j)) (v2 : ∀ j < b, v (a + j) = w j) (h1 : ∀ j < a + b, one j = 1) :
    Ideal.div (wsum (fun i => (s i : EReal)) v (a + b)) (wsum (fun i => (s i : EReal)) one (a + b)) = soft (fun i => (x i : EReal)) w (b + a) := by
  have l2 : 0 < Real.log 2 := Real.log_pos (by norm_num)
  obtain ⟨j, hj, ej, mj⟩ := mx_attained s (a + b) hab
  obtain ⟨i, hi, ei, mi⟩ := mx_attained x (b + a) (by omega)
  -- the two maxima agree
  have es : ∀ l < b + a, ∃ l' < a + b, s l' = x l / Real.log 2 := by
    intro l hl
    by_cases h : l < b
    · exact ⟨a + l, by omega, s2 l h⟩
    · exact ⟨l - b, by omega, by rw [s1 (l - b) (by omega), show b + (l - b) = l by omega]⟩
  have ex : ∀ l < a + b, ∃ l' < b + a, s l = x l' / Real.log 2 := by
    intro l hl
    by_cases h : l < a
    · exact ⟨b + l, by omega, s1 l h⟩
    · exact ⟨l - a, by omega, by rw [← s2 (l - a) (by omega), show a + (l - a) = l by omega]⟩
  have em : s j = x i / Real.log 2 := by
    apply le_antisymm
    · obtain ⟨l, hl, e⟩ := ex j hj
      rw [e]; exact div_le_div_of_nonneg_right (mi l hl) l2.le
    · obtain ⟨l, hl, e⟩ := es i hi
      rw [← e]; exact mj l hl
  -- the weights, as reals
  have key : ∀ y : ℝ, (2 : ℝ) ^ (y / Real.log 2 - s j) = Real.exp (y - x i) := by
    intro y
    rw [em, Real.rpow_def_of_pos (by norm_num), ← sub_div, mul_div_cancel₀ _ l2.ne']
  have num : wsum (fun i => (s i : EReal)) v (a + b) = ∑ l ∈ Finset.range (b + a), w l * ((Real.exp (x l - x i) : ℝ) : EReal) := by
    unfold wsum; rw [ej]
    refine sum_swap a b _ _ (fun l hl => ?_) fun l hl => ?_
    · rw [v1 l hl, ← EReal.coe_sub, exp2_real, s1 l hl, key]
    · rw [v2 l hl, ← EReal.coe_sub, exp2_real, s2 l hl, key]
  have den : wsum (fun i => (s i : EReal)) one (a + b) = ((∑ l ∈ Finset.range (b + a), Real.exp (x l - x i) : ℝ) : EReal) := by
    rw [coe_sum]; unfold wsum; rw [ej]
    refine sum_swap a b _ _ (fun l hl => ?_) fun l hl => ?_
    · rw [h1 l (by omega), one_mul, ← EReal.coe_sub, exp2_real, s1 l hl, key]
    · rw [h1 (a + l) (by omega), one_mul, ← EReal.coe_sub, exp2_real, s2 l hl, key]
  have pos : 0 < ∑ l ∈ Finset.range (b + a), Real.exp (x l - x i) :=
    Finset.sum_pos (fun l _ => Real.exp_pos _) ⟨0, Finset.mem_range.2 (by omega)⟩
  have hexp : ∀ l, Ideal.exp ((x l : EReal) - (x i : EReal)) = ((Real.exp (x l - x i) : ℝ) : EReal) := fun l => by
    rw [← EReal.coe_sub, Ideal.exp_coe]
  unfold soft
  simp only [ei, hexp]
  rw [num, den, ← coe_sum, Ideal.div_coe pos.ne', mul_comm, mul_sum _ (by positivity)]
  refine Finset.sum_congr rfl fun l _ => ?_
  rw [Ideal.div_coe pos.ne', mul_left_comm, mul_comm ((1 / _ : ℝ) : EReal)]

end Cert.Proof.Flash

end
-- ==== Proof.HostAt.lean ====
module

public import proofs.«01_k».proof.Proof.HostVal
public import proofs.«01_k».proof.Proof.Flash

/-! The kernel's host arrays at an index given by its coordinates, and the query scale as a real number. -/

@[expose] public section

noncomputable section

namespace Cert.Proof.Attn

open Cert.KernelIdeal Cert.KernelIdeal.Gen
open Idealize.ShloMosaic

theorem hostQ_at (a0 : FVec Ideal S8x8192x8x96 .f32) (k : S8x32x1024x256.Idx) (b hd : Fin 8) (T d : ℕ)
    (h0 : (k 0).val = b.val) (h1 : 256 * (k 1).val + (k 3).val = T) (h2 : (k 2).val / 128 = hd.val) (h3 : (k 2).val % 128 = d) :
    hostQ a0 k = tok a0 b hd T d * kap := by
  have ek : k = ix4 (k 0) (k 1) (k 2) (k 3) := funext fun a => by fin_cases a <;> rfl
  rw [ek]
  refine (hostQ_apply a0 (k 0) (k 1) (k 2) (k 3)).trans ?_
  have eb : k 0 = b := Fin.ext h0
  have eh : (⟨(k 2).val / 128, by have : (k 2).val < 1024 := (k 2).isLt; omega⟩ : Fin 8) = hd := Fin.ext h2
  subst h1 h3
  rw [eh]
  exact congrArg (fun z => tok a0 z hd _ _ * kap) eb

theorem hostK_at (a3 : FVec Ideal S8x256x8x96 .f32) (a1 : FVec Ideal S8x8192x8x96 .f32) (k : S8x8448x1024.Idx) (b hd : Fin 8) (j d : ℕ)
    (h0 : (k 0).val = b.val) (h1 : (k 1).val = j) (h2 : (k 2).val / 128 = hd.val) (h3 : (k 2).val % 128 = d) :
    hostK a3 a1 k = cat 256 (tok a3 b hd) (tok a1 b hd) j d := by
  have ek : k = ix3 (k 0) (k 1) (k 2) := funext fun a => by fin_cases a <;> rfl
  rw [ek]
  refine (hostK_apply a3 a1 (k 0) (k 1) (k 2)).trans ?_
  have eb : k 0 = b := Fin.ext h0
  have eh : (⟨(k 2).val / 128, by have : (k 2).val < 1024 := (k 2).isLt; omega⟩ : Fin 8) = hd := Fin.ext h2
  subst h1 h3
  rw [eh]
  exact congrArg (fun z => cat 256 (tok a3 z hd) (tok a1 z hd) _ _) eb

theorem hostV_at (a4 : FVec Ideal S8x256x8x64 .f32) (a2 : FVec Ideal S8x8192x8x64 .f32) (k : S8x33x640x256.Idx) (b hd : Fin 8) (j r : ℕ)
    (h0 : (k 0).val = b.val) (h1 : 256 * (k 1).val + (k 3).val = j) (h2 : (k 2).val / 80 = hd.val) (h3 : (k 2).val % 80 = r) :
    hostV a4 a2 k = if r < 64 then cat 256 (tok a4 b hd) (tok a2 b hd) j r else if r = 64 then 1 else 0 := by
  have ek : k = ix4 (k 0) (k 1) (k 2) (k 3) := funext fun a => by fin_cases a <;> rfl
  rw [ek]
  refine (hostV_apply a4 a2 (k 0) (k 1) (k 2) (k 3)).trans ?_
  have eb : k 0 = b := Fin.ext h0
  have eh : (⟨(k 2).val / 80, by have : (k 2).val < 640 := (k 2).isLt; omega⟩ : Fin 8) = hd := Fin.ext h2
  subst h1 h3
  rw [eh]
  exact congrArg (fun z => if (k 2).val % 80 < 64 then cat 256 (tok a4 z hd) (tok a2 z hd) _ _ else if (k 2).val % 80 = 64 then 1 else 0) eb

/-- The query scale as a real number. -/
def qsc : ℝ := (Ideal.ofBits .f32 0x3DD105EC#32).toReal

theorem qsc_eq : Ideal.ofBits .f32 0x3DD105EC#32 = (qsc : EReal) := by
  unfold qsc
  simp [Ideal.ofBits, Ideal.ieee, -EReal.coe_mul]

theorem two_eq : Ideal.ofBits .f32 0x40000000#32 = ((2 : ℝ) : EReal) := by
  simp [Ideal.ofBits, Ideal.ieee, -EReal.coe_mul]
  norm_num

theorem kap_eq : kap = ((qsc / Real.log 2 : ℝ) : EReal) := by
  have l2 : Real.log 2 ≠ 0 := (Real.log_pos (by norm_num)).ne'
  have e : Ideal.log ((2 : ℝ) : EReal) = ((Real.log 2 : ℝ) : EReal) := by
    show (if (2 : ℝ) ≤ 0 then (⊥ : EReal) else ((Real.log 2 : ℝ) : EReal)) = _
    rw [if_neg (by norm_num)]
  unfold kap
  rw [qsc_eq, two_eq, e, Ideal.div_coe l2, ← EReal.coe_mul]
  congr 1
  ring

/-- A finite entry is its real part. -/
theorem tok_real {N D : ℕ} (a : (⟨4, ![8, N, 8, D]⟩ : Shape).Idx → EReal) (ha : ∀ k, a k ≠ ⊤ ∧ a k ≠ ⊥) (b hd : Fin 8) (T d : ℕ) :
    tok a b hd T d = ((tok a b hd T d).toReal : EReal) := by
  refine (EReal.coe_toReal ?_ ?_).symm
  · unfold tok
    split_ifs with h
    · exact (ha _).1
    · exact EReal.zero_ne_top
  · unfold tok
    split_ifs with h
    · exact (ha _).2
    · exact EReal.zero_ne_bot

/-- The kernel's score is the reference's over `log 2`: real sums, the padding dropped. -/
theorem score_eq (f q : ℕ → ℝ) (fE qE : ℕ → EReal) (hf : ∀ e, fE e = (f e : EReal)) (hq : ∀ e, qE e = (q e : EReal)) (h0 : ∀ e, ¬ e < 96 → q e = 0) :
    (∑ e : Fin 128, fE e.val * (qE e.val * kap)) = (((∑ e ∈ Finset.range 96, q e * f e) * qsc / Real.log 2 : ℝ) : EReal) := by
  have e1 : (∑ e : Fin 128, fE e.val * (qE e.val * kap)) = ∑ e ∈ Finset.range 128, ((f e * (q e * (qsc / Real.log 2)) : ℝ) : EReal) := by
    rw [Finset.sum_range]
    refine Finset.sum_congr rfl fun e _ => ?_
    rw [hf, hq, kap_eq, ← EReal.coe_mul, ← EReal.coe_mul]
  have e2 : ∑ e ∈ Finset.range 32, f (96 + e) * (q (96 + e) * (qsc / Real.log 2)) = 0 :=
    Finset.sum_eq_zero fun e _ => by rw [h0 _ (by omega)]; ring
  rw [e1, ← Flash.coe_sum, show 128 = 96 + 32 from rfl, Finset.sum_range_add, e2, add_zero, Finset.sum_mul, Finset.sum_div]
  congr 1
  exact Finset.sum_congr rfl fun e _ => by ring

/-- The reference's score as a real number. -/
theorem score_ref (f q : ℕ → ℝ) (fE qE : ℕ → EReal) (hf : ∀ e, fE e = (f e : EReal)) (hq : ∀ e, qE e = (q e : EReal)) :
    (∑ e : Fin 96, qE e.val * fE e.val) * Ideal.ofBits .f32 0x3DD105EC#32 = (((∑ e ∈ Finset.range 96, q e * f e) * qsc : ℝ) : EReal) := by
  rw [EReal.coe_mul, Flash.coe_sum, qsc_eq, Finset.sum_range]
  congr 1
  exact Finset.sum_congr rfl fun e _ => by rw [hf, hq, ← EReal.coe_mul]

end Cert.Proof.Attn

end
-- ==== Proof.Point1.lean ====
module

public import proofs.«01_k».proof.Proof.Model
public import Idealize.ShloMosaic.Lib.Pointwise

/-! The pieces of the kernel's arithmetic read at an index, over the extended reals. -/

@[expose] public section

noncomputable section

namespace Cert.Proof.Attn

open Cert.KernelIdeal Cert.KernelIdeal.Gen
open Idealize.ShloMosaic

/-- A window read at an index. -/
theorem window_apply {s : Shape} {α : Type} (x : s.Idx → α) (off size : Fin s.rank → ℕ) (inb : ∀ a, off a + size a ≤ s.size a)
    (z : (Rect.unit off size inb).shape.Idx) (k : s.Idx) (hk : ∀ a, (k a).val = off a + (z a).val) : VecWindow.window x off size inb z = x k := by
  unfold VecWindow.window
  refine congrArg x (funext fun a => Fin.ext ?_)
  rw [hk a, Rect.emb_apply]
  show off a + 1 * (z a : ℕ) = _
  omega

theorem neg_inf : Ideal.ofBits .f32 0xFF800000#32 = ⊥ := by
  simp [Ideal.ofBits, Ideal.ieee]

/-- A score is the product of a key row and a query column. -/
theorem scoreV_apply (vK : Vec Ideal S1x768x128 .bf16) (q0 q1 q2 q3 : Vec Ideal S1x1x128x256 .bf16) (g : Fin 128 → EReal) (r : Fin 768) (c : Fin 1024)
    (h0 : ∀ h : c.val < 256, ∀ e, q0 (ix4 0 0 e ⟨c.val, h⟩) = g e)
    (h1 : ∀ h : c.val - 256 < 256, 256 ≤ c.val → ∀ e, q1 (ix4 0 0 e ⟨c.val - 256, h⟩) = g e)
    (h2 : ∀ h : c.val - 512 < 256, 512 ≤ c.val → ∀ e, q2 (ix4 0 0 e ⟨c.val - 512, h⟩) = g e)
    (h3 : ∀ h : c.val - 768 < 256, 768 ≤ c.val → ∀ e, q3 (ix4 0 0 e ⟨c.val - 768, h⟩) = g e) :
    scoreV vK q0 q1 q2 q3 (ix2 r c) = ∑ e : Fin 128, vK (ix3 0 r e) * g e := by
  pointwise [scoreV]
  refine Finset.sum_congr rfl fun e _ => congrArg _ ?_
  by_cases a0 : c.val < 256
  · exact (dif_pos a0).trans (h0 a0 e)
  refine (dif_neg a0).trans ?_
  by_cases a1 : c.val - 256 < 256
  · exact (dif_pos a1).trans (h1 a1 (by omega) e)
  refine (dif_neg a1).trans ?_
  by_cases a2 : c.val - 256 - 256 < 256
  · refine (dif_pos a2).trans (Eq.trans ?_ (h2 (by omega) (by omega) e))
    exact congrArg (fun z => q2 (ix4 0 0 e z)) (Fin.ext (by simp only []; omega))
  · refine (dif_neg a2).trans (Eq.trans ?_ (h3 (by omega) (by omega) e))
    exact congrArg (fun z => q3 (ix4 0 0 e z)) (Fin.ext (by simp only []; omega))

/-- A block of values against a block of weights. -/
theorem pvV_apply (v : Vec Ideal S1x1x80x256 .bf16) (p : Vec Ideal S1x256x1024 .bf16) (d : Fin 80) (c : Fin 1024) :
    pvV v p (ix2 d c) = ∑ r : Fin 256, v (ix4 0 0 d r) * p (ix3 0 r c) := by
  pointwise [pvV]

/-- The new running maximum. -/
theorem mNewV_apply (mp : FVec Ideal S1x1024 .f32) (cm : Vec Ideal S1x1x1x1024 .f32) (c : Fin 1024) :
    mNewV mp cm (ix2 0 c) = max (mp (ix2 0 c)) (cm (ix4 0 0 0 c)) := by
  pointwise [mNewV]

/-- The chunk's largest score of each query. -/
theorem cmaxS_apply (vK : Vec Ideal S1x768x128 .bf16) (q0 q1 q2 q3 : Vec Ideal S1x1x128x256 .bf16) (c : Fin 1024) :
    cmaxS vK q0 q1 q2 q3 (ix4 0 0 0 c) = (Finset.univ : Finset (Fin 768)).fold max ⊥ fun r => scoreV vK q0 q1 q2 q3 (ix2 r c) := by
  pointwise [cmaxS]
  rw [neg_inf]

/-- The factor by which the accumulator is rescaled. -/
theorem alSt_apply (mp : FVec Ideal S1x1024 .f32) (cm : Vec Ideal S1x1x1x1024 .f32) (c : Fin 1024) :
    alSt mp cm (ix4 0 0 0 c) = Ideal.exp2 (mp (ix2 0 c) - mNewV mp cm (ix2 0 c)) := by
  pointwise [alSt]
  rfl

/-- A weight. -/
theorem pSt_apply (mp : FVec Ideal S1x1024 .f32) (cm : Vec Ideal S1x1x1x1024 .f32) (s : Vec Ideal S1x768x1024 .f32) (r : Fin 768) (c : Fin 1024) :
    pSt mp cm s (ix3 0 r c) = Ideal.exp2 (s (ix3 0 r c) - mNewV mp cm (ix2 0 c)) := by
  pointwise [pSt]
  rfl

/-- The accumulator, rescaled, plus three blocks' products. -/
theorem accSt_apply (v0 v1 v2 : Vec Ideal S1x1x80x256 .bf16) (p0 p1 p2 : Vec Ideal S1x256x1024 .bf16) (al : Vec Ideal S1x1x1x1024 .f32)
    (acc : Vec Ideal S1x80x1024 .f32) (d : Fin 80) (c : Fin 1024) :
    accSt v0 v1 v2 p0 p1 p2 al acc (ix3 0 d c)
      = al (ix4 0 0 0 c) * acc (ix3 0 d c) + (pvV v0 p0 (ix2 d c) + pvV v1 p1 (ix2 d c) + pvV v2 p2 (ix2 d c)) := by
  pointwise [accSt]

/-- A quotient by the denominator row. -/
theorem quoV_apply (n : Vec Ideal S1x64x1024 .f32) (d : Vec Ideal S1x1x1024 .f32) (r : Fin 64) (c : Fin 1024) :
    quoV n d (ix2 r c) = Ideal.div (n (ix3 0 r c)) (d (ix3 0 0 c)) := by
  pointwise [quoV]

/-- The output tile is the two heads' quotients side by side, transposed. -/
theorem finSt_apply (n0 : Vec Ideal S1x64x1024 .f32) (d0 : Vec Ideal S1x1x1024 .f32) (n1 : Vec Ideal S1x64x1024 .f32) (d1 : Vec Ideal S1x1x1024 .f32)
    (c : Fin 1024) (l : Fin 128) :
    finSt n0 d0 n1 d1 (ix3 0 c l) = if h : l.val < 64 then quoV n0 d0 (ix2 ⟨l.val, h⟩ c) else quoV n1 d1 (ix2 ⟨l.val - 64, by omega⟩ c) := by
  pointwise [finSt]

end Cert.Proof.Attn

end
-- ==== Proof.Point2.lean ====
module

public import proofs.«01_k».proof.Proof.Point1
public import proofs.«01_k».proof.Proof.Flash

/-! The kernel's recursion over work items, read at a query and a head, is the online softmax's. The blocks are given by functions of the token and
    the feature: `QF t e`, `KF j e`, `VF j d`. -/

@[expose] public section

noncomputable section

namespace Cert.Proof.Attn

open Cert.KernelIdeal Cert.KernelIdeal.Gen
open Idealize.ShloMosaic

/-- What the three blocks of a grid point hold. -/
structure Reads (xq : QB Ideal) (xk : KB Ideal) (xv : VB Ideal) (QF KF VF : ℕ → ℕ → EReal) : Prop where
  q : ∀ (i : Fin 16) (e : Fin 256) (l : Fin 256), xq (ix4 0 i e l) = QF (256 * i.val + l.val) e.val
  k : ∀ (j : Fin 8448) (e : Fin 256), xk (ix3 0 j e) = KF j.val e.val
  v : ∀ (i : Fin 33) (d : Fin 160) (l : Fin 256), xv (ix4 0 i d l) = VF (256 * i.val + l.val) d.val

/-- The score of query `t` and key `j`, head `h`. -/
def sc (QF KF : ℕ → ℕ → EReal) (h : Fin 2) (t j : ℕ) : EReal := ∑ e : Fin 128, KF j (128 * h.val + e.val) * QF t (128 * h.val + e.val)

variable {xq : QB Ideal} {xk : KB Ideal} {xv : VB Ideal} {QF KF VF : ℕ → ℕ → EReal}

theorem Kb_apply (H : Reads xq xk xv QF KF VF) (n : ℕ) (h : Fin 2) (r : Fin 768) (e : Fin 128) :
    Kb xk n h (ix3 0 r e) = KF (768 * (n % 11) + r.val) (128 * h.val + e.val) := by
  have := mod11 n
  refine Eq.trans ?_ (H.k ⟨768 * (n % 11) + r.val, by omega⟩ ⟨128 * h.val + e.val, by omega⟩)
  exact window_apply _ _ _ _ _ _ fun a => by fin_cases a <;> simp

theorem Qb_apply (H : Reads xq xk xv QF KF VF) (n : ℕ) (hn : n < 44) (h : Fin 2) (j : Fin 4) (e : Fin 128) (l : Fin 256) :
    Qb xq n h j (ix4 0 0 e l) = QF (1024 * (n / 11) + 256 * j.val + l.val) (128 * h.val + e.val) := by
  have hd : (n / 11) % 4 = n / 11 := by omega
  have e1 := H.q ⟨4 * ((n / 11) % 4) + j.val, by omega⟩ ⟨128 * h.val + e.val, by omega⟩ l
  refine Eq.trans ?_ (e1.trans ?_)
  · exact window_apply _ _ _ _ _ _ fun a => by fin_cases a <;> simp
  · congr 1; simp only [hd]; omega

theorem Vb_apply (H : Reads xq xk xv QF KF VF) (n : ℕ) (h : Fin 2) (j : Fin 3) (d : Fin 80) (l : Fin 256) :
    Vb xv n h j (ix4 0 0 d l) = VF (768 * (n % 11) + 256 * j.val + l.val) (80 * h.val + d.val) := by
  have := mod11 n
  have e1 := H.v ⟨3 * (n % 11) + j.val, by omega⟩ ⟨80 * h.val + d.val, by omega⟩ l
  refine Eq.trans ?_ (e1.trans ?_)
  · exact window_apply _ _ _ _ _ _ fun a => by fin_cases a <;> simp
  · congr 1; simp only []; omega

theorem scoreI_apply (H : Reads xq xk xv QF KF VF) (n : ℕ) (hn : n < 44) (h : Fin 2) (r : Fin 768) (c : Fin 1024) :
    scoreV (Kb xk n h) (Qb xq n h 0) (Qb xq n h 1) (Qb xq n h 2) (Qb xq n h 3) (ix2 r c)
      = sc QF KF h (1024 * (n / 11) + c.val) (768 * (n % 11) + r.val) := by
  rw [scoreV_apply _ _ _ _ _ (fun e => QF (1024 * (n / 11) + c.val) (128 * h.val + e.val)) r c]
  · unfold sc
    exact Finset.sum_congr rfl fun e _ => by rw [Kb_apply H]
  · intro hc e; rw [Qb_apply H n hn]; simp
  · intro hc hl e; rw [Qb_apply H n hn]; congr 1; simp; omega
  · intro hc hl e; rw [Qb_apply H n hn]; congr 1; simp; omega
  · intro hc hl e; rw [Qb_apply H n hn]; congr 1; simp; omega

theorem sI_apply (H : Reads xq xk xv QF KF VF) (n : ℕ) (hn : n < 44) (h : Fin 2) (r : Fin 768) (c : Fin 1024) :
    sI xq xk n h (ix3 0 r c) = sc QF KF h (1024 * (n / 11) + c.val) (768 * (n % 11) + r.val) := by
  rw [← scoreI_apply H n hn]
  pointwise [sI, scoreS]

theorem cmI_apply (H : Reads xq xk xv QF KF VF) (n : ℕ) (hn : n < 44) (h : Fin 2) (c : Fin 1024) :
    cmI xq xk n h (ix4 0 0 0 c) = Flash.mx (fun r => sc QF KF h (1024 * (n / 11) + c.val) (768 * (n % 11) + r)) 768 := by
  unfold cmI
  rw [cmaxS_apply, ← Flash.mx_fold]
  exact congrArg (fun f => Finset.univ.fold max ⊥ f) (funext fun r => scoreI_apply H n hn h r c)

theorem mpI_apply (H : Reads xq xk xv QF KF VF) (h : Fin 2) (c : Fin 1024) : ∀ n, n < 44 →
    mpI xq xk n h (ix2 0 c) = Flash.mx (sc QF KF h (1024 * (n / 11) + c.val)) (768 * (n % 11))
  | 0, _ => neg_inf
  | n + 1, hn => by
    unfold mpI
    split
    · next h0 => rw [h0]; exact neg_inf
    · next h0 =>
      have ih := mpI_apply H h c n (by omega)
      have e1 : mLd (mSt (mpI xq xk n h) (cmI xq xk n h)) (ix2 0 c) = mNewV (mpI xq xk n h) (cmI xq xk n h) (ix2 0 c) := by
        pointwise [mLd, mSt]
      rw [e1, mNewV_apply, ih, cmI_apply H n (by omega), show (n + 1) / 11 = n / 11 by omega, show 768 * ((n + 1) % 11) = 768 * (n % 11) + 768 by omega,
        Flash.mx_add]

theorem mNewI_apply (H : Reads xq xk xv QF KF VF) (n : ℕ) (hn : n < 44) (h : Fin 2) (c : Fin 1024) :
    mNewV (mpI xq xk n h) (cmI xq xk n h) (ix2 0 c) = Flash.mx (sc QF KF h (1024 * (n / 11) + c.val)) (768 * (n % 11) + 768) := by
  rw [mNewV_apply, mpI_apply H h c n hn, cmI_apply H n hn, Flash.mx_add]

theorem alI_apply (H : Reads xq xk xv QF KF VF) (n : ℕ) (hn : n < 44) (h : Fin 2) (c : Fin 1024) :
    alI xq xk n h (ix4 0 0 0 c) = Ideal.exp2 (Flash.mx (sc QF KF h (1024 * (n / 11) + c.val)) (768 * (n % 11))
      - Flash.mx (sc QF KF h (1024 * (n / 11) + c.val)) (768 * (n % 11) + 768)) := by
  unfold alI
  rw [alSt_apply, mNewI_apply H n hn, mpI_apply H h c n hn]

theorem pI_apply (H : Reads xq xk xv QF KF VF) (n : ℕ) (hn : n < 44) (h : Fin 2) (r : Fin 768) (c : Fin 1024) :
    pI xq xk n h (ix3 0 r c) = Ideal.exp2 (sc QF KF h (1024 * (n / 11) + c.val) (768 * (n % 11) + r.val)
      - Flash.mx (sc QF KF h (1024 * (n / 11) + c.val)) (768 * (n % 11) + 768)) := by
  unfold pI
  rw [pSt_apply, mNewI_apply H n hn, sI_apply H n hn]

/-- A stretch of 256 keys of the chunk. -/
theorem pvI_apply (H : Reads xq xk xv QF KF VF) (n : ℕ) (hn : n < 44) (h : Fin 2) (j : Fin 3) (d : Fin 80) (c : Fin 1024) :
    pvV (Vb xv n h j) (p256 (pI xq xk n h) j) (ix2 d c)
      = ∑ r ∈ Finset.range 256, VF (768 * (n % 11) + (256 * j.val + r)) (80 * h.val + d.val)
          * Ideal.exp2 (sc QF KF h (1024 * (n / 11) + c.val) (768 * (n % 11) + (256 * j.val + r))
            - Flash.mx (sc QF KF h (1024 * (n / 11) + c.val)) (768 * (n % 11) + 768)) := by
  rw [pvV_apply, Finset.sum_range]
  refine Finset.sum_congr rfl fun r _ => ?_
  have e1 : p256 (pI xq xk n h) j (ix3 0 r c) = pI xq xk n h (ix3 0 ⟨256 * j.val + r.val, by omega⟩ c) := by
    exact window_apply _ _ _ _ _ _ fun a => by fin_cases a <;> simp
  rw [Vb_apply H, e1, pI_apply H n hn, Nat.add_assoc]

/-- One step of the accumulator. -/
theorem accI_succ_apply (H : Reads xq xk xv QF KF VF) (n : ℕ) (hn : n < 44) (h : Fin 2) (d : Fin 80) (c : Fin 1024) :
    accI xq xk xv (n + 1) h (ix3 0 d c)
      = Ideal.exp2 (Flash.mx (sc QF KF h (1024 * (n / 11) + c.val)) (768 * (n % 11))
          - Flash.mx (sc QF KF h (1024 * (n / 11) + c.val)) (768 * (n % 11) + 768)) * accI xq xk xv n h (ix3 0 d c)
        + ∑ r ∈ Finset.range 768, VF (768 * (n % 11) + r) (80 * h.val + d.val)
          * Ideal.exp2 (sc QF KF h (1024 * (n / 11) + c.val) (768 * (n % 11) + r)
            - Flash.mx (sc QF KF h (1024 * (n / 11) + c.val)) (768 * (n % 11) + 768)) := by
  rw [accI, accSt_apply, alI_apply H n hn, pvI_apply H n hn, pvI_apply H n hn, pvI_apply H n hn,
    show (768 : ℕ) = 256 + 256 + 256 from rfl, Finset.sum_range_add, Finset.sum_range_add]
  simp

/-- The accumulator after `n` items, `n` not the start of a tile: the weighted sum of the tile's keys so far. -/
theorem accI_apply (H : Reads xq xk xv QF KF VF) (h : Fin 2) (d : Fin 80) (c : Fin 1024) (t : ℕ) (s : ℕ → ℝ)
    (hs : ∀ j < 8448, sc QF KF h t j = (s j : EReal)) (q : ℕ) (hq : q < 4) (ht : t = 1024 * q + c.val) : ∀ k, k < 11 →
    accI xq xk xv (11 * q + k + 1) h (ix3 0 d c) = Flash.wsum (fun j => (s j : EReal)) (fun j => VF j (80 * h.val + d.val)) (768 * (k + 1)) := by
  have mxe : ∀ n ≤ 8448, Flash.mx (sc QF KF h t) n = Flash.mx (fun j => (s j : EReal)) n := fun n hn =>
    Finset.sup_congr rfl fun j hj => hs j (by have := Finset.mem_range.1 hj; omega)
  intro k
  induction k with
  | zero =>
    intro _
    rw [show 11 * q + 0 + 1 = 11 * q + 1 from rfl, accI_succ_apply H (11 * q) (by omega), show 11 * q / 11 = q by omega, show 11 * q % 11 = 0 by omega, ← ht]
    simp only [Nat.mul_zero, Nat.zero_add, Nat.mul_one]
    rw [mxe 768 (by omega), Flash.mx_zero, Finset.sum_congr rfl fun j hj => by rw [hs j (by have := Finset.mem_range.1 hj; omega)]]
    exact Flash.wsum_first s _ _ 768 (by omega)
  | succ k ih =>
    intro hk
    have ih := ih (by omega)
    rw [accI_succ_apply H _ (by omega), show 11 * q + (k + 1) = 11 * q + k + 1 by omega, ih, show (11 * q + k + 1) / 11 = q by omega,
      show (11 * q + k + 1) % 11 = k + 1 by omega, ← ht, mxe _ (by omega), mxe _ (by omega), Finset.sum_congr rfl fun j hj => by
        rw [hs _ (show 768 * (k + 1) + j < 8448 by have := Finset.mem_range.1 hj; omega)],
      show 768 * (k + 1 + 1) = 768 * (k + 1) + 768 by omega]
    exact Flash.wsum_add s _ _ 768 (by omega)

theorem acc64_apply (a : Vec Ideal S1x80x1024 .f32) (d : Fin 64) (c : Fin 1024) : acc64 a (ix3 0 d c) = a (ix3 0 ⟨d.val, by omega⟩ c) := by
  exact window_apply _ _ _ _ _ _ fun a => by fin_cases a <;> simp

theorem acc1_apply (a : Vec Ideal S1x80x1024 .f32) (c : Fin 1024) : acc1 a (ix3 0 0 c) = a (ix3 0 64 c) := by
  exact window_apply _ _ _ _ _ _ fun a => by fin_cases a <;> simp

/-- The tile's output is each head's quotient. -/
theorem outI_apply (n : ℕ) (h : Fin 2) (d : Fin 64) (c : Fin 1024) (l : Fin 128) (hl : l.val = 64 * h.val + d.val) :
    outI xq xk xv n (ix3 0 c l) = Ideal.div (accI xq xk xv n h (ix3 0 ⟨d.val, by omega⟩ c)) (accI xq xk xv n h (ix3 0 64 c)) := by
  unfold outI
  rw [finSt_apply]
  by_cases hd : l.val < 64
  · obtain rfl : h = 0 := Fin.ext (by simp; omega)
    obtain rfl : d = ⟨l.val, hd⟩ := Fin.ext (by simp [hl])
    rw [dif_pos hd, quoV_apply, acc64_apply, acc1_apply]
  · obtain rfl : h = 1 := Fin.ext (by simp; omega)
    have hd' : l.val - 64 = d.val := by simp [hl]
    rw [dif_neg hd, quoV_apply, acc64_apply, acc1_apply]
    simp only [hd']

/-- The output block at a query and a feature: the quotient of two weighted sums over all keys. -/
theorem outB_apply (H : Reads xq xk xv QF KF VF) (t : Fin 4096) (h : Fin 2) (d : Fin 64) (l : Fin 128) (hl : l.val = 64 * h.val + d.val) (s : ℕ → ℝ)
    (hs : ∀ j < 8448, sc QF KF h t.val j = (s j : EReal)) :
    outB xq xk xv (ix3 0 t l)
      = Ideal.div (Flash.wsum (fun j => (s j : EReal)) (fun j => VF j (80 * h.val + d.val)) 8448)
          (Flash.wsum (fun j => (s j : EReal)) (fun j => VF j (80 * h.val + 64)) 8448) := by
  have hq : t.val / 1024 < 4 := by omega
  have A := fun d' => accI_apply H h d' ⟨t.val % 1024, by omega⟩ t.val s hs (t.val / 1024) hq (by simp only []; omega) 10 (by omega)
  have e : 11 * (t.val / 1024) + 10 + 1 = 11 * (t.val / 1024 + 1) := by omega
  rw [e] at A
  have e0 : outB xq xk xv (ix3 0 t l) = outI xq xk xv (11 * (t.val / 1024 + 1)) (ix3 0 ⟨t.val % 1024, by omega⟩ l) := by
    unfold outB
    refine congrArg _ (funext fun a => ?_)
    match a with
    | ⟨0, _⟩ => rfl
    | ⟨1, _⟩ => rfl
    | ⟨2, _⟩ => rfl
  rw [e0, outI_apply _ h d _ l hl, A, A]
  rfl

end Cert.Proof.Attn

end
-- ==== Proof.Blocks.lean ====
module

public import proofs.«01_k».proof.Proof.HostAt
public import proofs.«01_k».proof.Proof.Point2
public import proofs.«01_k».proof.Proof.Run
public import Idealize.ShloMosaic.Lib.Pipeline.ValueKit.Geometry

/-! The three blocks a grid point reads, as functions of the arguments. -/

@[expose] public section

noncomputable section

namespace Cert.Proof.Attn

open Cert.KernelIdeal Cert.KernelIdeal.Gen
open Idealize.ShloMosaic Idealize.ShloMosaic.TcCoe

/-- The index `n` below eight. -/
def f8 (n : ℕ) : Fin 8 := ⟨n % 8, Nat.mod_lt _ (by decide)⟩

/-- The batch member of point `n`. -/
abbrev pb (n : ℕ) : Fin 8 := f8 (n / 8)

/-- Head `h` of the pair of point `n`. -/
abbrev ph (n h : ℕ) : Fin 8 := f8 (2 * (n / 2 % 4) + h)

/-- The queries of point `n`. -/
def qf (a0 : FVec Ideal S8x8192x8x96 .f32) (n t e : ℕ) : EReal := tok a0 (pb n) (ph n (e / 128)) (4096 * (n % 2) + t) (e % 128) * kap

/-- Its keys. -/
def kf (a3 : FVec Ideal S8x256x8x96 .f32) (a1 : FVec Ideal S8x8192x8x96 .f32) (n j e : ℕ) : EReal :=
  cat 256 (tok a3 (pb n) (ph n (e / 128))) (tok a1 (pb n) (ph n (e / 128))) j (e % 128)

/-- Its values, each head's followed by the row of ones and the rows of zeros. -/
def vf (a4 : FVec Ideal S8x256x8x64 .f32) (a2 : FVec Ideal S8x8192x8x64 .f32) (n j r : ℕ) : EReal :=
  if r % 80 < 64 then cat 256 (tok a4 (pb n) (ph n (r / 80))) (tok a2 (pb n) (ph n (r / 80))) j (r % 80) else if r % 80 = 64 then 1 else 0

theorem index0 : ∀ t : Fin cfg0.N, win0_0.index t = ![t.val / 8, t.val % 2, t.val / 2 % 4, 0] := by decide +kernel
theorem index1 : ∀ t : Fin cfg0.N, win0_1.index t = ![t.val / 8, 0, t.val / 2 % 4] := by decide +kernel
theorem index2 : ∀ t : Fin cfg0.N, win0_2.index t = ![t.val / 8, 0, t.val / 2 % 4, 0] := by decide +kernel
theorem index3 : ∀ t : Fin cfg0.N, win0_3.index t = ![t.val / 8, t.val % 2, t.val / 2 % 4] := by decide +kernel

variable (m : (ℓ : Loc nD τ sig) → Buf (Elt Ideal) ℓ) (c : Dev nD)

/-- Reading a query block of any memory. -/
theorem read_q (W : (b : Ref sig .tc) → b.ty.Contents (Elt Ideal)) (t : Fin cfg0.N) (x : S1x16x256x256.Idx) :
    ((cfg0.win 0).blk t).view.read (Elt Ideal) (W (Pipeline.arrRef spec0 0)) x = W main_v7 ((win0_0.blk t).view.emb x) := rfl

/-- Reading a key block of any memory. -/
theorem read_k (W : (b : Ref sig .tc) → b.ty.Contents (Elt Ideal)) (t : Fin cfg0.N) (x : S1x8448x256.Idx) :
    ((cfg0.win 1).blk t).view.read (Elt Ideal) (W (Pipeline.arrRef spec0 1)) x = W main_v11 ((win0_1.blk t).view.emb x) := rfl

/-- Reading a value block of any memory. -/
theorem read_v (W : (b : Ref sig .tc) → b.ty.Contents (Elt Ideal)) (t : Fin cfg0.N) (x : S1x33x160x256.Idx) :
    ((cfg0.win 2).blk t).view.read (Elt Ideal) (W (Pipeline.arrRef spec0 2)) x = W main_v18 ((win0_2.blk t).view.emb x) := rfl

theorem emb_q (t : Fin cfg0.N) (x : S1x16x256x256.Idx) :
    ((win0_0.blk t).view.emb x 0 : ℕ) = t.val / 8 + (x 0).val ∧ ((win0_0.blk t).view.emb x 1 : ℕ) = t.val % 2 * 16 + (x 1).val
      ∧ ((win0_0.blk t).view.emb x 2 : ℕ) = t.val / 2 % 4 * 256 + (x 2).val ∧ ((win0_0.blk t).view.emb x 3 : ℕ) = (x 3).val := by
  blk_simp [index0]
  exact ⟨trivial, trivial, trivial, trivial⟩

theorem emb_k (t : Fin cfg0.N) (x : S1x8448x256.Idx) :
    ((win0_1.blk t).view.emb x 0 : ℕ) = t.val / 8 + (x 0).val ∧ ((win0_1.blk t).view.emb x 1 : ℕ) = (x 1).val
      ∧ ((win0_1.blk t).view.emb x 2 : ℕ) = t.val / 2 % 4 * 256 + (x 2).val := by
  blk_simp [index1]
  exact ⟨trivial, trivial, trivial⟩

theorem emb_v (t : Fin cfg0.N) (x : S1x33x160x256.Idx) :
    ((win0_2.blk t).view.emb x 0 : ℕ) = t.val / 8 + (x 0).val ∧ ((win0_2.blk t).view.emb x 1 : ℕ) = (x 1).val
      ∧ ((win0_2.blk t).view.emb x 2 : ℕ) = t.val / 2 % 4 * 160 + (x 2).val ∧ ((win0_2.blk t).view.emb x 3 : ℕ) = (x 3).val := by
  blk_simp [index2]
  exact ⟨trivial, trivial, trivial, trivial⟩

theorem f8_val (n : ℕ) (h : n < 8) : (f8 n).val = n := Nat.mod_eq_of_lt h

theorem blk_q (t : Fin cfg0.N) (i : Fin 16) (e : Fin 256) (l : Fin 256) :
    (iblk m c 0 t : Vec Ideal S1x16x256x256 .bf16) (ix4 0 i e l) = qf (m ((c : Thread nD τ).loc main_arg0)) t.val (256 * i.val + l.val) e.val := by
  have ht : t.val < 64 := t.isLt
  obtain ⟨h0, h1, h2, h3⟩ := emb_q t (ix4 0 i e l)
  change _ = t.val / 8 + 0 at h0
  change _ = _ + i.val at h1
  change _ = _ + e.val at h2
  change _ = l.val at h3
  unfold iblk qf
  refine (read_q (V m c) t (ix4 0 i e l)).trans ?_
  rw [V_v7]
  refine hostQ_at _ _ (pb t.val) (ph t.val (e.val / 128)) _ _ ?_ ?_ ?_ ?_
  · rw [h0, f8_val _ (by omega)]; omega
  · rw [h1, h3]; omega
  · rw [h2, f8_val _ (by omega)]; omega
  · rw [h2]; omega

theorem blk_k (t : Fin cfg0.N) (j : Fin 8448) (e : Fin 256) :
    (iblk m c 1 t : Vec Ideal S1x8448x256 .bf16) (ix3 0 j e)
      = kf (m ((c : Thread nD τ).loc main_arg3)) (m ((c : Thread nD τ).loc main_arg1)) t.val j.val e.val := by
  have ht : t.val < 64 := t.isLt
  obtain ⟨h0, h1, h2⟩ := emb_k t (ix3 0 j e)
  change _ = t.val / 8 + 0 at h0
  change _ = j.val at h1
  change _ = _ + e.val at h2
  unfold iblk kf
  refine (read_k (V m c) t (ix3 0 j e)).trans ?_
  rw [V_v11]
  refine hostK_at _ _ _ (pb t.val) (ph t.val (e.val / 128)) _ _ ?_ h1 ?_ ?_
  · rw [h0, f8_val _ (by omega)]; omega
  · rw [h2, f8_val _ (by omega)]; omega
  · rw [h2]; omega

theorem blk_v (t : Fin cfg0.N) (i : Fin 33) (r : Fin 160) (l : Fin 256) :
    (iblk m c 2 t : Vec Ideal S1x33x160x256 .bf16) (ix4 0 i r l)
      = vf (m ((c : Thread nD τ).loc main_arg4)) (m ((c : Thread nD τ).loc main_arg2)) t.val (256 * i.val + l.val) r.val := by
  have ht : t.val < 64 := t.isLt
  obtain ⟨h0, h1, h2, h3⟩ := emb_v t (ix4 0 i r l)
  change _ = t.val / 8 + 0 at h0
  change _ = i.val at h1
  change _ = _ + r.val at h2
  change _ = l.val at h3
  unfold iblk vf
  refine (read_v (V m c) t (ix4 0 i r l)).trans ?_
  rw [V_v18]
  refine hostV_at _ _ _ (pb t.val) (ph t.val (r.val / 80)) _ _ ?_ ?_ ?_ ?_
  · rw [h0, f8_val _ (by omega)]; omega
  · rw [h1, h3]
  · rw [h2, f8_val _ (by omega)]; omega
  · rw [h2]; omega

/-- The blocks of a point are the point's queries, keys and values. -/
theorem reads (t : Fin cfg0.N) : Reads (iblk m c 0 t) (iblk m c 1 t) (iblk m c 2 t)
    (qf (m ((c : Thread nD τ).loc main_arg0)) t.val)
    (kf (m ((c : Thread nD τ).loc main_arg3)) (m ((c : Thread nD τ).loc main_arg1)) t.val)
    (vf (m ((c : Thread nD τ).loc main_arg4)) (m ((c : Thread nD τ).loc main_arg2)) t.val) :=
  ⟨blk_q m c t, blk_k m c t, blk_v m c t⟩

end Cert.Proof.Attn

end
-- ==== Proof.Ref.lean ====
module

public import proofs.«01_k».proof.Proof.Gen.ReferenceIdeal.Run
public import proofs.«01_k».proof.Proof.Flash
public import proofs.«01_k».proof.Proof.HostVal

/-! The reference read at an index, over the extended reals. -/

@[expose] public section

noncomputable section

namespace Cert.Proof.Ref

open Cert.ReferenceIdeal Cert.ReferenceIdeal.Gen
open Idealize.ShloMosaic
open Cert.Proof.Attn (tok cat tok_pos cat_lt cat_ge trunc_at)

/-- The keys, latent first. -/
def keys {F : FTy → Type} [FloatOps F] (a1 : FVec F S8x8192x8x96 .f32) (a3 : FVec F S8x256x8x96 .f32) : FVec F S8x8448x8x96 .f32 :=
  concatenate S8x8448x8x96 1 [⟨S8x8192x8x96, a1⟩, ⟨S8x256x8x96, a3⟩] concatenates_S8x8192x8x96_S8x256x8x96_S8x8448x8x96_d1

/-- The values, latent first. -/
def vals {F : FTy → Type} [FloatOps F] (a2 : FVec F S8x8192x8x64 .f32) (a4 : FVec F S8x256x8x64 .f32) : FVec F S8x8448x8x64 .f32 :=
  concatenate S8x8448x8x64 1 [⟨S8x8192x8x64, a2⟩, ⟨S8x256x8x64, a4⟩] concatenates_S8x8192x8x64_S8x256x8x64_S8x8448x8x64_d1

/-- The scaled scores. -/
def scores {F : FTy → Type} [FloatOps F] (q : FVec F S8x8192x8x96 .f32) (k : FVec F S8x8448x8x96 .f32) : FVec F S8x8x8192x8448 .f32 :=
  mulf (Host.dotGeneral dot_S8x8192x8x96_S8x8448x8x96_S8x8x8192x8448_3_3_1_1_02_02 none q k)
    (broadcastInDim S8x8x8192x8448 ![] bcast_S_S8x8x8192x8448 (constant S_ .f32 0x3DD105EC#32))

/-- A query's largest score. -/
def top {F : FTy → Type} [FloatOps F] (s : FVec F S8x8x8192x8448 .f32) : FVec F S8x8x8192 .f32 :=
  maximumf (broadcastInDim S8x8x8192 ![] bcast_S_S8x8x8192 (constant S_ .f32 0xFF800000#32))
    (Host.reduce FloatOps.maximumf s (constant S_ .f32 0xFF800000#32) reducesTo_S8x8x8192x8448_S8x8x8192_d3 h_S_)

/-- One number per query, repeated over the keys. -/
def rep {F : FTy → Type} [FloatOps F] (x : FVec F S8x8x8192 .f32) : FVec F S8x8x8192x8448 .f32 :=
  broadcastInDim S8x8x8192x8448 ![0, 1, 2, 3] bcast_S8x8x8192x1_S8x8x8192x8448_0_1_2_3
    (broadcastInDim S8x8x8192x1 ![0, 1, 2] bcast_S8x8x8192_S8x8x8192x1_0_1_2 x)

/-- The exponentials, relative to the largest score. -/
def expo {F : FTy → Type} [FloatOps F] (s : FVec F S8x8x8192x8448 .f32) : FVec F S8x8x8192x8448 .f32 := Host.exp (subf s (rep (top s)))

/-- Their sum. -/
def total {F : FTy → Type} [FloatOps F] (e : FVec F S8x8x8192x8448 .f32) : FVec F S8x8x8192 .f32 :=
  Host.reduceAdd e (constant S_ .f32 0x00000000#32) reducesTo_S8x8x8192x8448_S8x8x8192_d3 h_S_

/-- The weights. -/
def weights {F : FTy → Type} [FloatOps F] (e : FVec F S8x8x8192x8448 .f32) : FVec F S8x8x8192x8448 .f32 := Host.divf e (rep (total e))

/-- The weighted values, by token. -/
def mixed {F : FTy → Type} [FloatOps F] (v : FVec F S8x8448x8x64 .f32) (w : FVec F S8x8x8192x8448 .f32) : FVec F S8x8192x8x64 .f32 :=
  transpose S8x8192x8x64 [0, 3, 1, 2]
    (Host.dotGeneral dot_S8x8448x8x64_S8x8x8192x8448_S8x8x64x8192_1_3_3_2_02_01 none v w) transposes_S8x8x64x8192_S8x8192x8x64_0_3_1_2

/-- The reference's result. -/
def out {F : FTy → Type} [FloatOps F] (a0 a1 : FVec F S8x8192x8x96 .f32) (a2 : FVec F S8x8192x8x64 .f32) (a3 : FVec F S8x256x8x96 .f32) (a4 : FVec F S8x256x8x64 .f32) :
    FVec F S8x8192x512 .bf16 :=
  truncf .bf16 (shapeCast S8x8192x512 (mixed (vals a2 a4) (weights (expo (scores a0 (keys a1 a3))))) shapeCasts_S8x8192x8x64_S8x8192x512) bitsLt_bf16_f32

theorem keys_apply (a1 : FVec Ideal S8x8192x8x96 .f32) (a3 : FVec Ideal S8x256x8x96 .f32) (b : Fin 8) (j : Fin 8448) (h : Fin 8) (d : Fin 96) :
    keys a1 a3 (ix4 b j h d) = cat 8192 (tok a1 b h) (tok a3 b h) j.val d.val := by
  have hj := j.isLt
  pointwise [keys]
  by_cases h2 : j.val < 8192
  · rw [dif_pos h2, cat_lt _ _ _ _ _ h2, tok_pos a1 b h _ _ h2 d.isLt]
  · have h3 : j.val - 8192 < 256 := by omega
    rw [dif_neg h2, cat_ge _ _ _ _ _ h2, tok_pos a3 b h _ _ h3 d.isLt]

theorem vals_apply (a2 : FVec Ideal S8x8192x8x64 .f32) (a4 : FVec Ideal S8x256x8x64 .f32) (b : Fin 8) (j : Fin 8448) (h : Fin 8) (d : Fin 64) :
    vals a2 a4 (ix4 b j h d) = cat 8192 (tok a2 b h) (tok a4 b h) j.val d.val := by
  have hj := j.isLt
  pointwise [vals]
  by_cases h2 : j.val < 8192
  · rw [dif_pos h2, cat_lt _ _ _ _ _ h2, tok_pos a2 b h _ _ h2 d.isLt]
  · have h3 : j.val - 8192 < 256 := by omega
    rw [dif_neg h2, cat_ge _ _ _ _ _ h2, tok_pos a4 b h _ _ h3 d.isLt]

theorem scores_apply (q : FVec Ideal S8x8192x8x96 .f32) (k : FVec Ideal S8x8448x8x96 .f32) (b h : Fin 8) (T : Fin 8192) (j : Fin 8448) :
    scores q k (ix4 b h T j) = (∑ d : Fin 96, q (ix4 b T h d) * k (ix4 b j h d)) * Ideal.ofBits .f32 0x3DD105EC#32 := by
  pointwise [scores]

/-- A commutative fold over the keys. -/
theorem fold_at {α : Type} (op : α → α → α) [Std.Commutative op] [Std.Associative op] (s : S8x8x8192x8448.Idx → α) (init : S_.Idx → α) (b h : Fin 8) (T : Fin 8192) :
    Host.reduce op s init reducesTo_S8x8x8192x8448_S8x8x8192_d3 h_S_ (ix3 b h T)
      = (Finset.univ : Finset (Fin 8448)).fold op (init (Shape.Idx.first h_S_)) (fun j => s (ix4 b h T j)) :=
  (Host.reduce_eq_fold op s init reducesTo_S8x8x8192x8448_S8x8x8192_d3 h_S_ (ix3 b h T)).trans
    (Shape.ReducesTo.fold_fiber_r4_a3 reducesTo_S8x8x8192x8448_S8x8x8192_d3 (ix3 b h T) op (init (Shape.Idx.first h_S_)) s)

theorem neg_inf : Ideal.ofBits .f32 0xFF800000#32 = ⊥ := by
  simp [Ideal.ofBits, Ideal.ieee]

theorem max_at {s : Shape} (x y : FVec Ideal s .f32) (j : s.Idx) : maximumf x y j = max (x j : EReal) (y j) := rfl

theorem const_at {s : Shape} (w : BitVec 32) (j : s.Idx) : (constant s .f32 w : FVec Ideal s .f32) j = Ideal.ofBits .f32 w := rfl

theorem bot_max (x : EReal) : max (⊥ : EReal) x = x := max_bot_left x

theorem top_apply (s : FVec Ideal S8x8x8192x8448 .f32) (b h : Fin 8) (T : Fin 8192) :
    top s (ix3 b h T) = (Finset.univ : Finset (Fin 8448)).fold max ⊥ (fun j => s (ix4 b h T j)) := by
  unfold top
  rw [max_at, Ideal.maximumf_eq_max, fold_at, const_at, neg_inf]
  rw [show broadcastInDim S8x8x8192 ![] bcast_S_S8x8x8192 (constant S_ .f32 0xFF800000#32 : FVec Ideal S_ .f32) (ix3 b h T) = (⊥ : EReal) from neg_inf]
  exact bot_max _

theorem expo_apply (s : FVec Ideal S8x8x8192x8448 .f32) (b h : Fin 8) (T : Fin 8192) (j : Fin 8448) :
    expo s (ix4 b h T j) = Ideal.exp (s (ix4 b h T j) - top s (ix3 b h T)) := by
  pointwise [expo, rep]

theorem weights_apply (e : FVec Ideal S8x8x8192x8448 .f32) (b h : Fin 8) (T : Fin 8192) (j : Fin 8448) :
    weights e (ix4 b h T j) = Ideal.div (e (ix4 b h T j)) (∑ i : Fin 8448, e (ix4 b h T i)) := by
  pointwise [weights, total, rep]

theorem mixed_apply (v : FVec Ideal S8x8448x8x64 .f32) (w : FVec Ideal S8x8x8192x8448 .f32) (b : Fin 8) (T : Fin 8192) (h : Fin 8) (d : Fin 64) :
    mixed v w (ix4 b T h d) = ∑ j : Fin 8448, v (ix4 b j h d) * w (ix4 b h T j) := by
  pointwise [mixed]

theorem merge {α : Type} (x : S8x8192x8x64.Idx → α) (hc) (b : Fin 8) (T : Fin 8192) (l : Fin 512) :
    shapeCast S8x8192x512 x hc (ix3 b T l) = x (ix4 b T ⟨l.val / 64, by omega⟩ ⟨l.val % 64, by omega⟩) := by
  refine shapeCast_apply _ _ _ _ ?_
  rw [Shape.rowMajor_val_three, Shape.rowMajor_val_four]
  simp
  omega

/-- The reference's result, from scores that are real numbers. -/
theorem out_apply (a0 a1 : FVec Ideal S8x8192x8x96 .f32) (a2 : FVec Ideal S8x8192x8x64 .f32) (a3 : FVec Ideal S8x256x8x96 .f32) (a4 : FVec Ideal S8x256x8x64 .f32)
    (b : Fin 8) (T : Fin 8192) (l : Fin 512) (h : Fin 8) (d : Fin 64) (hl : l.val = 64 * h.val + d.val) (x : ℕ → ℝ)
    (hx : ∀ j : Fin 8448, (∑ e : Fin 96, a0 (ix4 b T h e) * cat 8192 (tok a1 b h) (tok a3 b h) j.val e.val) * Ideal.ofBits .f32 0x3DD105EC#32 = (x j.val : EReal)) :
    out a0 a1 a2 a3 a4 (ix3 b T l) = Flash.soft (fun j => (x j : EReal)) (fun j => cat 8192 (tok a2 b h) (tok a4 b h) j d.val) 8448 := by
  have e1 : (⟨l.val / 64, by omega⟩ : Fin 8) = h := Fin.ext (by show l.val / 64 = h.val; omega)
  have e2 : (⟨l.val % 64, by omega⟩ : Fin 64) = d := Fin.ext (by show l.val % 64 = d.val; omega)
  have sx : ∀ j : Fin 8448, scores a0 (keys a1 a3) (ix4 b h T j) = (x j.val : EReal) := fun j => by
    rw [scores_apply, ← hx j]
    exact congrArg (· * Ideal.ofBits .f32 0x3DD105EC#32) (Finset.sum_congr rfl fun e _ => by rw [keys_apply])
  have st : top (scores a0 (keys a1 a3)) (ix3 b h T) = Flash.mx (fun j => (x j : EReal)) 8448 := by
    rw [top_apply, ← Flash.mx_fold]
    exact congrArg (fun f => Finset.fold max ⊥ f Finset.univ) (funext sx)
  have se : ∀ j : Fin 8448, expo (scores a0 (keys a1 a3)) (ix4 b h T j) = Ideal.exp ((x j.val : EReal) - Flash.mx (fun j => (x j : EReal)) 8448) := fun j => by
    rw [expo_apply, sx, st]
  unfold out Flash.soft
  rw [trunc_at, merge, e1, e2, mixed_apply, Finset.sum_range, Finset.sum_range]
  refine Finset.sum_congr rfl fun j _ => ?_
  have sw : (∑ i : Fin 8448, expo (scores a0 (keys a1 a3)) (ix4 b h T i))
      = ∑ i : Fin 8448, Ideal.exp ((x i.val : EReal) - Flash.mx (fun j => (x j : EReal)) 8448) := Finset.sum_congr rfl fun i _ => se i
  have v1 := vals_apply a2 a4 b j h d
  have w1 := weights_apply (expo (scores a0 (keys a1 a3))) b h T j
  rw [sw, se j] at w1
  exact congrArg₂ (· * ·) v1 w1

end Cert.Proof.Ref

end
-- ==== Proof.Value.lean ====
module

public import proofs.«01_k».proof.Proof.Blocks
public import proofs.«01_k».proof.Proof.Ref

/-! The kernel's result is the reference's, over the extended reals, where the queries and the keys are finite. -/

@[expose] public section

noncomputable section

namespace Cert.Proof.Attn

open Cert.KernelIdeal Cert.KernelIdeal.Gen
open Idealize.ShloMosaic Idealize.ShloMosaic.TcCoe

/-- The place of context-first key `j` with the latent keys first. -/
def place (j : ℕ) : ℕ := if j < 256 then 8192 + j else j - 256

theorem cat_place (f g : ℕ → ℕ → EReal) (j d : ℕ) (hj : j < 8448) : cat 256 f g j d = cat 8192 g f (place j) d := by
  unfold place
  by_cases h : j < 256
  · rw [if_pos h, cat_lt _ _ _ _ _ h, cat_ge _ _ _ _ _ (by omega), Nat.add_sub_cancel_left]
  · rw [if_neg h, cat_ge _ _ _ _ _ h, cat_lt _ _ _ _ _ (by omega)]

theorem cat_real (n : ℕ) (f g : ℕ → ℕ → EReal) (hf : ∀ j d, f j d = ((f j d).toReal : EReal)) (hg : ∀ j d, g j d = ((g j d).toReal : EReal)) (j d : ℕ) :
    cat n f g j d = ((cat n f g j d).toReal : EReal) := by
  by_cases h : j < n
  · rw [cat_lt _ _ _ _ _ h]; exact hf _ _
  · rw [cat_ge _ _ _ _ _ h]; exact hg _ _

variable (a0 a1 : FVec Ideal S8x8192x8x96 .f32) (a2 : FVec Ideal S8x8192x8x64 .f32) (a3 : FVec Ideal S8x256x8x96 .f32) (a4 : FVec Ideal S8x256x8x64 .f32)

/-- A real score. -/
def rs (b hd : Fin 8) (T j : ℕ) : ℝ :=
  (∑ e ∈ Finset.range 96, (tok a0 b hd T e).toReal * (cat 8192 (tok a1 b hd) (tok a3 b hd) j e).toReal) * qsc

theorem sc_eq (f0 : ∀ k, a0 k ≠ ⊤ ∧ a0 k ≠ ⊥) (f1 : ∀ k, a1 k ≠ ⊤ ∧ a1 k ≠ ⊥) (f3 : ∀ k, a3 k ≠ ⊤ ∧ a3 k ≠ ⊥)
    (n : ℕ) (h : Fin 2) (t j : ℕ) (hj : j < 8448) :
    sc (qf a0 n) (kf a3 a1 n) h t j = ((rs a0 a1 a3 (pb n) (ph n h.val) (4096 * (n % 2) + t) (place j) / Real.log 2 : ℝ) : EReal) := by
  unfold sc rs
  refine Eq.trans ?_ (score_eq (fun e => (cat 8192 (tok a1 (pb n) (ph n h.val)) (tok a3 (pb n) (ph n h.val)) (place j) e).toReal)
    (fun e => (tok a0 (pb n) (ph n h.val) (4096 * (n % 2) + t) e).toReal)
    (fun e => cat 8192 (tok a1 (pb n) (ph n h.val)) (tok a3 (pb n) (ph n h.val)) (place j) e)
    (fun e => tok a0 (pb n) (ph n h.val) (4096 * (n % 2) + t) e)
    (fun e => cat_real _ _ _ (fun _ _ => tok_real a1 f1 _ _ _ _) (fun _ _ => tok_real a3 f3 _ _ _ _) _ _)
    (fun e => tok_real a0 f0 _ _ _ _) (fun e he => by rw [tok_neg _ _ _ _ _ he]; rfl))
  refine Finset.sum_congr rfl fun e _ => ?_
  unfold qf kf
  rw [show (128 * h.val + e.val) / 128 = h.val by omega, show (128 * h.val + e.val) % 128 = e.val by omega, cat_place _ _ _ _ hj]

/-- One entry of a point's block is the reference's entry. -/
theorem point (f0 : ∀ k, a0 k ≠ ⊤ ∧ a0 k ≠ ⊥) (f1 : ∀ k, a1 k ≠ ⊤ ∧ a1 k ≠ ⊥) (f3 : ∀ k, a3 k ≠ ⊤ ∧ a3 k ≠ ⊥)
    (n : ℕ) (hn : n < 64) (xq : Vec Ideal S1x16x256x256 .bf16) (xk : Vec Ideal S1x8448x256 .bf16) (xv : Vec Ideal S1x33x160x256 .bf16)
    (H : Reads xq xk xv (qf a0 n) (kf a3 a1 n) (vf a4 a2 n)) (t : Fin 4096) (l : Fin 128) (T : Fin 8192) (L : Fin 512)
    (hT : T.val = 4096 * (n % 2) + t.val) (hL : L.val = 128 * (n / 2 % 4) + l.val) :
    outB xq xk xv (ix3 0 t l) = Ref.out a0 a1 a2 a3 a4 (ix3 (pb n) T L) := by
  have hh : l.val / 64 < 2 := by omega
  have hd : l.val % 64 < 64 := by omega
  have eh : (ph n (l.val / 64)).val = 2 * (n / 2 % 4) + l.val / 64 := f8_val _ (by omega)
  refine (outB_apply H t ⟨l.val / 64, hh⟩ ⟨l.val % 64, hd⟩ l (by show l.val = 64 * (l.val / 64) + l.val % 64; omega)
    (fun j => rs a0 a1 a3 (pb n) (ph n (l.val / 64)) (4096 * (n % 2) + t.val) (place j) / Real.log 2)
    (fun j hj => sc_eq a0 a1 a3 f0 f1 f3 n ⟨l.val / 64, hh⟩ t.val j hj)).trans ?_
  refine Eq.trans ?_ (Ref.out_apply a0 a1 a2 a3 a4 (pb n) T L (ph n (l.val / 64)) ⟨l.val % 64, hd⟩ (by rw [hL, eh]; show _ = 64 * _ + l.val % 64; omega)
    (rs a0 a1 a3 (pb n) (ph n (l.val / 64)) (4096 * (n % 2) + t.val)) (fun j => ?_)).symm
  · refine Flash.quo_eq_soft 256 8192 (by norm_num) _ _ _ _ _ ?_ ?_ ?_ ?_ ?_
    · intro j hj
      show rs _ _ _ _ _ _ (place j) / _ = _
      unfold place
      rw [if_pos hj]
    · intro j hj
      show rs _ _ _ _ _ _ (place (256 + j)) / _ = _
      unfold place
      rw [if_neg (by omega), Nat.add_sub_cancel_left]
    · intro j hj
      show vf a4 a2 n j (80 * (l.val / 64) + l.val % 64) = cat 8192 _ _ (8192 + j) (l.val % 64)
      unfold vf
      rw [show (80 * (l.val / 64) + l.val % 64) % 80 = l.val % 64 by omega, if_pos hd, show (80 * (l.val / 64) + l.val % 64) / 80 = l.val / 64 by omega,
        cat_place _ _ _ _ (by omega)]
      unfold place
      rw [if_pos hj]
    · intro j hj
      show vf a4 a2 n (256 + j) (80 * (l.val / 64) + l.val % 64) = cat 8192 _ _ j (l.val % 64)
      unfold vf
      rw [show (80 * (l.val / 64) + l.val % 64) % 80 = l.val % 64 by omega, if_pos hd, show (80 * (l.val / 64) + l.val % 64) / 80 = l.val / 64 by omega,
        cat_place _ _ _ _ (by omega)]
      unfold place
      rw [if_neg (by omega), Nat.add_sub_cancel_left]
    · intro j _
      show vf a4 a2 n j (80 * (l.val / 64) + 64) = 1
      unfold vf
      rw [show (80 * (l.val / 64) + 64) % 80 = 64 by omega, if_neg (by omega), if_pos rfl]
  · unfold rs
    rw [← hT]
    refine Eq.trans ?_ (score_ref _ _ _ (fun e => tok a0 (pb n) (ph n (l.val / 64)) T.val e)
      (fun e => cat_real 8192 _ _ (fun _ _ => tok_real a1 f1 (pb n) (ph n (l.val / 64)) _ _) (fun _ _ => tok_real a3 f3 (pb n) (ph n (l.val / 64)) _ _) j.val e)
      (fun e => tok_real a0 f0 _ _ _ _))
    exact congrArg (· * Ideal.ofBits .f32 0x3DD105EC#32) (Finset.sum_congr rfl fun e _ => by rw [tok_pos a0 _ _ _ _ T.isLt e.isLt])

theorem emb_o (t : Fin cfg0.N) (y : S1x4096x128.Idx) :
    ((win0_3.blk t).view.emb y 0 : ℕ) = t.val / 8 + (y 0).val ∧ ((win0_3.blk t).view.emb y 1 : ℕ) = t.val % 2 * 4096 + (y 1).val
      ∧ ((win0_3.blk t).view.emb y 2 : ℕ) = t.val / 2 % 4 * 128 + (y 2).val := by
  blk_simp [index3]
  exact ⟨trivial, trivial, trivial⟩

/-- One entry of a point's block, at its place in the result. -/
theorem place_point (f0 : ∀ k, a0 k ≠ ⊤ ∧ a0 k ≠ ⊥) (f1 : ∀ k, a1 k ≠ ⊤ ∧ a1 k ≠ ⊥) (f3 : ∀ k, a3 k ≠ ⊤ ∧ a3 k ≠ ⊥)
    (t : Fin cfg0.N) (xq : Vec Ideal S1x16x256x256 .bf16) (xk : Vec Ideal S1x8448x256 .bf16) (xv : Vec Ideal S1x33x160x256 .bf16)
    (H : Reads xq xk xv (qf a0 t.val) (kf a3 a1 t.val) (vf a4 a2 t.val)) (y : S1x4096x128.Idx) :
    outB xq xk xv y = Ref.out a0 a1 a2 a3 a4 ((win0_3.blk t).view.emb y) := by
  have ht : t.val < 64 := t.isLt
  obtain ⟨h0, h1, h2⟩ := emb_o t y
  have y0 : (y 0).val < 1 := (y 0).isLt
  have y1 : (y 1).val < 4096 := (y 1).isLt
  have y2 : (y 2).val < 128 := (y 2).isLt
  have ey : y = ix3 0 ⟨(y 1).val, y1⟩ ⟨(y 2).val, y2⟩ := funext fun a => by
    fin_cases a
    · exact Fin.ext (by show (y 0).val = 0; omega)
    · rfl
    · rfl
  have eo : (win0_3.blk t).view.emb y = (ix3 (pb t.val) ⟨t.val % 2 * 4096 + (y 1).val, by omega⟩ ⟨t.val / 2 % 4 * 128 + (y 2).val, by omega⟩ : S8x8192x512.Idx) := funext fun a => by
    fin_cases a
    · exact Fin.ext (h0.trans (by show _ = (f8 (t.val / 8)).val; rw [f8_val _ (by omega)]; omega))
    · exact Fin.ext h1
    · exact Fin.ext h2
  rw [eo]
  refine (congrArg (outB xq xk xv) ey).trans ?_
  exact point a0 a1 a2 a3 a4 f0 f1 f3 t.val ht xq xk xv H _ _ _ _ (by show t.val % 2 * 4096 + (y 1).val = 4096 * (t.val % 2) + (y 1).val; omega) (by show t.val / 2 % 4 * 128 + (y 2).val = 128 * (t.val / 2 % 4) + (y 2).val; omega)

variable (m : (ℓ : Loc nD τ sig) → Buf (Elt Ideal) ℓ) (c : Dev nD)

/-- The result array after the run. -/
theorem value (f0 : ∀ k, m ((c : Thread nD τ).loc main_arg0) k ≠ (⊤ : EReal) ∧ m ((c : Thread nD τ).loc main_arg0) k ≠ (⊥ : EReal))
    (f1 : ∀ k, m ((c : Thread nD τ).loc main_arg1) k ≠ (⊤ : EReal) ∧ m ((c : Thread nD τ).loc main_arg1) k ≠ (⊥ : EReal))
    (f3 : ∀ k, m ((c : Thread nD τ).loc main_arg3) k ≠ (⊤ : EReal) ∧ m ((c : Thread nD τ).loc main_arg3) k ≠ (⊥ : EReal)) :
    (dats m 0 c).arrAt 3 cfg0.N = Ref.out (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 3 _ (by decide +kernel) fun t hf y => ?_
  have ht : t.val < 64 := t.isLt
  blk_simp
  rw [after3]
  exact place_point _ _ _ _ _ f0 f1 f3 t _ _ _ (reads m c t) y

end Cert.Proof.Attn

end
-- ==== Proof.Pre.lean ====
module

public import proofs.«01_k».proof.Defs
public import Idealize.ShloMosaic.Lib.Pointwise

/-! What the precondition says of the queries and the keys. -/

@[expose] public section

noncomputable section

namespace Cert.Proof.Finite

open Cert.Pre_finite
open Idealize.ShloMosaic

instance facts : Cert.Pre_finite.Facts where
  concatenates_S8x8192x8x96_S8x8192x8x96_S8x256x8x96_S8x16640x8x96_d1 := by decide
  bcast_S_S8x16640x8x96 := by decide

/-- All three arrays, one after the other. -/
def all (a0 a1 : FVec Ideal S8x8192x8x96 .f32) (a3 : FVec Ideal S8x256x8x96 .f32) : FVec Ideal S8x16640x8x96 .f32 :=
  concatenate S8x16640x8x96 1 [⟨S8x8192x8x96, a0⟩, ⟨S8x8192x8x96, a1⟩, ⟨S8x256x8x96, a3⟩] Facts.concatenates_S8x8192x8x96_S8x8192x8x96_S8x256x8x96_S8x16640x8x96_d1

theorem all_apply (a0 a1 : FVec Ideal S8x8192x8x96 .f32) (a3 : FVec Ideal S8x256x8x96 .f32) (b : Fin 8) (j : Fin 16640) (h : Fin 8) (d : Fin 96) :
    all a0 a1 a3 (ix4 b j h d) = if h1 : j.val < 8192 then a0 (ix4 b ⟨j.val, h1⟩ h d)
      else if h2 : j.val - 8192 < 8192 then a1 (ix4 b ⟨j.val - 8192, h2⟩ h d) else a3 (ix4 b ⟨j.val - 8192 - 8192, by omega⟩ h d) := by
  pointwise [all]

theorem test_apply (x : FVec Ideal S8x16640x8x96 .f32) (k : S8x16640x8x96.Idx)
    (hk : andi (cmpf .ogt x (broadcastInDim S8x16640x8x96 ![] Facts.bcast_S_S8x16640x8x96 (constant S_ .f32 0xFF800000#32)))
      (cmpf .olt x (broadcastInDim S8x16640x8x96 ![] Facts.bcast_S_S8x16640x8x96 (constant S_ .f32 0x7F800000#32))) k = 1#1) :
    x k ≠ ⊤ ∧ x k ≠ ⊥ := by
  pointwise at hk
  have n : Ideal.ofBits .f32 0xFF800000#32 = (⊥ : EReal) := by simp [Ideal.ofBits, Ideal.ieee]
  have p : Ideal.ofBits .f32 0x7F800000#32 = (⊤ : EReal) := by simp [Ideal.ofBits, Ideal.ieee]
  rw [n, p] at hk
  generalize x k = z at hk
  change IntOp.andi (BitVec.ofBool (decide ((⊥ : EReal) < z))) (BitVec.ofBool (decide ((z : EReal) < ⊤))) = 1#1 at hk
  constructor
  · intro e
    have e' : z = (⊤ : EReal) := e
    rw [e'] at hk
    simp [IntOp.andi] at hk
  · intro e
    have e' : z = (⊥ : EReal) := e
    rw [e'] at hk
    simp [IntOp.andi] at hk

theorem entries (a0 a1 : FVec Ideal S8x8192x8x96 .f32) (a2 : FVec Ideal S8x8192x8x64 .f32) (a3 : FVec Ideal S8x256x8x96 .f32) (a4 : FVec Ideal S8x256x8x64 .f32)
    (H : fn a0 a1 a2 a3 a4 = fun _ => 1#1) (k : S8x16640x8x96.Idx) : all a0 a1 a3 k ≠ ⊤ ∧ all a0 a1 a3 k ≠ ⊥ :=
  test_apply _ k (congrFun H k)

theorem fin0 (a0 a1 : FVec Ideal S8x8192x8x96 .f32) (a2 : FVec Ideal S8x8192x8x64 .f32) (a3 : FVec Ideal S8x256x8x96 .f32) (a4 : FVec Ideal S8x256x8x64 .f32)
    (H : fn a0 a1 a2 a3 a4 = fun _ => 1#1) (k : S8x8192x8x96.Idx) : a0 k ≠ (⊤ : EReal) ∧ a0 k ≠ (⊥ : EReal) := by
  have hj : (k 1).val < 8192 := (k 1).isLt
  have ek : k = ix4 (k 0) (k 1) (k 2) (k 3) := funext fun a => by fin_cases a <;> rfl
  have e := all_apply a0 a1 a3 (k 0) ⟨(k 1).val, by omega⟩ (k 2) (k 3)
  rw [dif_pos hj] at e
  have := entries a0 a1 a2 a3 a4 H (ix4 (k 0) ⟨(k 1).val, by omega⟩ (k 2) (k 3))
  rw [e] at this
  rw [ek]
  exact this

theorem fin1 (a0 a1 : FVec Ideal S8x8192x8x96 .f32) (a2 : FVec Ideal S8x8192x8x64 .f32) (a3 : FVec Ideal S8x256x8x96 .f32) (a4 : FVec Ideal S8x256x8x64 .f32)
    (H : fn a0 a1 a2 a3 a4 = fun _ => 1#1) (k : S8x8192x8x96.Idx) : a1 k ≠ (⊤ : EReal) ∧ a1 k ≠ (⊥ : EReal) := by
  have hj : (k 1).val < 8192 := (k 1).isLt
  have ek : k = ix4 (k 0) ⟨8192 + (k 1).val - 8192, by omega⟩ (k 2) (k 3) := funext fun a => by
    fin_cases a
    · rfl
    · exact Fin.ext (by show (k 1).val = 8192 + (k 1).val - 8192; omega)
    · rfl
    · rfl
  have e := all_apply a0 a1 a3 (k 0) ⟨8192 + (k 1).val, by omega⟩ (k 2) (k 3)
  rw [dif_neg (by show ¬ 8192 + (k 1).val < 8192; omega), dif_pos (by show 8192 + (k 1).val - 8192 < 8192; omega)] at e
  have := entries a0 a1 a2 a3 a4 H (ix4 (k 0) ⟨8192 + (k 1).val, by omega⟩ (k 2) (k 3))
  rw [e] at this
  rw [ek]
  exact this

theorem fin3 (a0 a1 : FVec Ideal S8x8192x8x96 .f32) (a2 : FVec Ideal S8x8192x8x64 .f32) (a3 : FVec Ideal S8x256x8x96 .f32) (a4 : FVec Ideal S8x256x8x64 .f32)
    (H : fn a0 a1 a2 a3 a4 = fun _ => 1#1) (k : S8x256x8x96.Idx) : a3 k ≠ (⊤ : EReal) ∧ a3 k ≠ (⊥ : EReal) := by
  have hj : (k 1).val < 256 := (k 1).isLt
  have ek : k = ix4 (k 0) ⟨16384 + (k 1).val - 8192 - 8192, by omega⟩ (k 2) (k 3) := funext fun a => by
    fin_cases a
    · rfl
    · exact Fin.ext (by show (k 1).val = 16384 + (k 1).val - 8192 - 8192; omega)
    · rfl
    · rfl
  have e := all_apply a0 a1 a3 (k 0) ⟨16384 + (k 1).val, by omega⟩ (k 2) (k 3)
  rw [dif_neg (by show ¬ 16384 + (k 1).val < 8192; omega), dif_neg (by show ¬ 16384 + (k 1).val - 8192 < 8192; omega)] at e
  have := entries a0 a1 a2 a3 a4 H (ix4 (k 0) ⟨16384 + (k 1).val, by omega⟩ (k 2) (k 3))
  rw [e] at this
  rw [ek]
  exact this

end Cert.Proof.Finite

end
-- ==== Proof.lean ====
/-
  The certificate of two calls, the attention and the experts: for each the frames of the kernel, of its ideal reading and
  of the reference, that the ideal reading is the kernel's own text, and that over the extended reals the kernel's result
  is the reference's, in the attention wherever the queries and the keys are finite, in the experts everywhere.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.FfnValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Pre
public import Idealize.ShloMosaic.Adequacy
public import Idealize.ShloMosaic.Init
public import Idealize.ShloMosaic.Lib.Claim

@[expose] public section

noncomputable section

namespace Cert.Proof

open Idealize.ShloMosaic Idealize.SL.Sem

/-- The kernel's body table is its ideal reading's: the two programs have the same text. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | ⟨0, _⟩, (t, s) => exact rfl

/-- So is its body table with the pipeline's own labels. -/
theorem defs_eq : @Cert.Kernel.defs Bits _ Cert.Kernel.Gen.facts = @Cert.KernelIdeal.defs Bits _ Cert.KernelIdeal.Gen.facts :=
  congrArg (Pipeline.defs _) defs₀_eq

/-- So is the program itself. -/
theorem main_eq : @Cert.Kernel.main Bits _ Cert.Kernel.Gen.facts = @Cert.KernelIdeal.main Bits _ Cert.KernelIdeal.Gen.facts := rfl

/-- The kernel's frame, from the run stated over any values. -/
theorem frame_kernel : Cert.quiescent_Kernel (hKernel := Cert.Kernel.Gen.facts) := fun m ρ _ => by
  have h := Attn.frame_any (F := Bits) m ρ
  rw [defs_eq, main_eq]
  exact h

/-- The ideal kernel's frame. -/
theorem frame_ideal : Cert.quiescent_KernelIdeal (hKernelIdeal := Cert.KernelIdeal.Gen.facts) := fun m ρ _ => Attn.frame_any m ρ

/-- The reference's frame: host operations only, and no semaphore declared. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel's frame, where the queries and the keys are finite. -/
theorem frame_ideal_finite : Cert.quiescent_KernelIdeal_pre_finite (hKernelIdeal := Cert.KernelIdeal.Gen.facts) (hPre_finite := Finite.facts) :=
  fun m ρ _ => Attn.frame_any m ρ

/-- The reference's frame, where the queries and the keys are finite. -/
theorem frame_reference_finite : Cert.quiescent_ReferenceIdeal_pre_finite (hReferenceIdeal := Cert.ReferenceIdeal.Gen.facts) (hPre_finite := Finite.facts) :=
  fun m ρ _ => frame_reference m ρ trivial

/-- The ideal kernel's run: its result is the reference's function of the arguments. -/
theorem run_kernel (m : (ℓ : Loc Cert.KernelIdeal.nD Cert.KernelIdeal.τ Cert.KernelIdeal.sig) → Buf (Elt Ideal) ℓ) (g : Dev Cert.KernelIdeal.nD → PrngReg)
    (hp : Cert.Pre_KernelIdeal_finite (hPre_finite := Finite.facts) m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v19) = Ref.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c => ⟨((h.1.1 c).1 3).trans (Attn.value m c
      (Finite.fin0 _ _ _ _ _ (hp c)) (Finite.fin1 _ _ _ _ _ (hp c)) (Finite.fin3 _ _ _ _ _ (hp c))), h.2.1 c⟩)
    (θ_run_and (Attn.run_main m g) (Attn.frame_any m g))

/-- The value claim: from memories that agree on the arguments both programs end with the same result. -/
theorem algebraic : Cert.algebraic_KernelIdeal_ReferenceIdeal_pre_finite (hKernelIdeal := Cert.KernelIdeal.Gen.facts)
    (hReferenceIdeal := Cert.ReferenceIdeal.Gen.facts) (hPre_finite := Finite.facts) := fun m g m' g' hp hargs =>
  ⟨fun c => Ref.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    run_kernel m g hp,
    (θ_run Cert.ReferenceIdeal.defs _ _).mono (fun r h c => by
      obtain ⟨e0, e1, e2, e3, e4⟩ := hargs c
      refine ⟨?_, (h c).2⟩
      refine Eq.trans (b := Ref.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (h c).1 ?_
      rw [e0, e1, e2, e3, e4]) (Cert.ReferenceIdeal.Value.run (F := Ideal) m' g')⟩

/-- The experts' kernel runs without a fault. -/
theorem frame_kernel2 : Cert.quiescent_Kernel2 (hKernel2 := Cert.Kernel2.Gen.facts) := fun m ρ _ => Cert.Kernel2.Gen.frame m ρ

/-- So does its ideal reading. -/
theorem frame_ideal2 : Cert.quiescent_Kernel2Ideal (hKernel2Ideal := Cert.Kernel2Ideal.Gen.facts) := fun m ρ _ => Cert.Kernel2Ideal.Gen.frame m ρ

/-- So does the experts' reference: host operations only, and no semaphore declared. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The value claim of the experts: from memories that agree on the arguments both programs end with the same result. -/
theorem algebraic2 : Cert.algebraic_Kernel2Ideal_Reference2Ideal (hKernel2Ideal := Cert.Kernel2Ideal.Gen.facts)
    (hReference2Ideal := Cert.Reference2Ideal.Gen.facts) := fun m g m' g' _ hargs =>
  ⟨fun c => FfnRef.out (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run Cert.Kernel2Ideal.defs _ _).mono (fun r h c => ⟨(h c).1.trans (Ffn.value m c), (h c).2⟩) (Cert.Kernel2Ideal.Value.run (F := Ideal) m g),
    (θ_run Cert.Reference2Ideal.defs _ _).mono (fun r h c => by
      obtain ⟨e0, e1, e2, e3, e4⟩ := hargs c
      refine ⟨?_, (h c).2⟩
      refine Eq.trans (b := FfnRef.out (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))) (h c).1 ?_
      rw [e0, e1, e2, e3, e4]) (Cert.Reference2Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Finite.facts, frame_kernel, frame_ideal, frame_ideal_finite, frame_reference, frame_reference_finite,
    frame_kernel2, frame_ideal2, frame_reference2, trivial, algebraic, trivial, algebraic2⟩

end Cert.Proof

end
